-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_finite_forward [hPre_finite_forward : Cert.Pre_finite_forward.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_finite_forward.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4))).1 = (fun _ => 1#1)
    ∧ (Cert.Pre_finite_forward.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4))).2.1 = (fun _ => 1#1)
    ∧ (Cert.Pre_finite_forward.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4))).2.2.1 = (fun _ => 1#1)
    ∧ (Cert.Pre_finite_forward.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4))).2.2.2.1 = (fun _ => 1#1)
    ∧ (Cert.Pre_finite_forward.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4))).2.2.2.2 = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_finite_forward [hPre_finite_forward : Cert.Pre_finite_forward.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_finite_forward.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4))).1 = (fun _ => 1#1)
    ∧ (Cert.Pre_finite_forward.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4))).2.1 = (fun _ => 1#1)
    ∧ (Cert.Pre_finite_forward.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4))).2.2.1 = (fun _ => 1#1)
    ∧ (Cert.Pre_finite_forward.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4))).2.2.2.1 = (fun _ => 1#1)
    ∧ (Cert.Pre_finite_forward.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4))).2.2.2.2 = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Kernel33Ideal_pre_finite_forward [hKernel33Ideal : Cert.Kernel33Ideal.Facts] [hPre_finite_forward : Cert.Pre_finite_forward.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_finite_forward m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Reference33Ideal_pre_finite_forward [hReference33Ideal : Cert.Reference33Ideal.Facts] [hPre_finite_forward : Cert.Pre_finite_forward.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_finite_forward m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg3) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v34) = v0 c
          ∧ r.2.mem ((c.tc : Thread Cert.Reference31Ideal.nD Cert.Reference31Ideal.τ).loc Cert.Reference31Ideal.main_v17) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)) (v4 : (c : Dev Cert.Kernel32Ideal.nD) → Buf (Elt Ideal) ((c.tc : Thread Cert.Kernel32Ideal.nD Cert.Kernel32Ideal.τ).loc Cert.Kernel32Ideal.main_v0_4)) (v5 : (c : Dev Cert.Kernel32Ideal.nD) → Buf (Elt Ideal) ((c.tc : Thread Cert.Kernel32Ideal.nD Cert.Kernel32Ideal.τ).loc Cert.Kernel32Ideal.main_v0_5)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_v0_4) = v4 c
          ∧ r.2.mem ((c.tc : Thread Cert.Kernel32Ideal.nD Cert.Kernel32Ideal.τ).loc Cert.Kernel32Ideal.main_v0_5) = v5 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v42) = v0 c
          ∧ r.2.mem ((c.tc : Thread Cert.Reference32Ideal.nD Cert.Reference32Ideal.τ).loc Cert.Reference32Ideal.main_v67) = v1 c
          ∧ r.2.mem ((c.tc : Thread Cert.Reference32Ideal.nD Cert.Reference32Ideal.τ).loc Cert.Reference32Ideal.main_v68) = v2 c
          ∧ r.2.mem ((c.tc : Thread Cert.Reference32Ideal.nD Cert.Reference32Ideal.τ).loc Cert.Reference32Ideal.main_v69) = v3 c
          ∧ r.2.mem ((c.tc : Thread Cert.Reference32Ideal.nD Cert.Reference32Ideal.τ).loc Cert.Reference32Ideal.main_v50) = v4 c
          ∧ r.2.mem ((c.tc : Thread Cert.Reference32Ideal.nD Cert.Reference32Ideal.τ).loc Cert.Reference32Ideal.main_v47) = v5 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  IdealRules.named_const.Statement Cert.Kernel33Ideal.κ "mask" .f32 0xF149F2CA#32 ⊥

def algebraic_Kernel33Ideal_Reference33Ideal_pre_finite_forward [hKernel33Ideal : Cert.Kernel33Ideal.Facts] [hReference33Ideal : Cert.Reference33Ideal.Facts] [hPre_finite_forward : Cert.Pre_finite_forward.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_finite_forward m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v25) = v0 c
          ∧ r.2.mem ((c.tc : Thread Cert.Reference33Ideal.nD Cert.Reference33Ideal.τ).loc Cert.Reference33Ideal.main_v27) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_v6) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_finite_forward (hKernel33Ideal := hKernel33Ideal) (hPre_finite_forward := hPre_finite_forward)
    ∧ quiescent_Reference33Ideal (hReference33Ideal := hReference33Ideal)
    ∧ quiescent_Reference33Ideal_pre_finite_forward (hReference33Ideal := hReference33Ideal) (hPre_finite_forward := hPre_finite_forward)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_finite_forward (hKernel33Ideal := hKernel33Ideal) (hReference33Ideal := hReference33Ideal) (hPre_finite_forward := hPre_finite_forward)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S_ : Shape := ⟨0, ![]⟩

class Facts : Prop where
  bcast_S_S16x4096x64 : S_.BroadcastsInDim S16x4096x64 (![] : Fin 0 → Fin S16x4096x64.rank)
  bcast_S_S16x4096x1 : S_.BroadcastsInDim S16x4096x1 (![] : Fin 0 → Fin S16x4096x1.rank)
  bcast_S_S16x1x4096 : S_.BroadcastsInDim S16x1x4096 (![] : Fin 0 → Fin S16x1x4096.rank)

variable [Facts]

def fn {F : FTy → Type} [FloatOps F] (main_arg0 : FVec F S16x4096x64 .bf16) (main_arg1 : FVec F S16x4096x64 .bf16) (main_arg2 : FVec F S16x4096x64 .bf16) (main_arg3 : FVec F S16x4096x1 .f32) (main_arg4 : FVec F S16x1x4096 .f32) (main_arg5 : FVec F S16x4096x64 .f32) : IVec S16x4096x64 1 × IVec S16x4096x64 1 × IVec S16x4096x64 1 × IVec S16x4096x1 1 × IVec S16x1x4096 1 × IVec S16x4096x64 1 :=
  let main_v0 : FVec F S16x4096x64 .bf16 := Host.absf main_arg0
  let main_cst : FVec F S_ .bf16 := constant S_ .bf16 0x7F80#16
  let main_v1 : FVec F S16x4096x64 .bf16 := broadcastInDim S16x4096x64 ![] bcast_S_S16x4096x64 main_cst
  let main_v2 : IVec S16x4096x64 1 := cmpf .olt main_v0 main_v1
  let main_v3 : FVec F S16x4096x64 .bf16 := Host.absf main_arg1
  let main_cst_0 : FVec F S_ .bf16 := constant S_ .bf16 0x7F80#16
  let main_v4 : FVec F S16x4096x64 .bf16 := broadcastInDim S16x4096x64 ![] bcast_S_S16x4096x64 main_cst_0
  let main_v5 : IVec S16x4096x64 1 := cmpf .olt main_v3 main_v4
  let main_v6 : FVec F S16x4096x64 .bf16 := Host.absf main_arg2
  let main_cst_1 : FVec F S_ .bf16 := constant S_ .bf16 0x7F80#16
  let main_v7 : FVec F S16x4096x64 .bf16 := broadcastInDim S16x4096x64 ![] bcast_S_S16x4096x64 main_cst_1
  let main_v8 : IVec S16x4096x64 1 := cmpf .olt main_v6 main_v7
  let main_v9 : FVec F S16x4096x1 .f32 := Host.absf main_arg3
  let main_cst_2 : FVec F S_ .f32 := constant S_ .f32 0x7F800000#32
  let main_v10 : FVec F S16x4096x1 .f32 := broadcastInDim S16x4096x1 ![] bcast_S_S16x4096x1 main_cst_2
  let main_v11 : IVec S16x4096x1 1 := cmpf .olt main_v9 main_v10
  let main_v12 : FVec F S16x1x4096 .f32 := Host.absf main_arg4
  let main_cst_3 : FVec F S_ .f32 := constant S_ .f32 0x7F800000#32
  let main_v13 : FVec F S16x1x4096 .f32 := broadcastInDim S16x1x4096 ![] bcast_S_S16x1x4096 main_cst_3
  let main_v14 : IVec S16x1x4096 1 := cmpf .olt main_v12 main_v13
  let main_v15 : FVec F S16x4096x64 .f32 := Host.absf main_arg5
  let main_cst_4 : FVec F S_ .f32 := constant S_ .f32 0x7F800000#32
  let main_v16 : FVec F S16x4096x64 .f32 := broadcastInDim S16x4096x64 ![] bcast_S_S16x4096x64 main_cst_4
  let main_v17 : IVec S16x4096x64 1 := cmpf .olt main_v15 main_v16
  (main_v2, main_v5, main_v8, main_v11, main_v14, main_v17)
-- ==== Pre_finite_forward.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S_ : Shape := ⟨0, ![]⟩

class Facts : Prop where
  bcast_S_S16x4096x64 : S_.BroadcastsInDim S16x4096x64 (![] : Fin 0 → Fin S16x4096x64.rank)
  bcast_S_S16x4096x1 : S_.BroadcastsInDim S16x4096x1 (![] : Fin 0 → Fin S16x4096x1.rank)
  bcast_S_S16x1x4096 : S_.BroadcastsInDim S16x1x4096 (![] : Fin 0 → Fin S16x1x4096.rank)

variable [Facts]

def fn {F : FTy → Type} [FloatOps F] (main_arg0 : FVec F S16x4096x64 .bf16) (main_arg1 : FVec F S16x4096x64 .bf16) (main_arg2 : FVec F S16x4096x64 .bf16) (main_arg3 : FVec F S16x4096x1 .f32) (main_arg4 : FVec F S16x1x4096 .f32) : IVec S16x4096x64 1 × IVec S16x4096x64 1 × IVec S16x4096x64 1 × IVec S16x4096x1 1 × IVec S16x1x4096 1 :=
  let main_v0 : FVec F S16x4096x64 .bf16 := Host.absf main_arg0
  let main_cst : FVec F S_ .bf16 := constant S_ .bf16 0x7F80#16
  let main_v1 : FVec F S16x4096x64 .bf16 := broadcastInDim S16x4096x64 ![] bcast_S_S16x4096x64 main_cst
  let main_v2 : IVec S16x4096x64 1 := cmpf .olt main_v0 main_v1
  let main_v3 : FVec F S16x4096x64 .bf16 := Host.absf main_arg1
  let main_cst_0 : FVec F S_ .bf16 := constant S_ .bf16 0x7F80#16
  let main_v4 : FVec F S16x4096x64 .bf16 := broadcastInDim S16x4096x64 ![] bcast_S_S16x4096x64 main_cst_0
  let main_v5 : IVec S16x4096x64 1 := cmpf .olt main_v3 main_v4
  let main_v6 : FVec F S16x4096x64 .bf16 := Host.absf main_arg2
  let main_cst_1 : FVec F S_ .bf16 := constant S_ .bf16 0x7F80#16
  let main_v7 : FVec F S16x4096x64 .bf16 := broadcastInDim S16x4096x64 ![] bcast_S_S16x4096x64 main_cst_1
  let main_v8 : IVec S16x4096x64 1 := cmpf .olt main_v6 main_v7
  let main_v9 : FVec F S16x4096x1 .f32 := Host.absf main_arg3
  let main_cst_2 : FVec F S_ .f32 := constant S_ .f32 0x7F800000#32
  let main_v10 : FVec F S16x4096x1 .f32 := broadcastInDim S16x4096x1 ![] bcast_S_S16x4096x1 main_cst_2
  let main_v11 : IVec S16x4096x1 1 := cmpf .olt main_v9 main_v10
  let main_v12 : FVec F S16x1x4096 .f32 := Host.absf main_arg4
  let main_cst_3 : FVec F S_ .f32 := constant S_ .f32 0x7F800000#32
  let main_v13 : FVec F S16x1x4096 .f32 := broadcastInDim S16x1x4096 ![] bcast_S_S16x1x4096 main_cst_3
  let main_v14 : IVec S16x1x4096 1 := cmpf .olt main_v12 main_v13
  (main_v2, main_v5, main_v8, main_v11, main_v14)
-- ==== Kernel.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S1x1024x64 : Shape := ⟨3, ![1, 1024, 64]⟩
abbrev S1x4096x64 : Shape := ⟨3, ![1, 4096, 64]⟩
abbrev S1x1024x1 : Shape := ⟨3, ![1, 1024, 1]⟩
abbrev S1x1x4096 : Shape := ⟨3, ![1, 1, 4096]⟩
abbrev S1024x64 : Shape := ⟨2, ![1024, 64]⟩
abbrev S1024x1 : Shape := ⟨2, ![1024, 1]⟩
abbrev S4096x64 : Shape := ⟨2, ![4096, 64]⟩
abbrev S1024 : Shape := ⟨1, ![1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 45
  | .vmem => 31
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x1, .f32⟩
  | .hbm, ⟨4, _⟩ => ⟨S16x1x4096, .f32⟩
  | .hbm, ⟨5, _⟩ => ⟨S16x4096x64, .f32⟩
  | .hbm, ⟨6, _⟩ => ⟨S16x4096x64, .f32⟩
  | .hbm, ⟨7, _⟩ => ⟨S16x4096x64, .f32⟩
  | .hbm, ⟨8, _⟩ => ⟨S16x4096x64, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x64, .f32⟩
  | .hbm, ⟨38, _⟩ => ⟨S16x4096x1, .f32⟩
  | .hbm, ⟨39, _⟩ => ⟨S16x4096x1, .f32⟩
  | .hbm, ⟨40, _⟩ => ⟨S16x4096x64, .f32⟩
  | .hbm, ⟨41, _⟩ => ⟨S16x4096x1, .f32⟩
  | .hbm, ⟨42, _⟩ => ⟨S16x4096x64, .f32⟩
  | .hbm, ⟨43, _⟩ => ⟨S16x4096x64, .f32⟩
  | .hbm, ⟨44, _⟩ => ⟨S16x1x4096, .f32⟩
  | .local _ .vmem, ⟨0, _⟩ => ⟨S1x1024x64, .bf16⟩
  | .local _ .vmem, ⟨1, _⟩ => ⟨S1x1024x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x1024x1, .f32⟩
  | .local _ .vmem, ⟨7, _⟩ => ⟨S1x1024x1, .f32⟩
  | .local _ .vmem, ⟨8, _⟩ => ⟨S1x1x4096, .f32⟩
  | .local _ .vmem, ⟨9, _⟩ => ⟨S1x1x4096, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x1, .f32⟩
  | .local _ .vmem, ⟨19, _⟩ => ⟨S1x1024x1, .f32⟩
  | .local _ .vmem, ⟨20, _⟩ => ⟨S1x4096x64, .f32⟩
  | .local _ .vmem, ⟨21, _⟩ => ⟨S1x4096x64, .f32⟩
  | .local _ .vmem, ⟨22, _⟩ => ⟨S1x4096x64, .f32⟩
  | .local _ .vmem, ⟨23, _⟩ => ⟨S1x4096x64, .f32⟩
  | .local _ .vmem, ⟨24, _⟩ => ⟨S1x1x4096, .f32⟩
  | .local _ .vmem, ⟨25, _⟩ => ⟨S1x1x4096, .f32⟩
  | .local _ .vmem, ⟨26, _⟩ => ⟨S1024x64, .f32⟩
  | .local _ .vmem, ⟨27, _⟩ => ⟨S1024x1, .f32⟩
  | .local _ .vmem, ⟨28, _⟩ => ⟨S4096x64, .f32⟩
  | .local _ .vmem, ⟨29, _⟩ => ⟨S4096x64, .f32⟩
  | .local _ .vmem, ⟨30, _⟩ => ⟨S1x4096, .f32⟩
  | _, _ => ⟨S16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_23 : BitVec 32 := 1#32
  ⟨c0_i32_22, v29, c1_i32_23⟩
def k0_mult1 (i : grid0.Coords) (k0_t1 : Fin (k0_t1_loop i).trips) : BitVec 32 :=
  let c0_i32_22 : BitVec 32 := 0#32
  let c1_i32_23 : BitVec 32 := 1#32
  let arg20 : BitVec 32 := Scf.iv c0_i32_22 c1_i32_23 k0_t1
  let c1024_i32_64 : BitVec 32 := 1024#32
  let v109 : BitVec 32 := Scalar.muli arg20 c1024_i32_64
  v109
def k0_off1 (i : grid0.Coords) (k0_t1 : Fin (k0_t1_loop i).trips) : Fin 3 → Nat :=
  let c0_65 : Index := 0#32
  let c0_i32_22 : BitVec 32 := 0#32
  let c1_i32_23 : BitVec 32 := 1#32
  let arg20 : BitVec 32 := Scf.iv c0_i32_22 c1_i32_23 k0_t1
  let c1024_i32_64 : BitVec 32 := 1024#32
  let v109 : BitVec 32 := Scalar.muli arg20 c1024_i32_64
  let v110 : BitVec 32 := v109
  let v111 : Index := Scalar.indexCast v110
  let c0_66 : Index := 0#32
  ![0, v111.toNat, 0]
def k0_off2 (i : grid0.Coords) (k0_t1 : Fin (k0_t1_loop i).trips) : Fin 3 → Nat :=
  let c0_67 : Index := 0#32
  let c0_68 : Index := 0#32
  let c0_i32_22 : BitVec 32 := 0#32
  let c1_i32_23 : BitVec 32 := 1#32
  let arg20 : BitVec 32 := Scf.iv c0_i32_22 c1_i32_23 k0_t1
  let c1024_i32_64 : BitVec 32 := 1024#32
  let v109 : BitVec 32 := Scalar.muli arg20 c1024_i32_64
  let v110 : BitVec 32 := v109
  let v114 : Index := Scalar.indexCast v110
  ![0, 0, v114.toNat]
def k0_off3 (i : grid0.Coords) (k0_t1 : Fin (k0_t1_loop i).trips) : Fin 2 → Nat :=
  let c0_i32_22 : BitVec 32 := 0#32
  let c1_i32_23 : BitVec 32 := 1#32
  let arg20 : BitVec 32 := Scf.iv c0_i32_22 c1_i32_23 k0_t1
  let c1024_i32_64 : BitVec 32 := 1024#32
  let v109 : BitVec 32 := Scalar.muli arg20 c1024_i32_64
  let v110 : BitVec 32 := v109
  let v146 : Index := Scalar.indexCast v110
  let c0_83 : Index := 0#32
  ![v146.toNat, 0]
def k0_off4 (i : grid0.Coords) (k0_t1 : Fin (k0_t1_loop i).trips) : Fin 2 → Nat :=
  let c0_89 : Index := 0#32
  let c0_i32_22 : BitVec 32 := 0#32
  let c1_i32_23 : BitVec 32 := 1#32
  let arg20 : BitVec 32 := Scf.iv c0_i32_22 c1_i32_23 k0_t1
  let c1024_i32_64 : BitVec 32 := 1024#32
  let v109 : BitVec 32 := Scalar.muli arg20 c1024_i32_64
  let v110 : BitVec 32 := v109
  let v163 : Index := Scalar.indexCast v110
  ![0, v163.toNat]
@[reducible] def k0_t2_loop (i : grid0.Coords) : Scf.Loop 32 :=
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let v26 : BitVec 32 := Scalar.addi c0_i32_22 v25
  let c1_i32_24 : BitVec 32 := 1#32
  ⟨v29, v26, c1_i32_24⟩
def k0_mult2 (i : grid0.Coords) (k0_t2 : Fin (k0_t2_loop i).trips) : BitVec 32 :=
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_24 : BitVec 32 := 1#32
  let arg20 : BitVec 32 := Scf.iv v29 c1_i32_24 k0_t2
  let c1024_i32_64 : BitVec 32 := 1024#32
  let v109 : BitVec 32 := Scalar.muli arg20 c1024_i32_64
  v109
def k0_off5 (i : grid0.Coords) (k0_t2 : Fin (k0_t2_loop i).trips) : Fin 3 → Nat :=
  let c0_65 : Index := 0#32
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_24 : BitVec 32 := 1#32
  let arg20 : BitVec 32 := Scf.iv v29 c1_i32_24 k0_t2
  let c1024_i32_64 : BitVec 32 := 1024#32
  let v109 : BitVec 32 := Scalar.muli arg20 c1024_i32_64
  let v110 : BitVec 32 := v109
  let v111 : Index := Scalar.indexCast v110
  let c0_66 : Index := 0#32
  ![0, v111.toNat, 0]
def k0_off6 (i : grid0.Coords) (k0_t2 : Fin (k0_t2_loop i).trips) : Fin 3 → Nat :=
  let c0_67 : Index := 0#32
  let c0_68 : Index := 0#32
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_24 : BitVec 32 := 1#32
  let arg20 : BitVec 32 := Scf.iv v29 c1_i32_24 k0_t2
  let c1024_i32_64 : BitVec 32 := 1024#32
  let v109 : BitVec 32 := Scalar.muli arg20 c1024_i32_64
  let v110 : BitVec 32 := v109
  let v114 : Index := Scalar.indexCast v110
  ![0, 0, v114.toNat]
def k0_off7 (i : grid0.Coords) (k0_t2 : Fin (k0_t2_loop i).trips) : Fin 2 → Nat :=
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_24 : BitVec 32 := 1#32
  let arg20 : BitVec 32 := Scf.iv v29 c1_i32_24 k0_t2
  let c1024_i32_64 : BitVec 32 := 1024#32
  let v109 : BitVec 32 := Scalar.muli arg20 c1024_i32_64
  let v110 : BitVec 32 := v109
  let v146 : Index := Scalar.indexCast v110
  let c0_83 : Index := 0#32
  ![v146.toNat, 0]
def k0_off8 (i : grid0.Coords) (k0_t2 : Fin (k0_t2_loop i).trips) : Fin 2 → Nat :=
  let c0_89 : Index := 0#32
  let c0_i32_22 : BitVec 32 := 0#32
  let arg1 : BitVec 32 := BitVec.ofNat 32 (i 1).val
  let v25 : BitVec 32 := Scalar.subi arg1 c0_i32_22
  let c1_i32 : BitVec 32 := 1#32
  let v27 : BitVec 32 := Scalar.divsi v25 c1_i32
  let v28 : BitVec 32 := Scalar.muli v27 c1_i32
  let v29 : BitVec 32 := Scalar.addi c0_i32_22 v28
  let c1_i32_24 : BitVec 32 := 1#32
  let arg20 : BitVec 32 := Scf.iv v29 c1_i32_24 k0_t2
  let c1024_i32_64 : BitVec 32 := 1024#32
  let v109 : BitVec 32 := Scalar.muli arg20 c1024_i32_64
  let v110 : BitVec 32 := v109
  let v163 : Index := Scalar.indexCast v110
  ![0, v163.toNat]
def k0_mult3 (i : grid0.Coords) : BitVec 32 :=
  let arg1 : BitVec 32 := BitVec.ofNat 32 (i 1).val
  let c1024_i32 : BitVec 32 := 1024#32
  let v30 : BitVec 32 := Scalar.muli arg1 c1024_i32
  v30
def k0_off9 (i : grid0.Coords) : Fin 3 → Nat :=
  let c0_25 : Index := 0#32
  let arg1 : BitVec 32 := BitVec.ofNat 32 (i 1).val
  let c1024_i32 : BitVec 32 := 1024#32
  let v30 : BitVec 32 := Scalar.muli arg1 c1024_i32
  let v31 : BitVec 32 := v30
  let v32 : Index := Scalar.indexCast v31
  let c0_26 : Index := 0#32
  ![0, v32.toNat, 0]
def k0_off10 (i : grid0.Coords) : Fin 3 → Nat :=
  let c0_27 : Index := 0#32
  let c0_28 : Index := 0#32
  let arg1 : BitVec 32 := BitVec.ofNat 32 (i 1).val
  let c1024_i32 : BitVec 32 := 1024#32
  let v30 : BitVec 32 := Scalar.muli arg1 c1024_i32
  let v31 : BitVec 32 := v30
  let v35 : Index := Scalar.indexCast v31
  ![0, 0, v35.toNat]
def k0_off11 (i : grid0.Coords) : Fin 2 → Nat :=
  let arg1 : BitVec 32 := BitVec.ofNat 32 (i 1).val
  let c1024_i32 : BitVec 32 := 1024#32
  let v30 : BitVec 32 := Scalar.muli arg1 c1024_i32
  let v31 : BitVec 32 := v30
  let v72 : Index := Scalar.indexCast v31
  let c0_44 : Index := 0#32
  ![v72.toNat, 0]
def k0_off12 (i : grid0.Coords) : Fin 2 → Nat :=
  let c0_50 : Index := 0#32
  let arg1 : BitVec 32 := BitVec.ofNat 32 (i 1).val
  let c1024_i32 : BitVec 32 := 1024#32
  let v30 : BitVec 32 := Scalar.muli arg1 c1024_i32
  let v31 : BitVec 32 := v30
  let v89 : Index := Scalar.indexCast v31
  ![0, v89.toNat]
def k0_cond2 (i : grid0.Coords) : BitVec 1 :=
  let arg1 : BitVec 32 := BitVec.ofNat 32 (i 1).val
  let c3_i32 : BitVec 32 := 3#32
  let v106 : BitVec 1 := Scalar.cmpi .eq arg1 c3_i32
  let v107 : BitVec 32 := Scalar.extui v106
  let c0_i32_63 : BitVec 32 := 0#32
  let v108 : BitVec 1 := Scalar.cmpi .ne v107 c0_i32_63
  v108

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S16x64x4096 : Shape := ⟨3, ![16, 64, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x1, .f32⟩
  | .hbm, ⟨4, _⟩ => ⟨S16x1x4096, .f32⟩
  | .hbm, ⟨5, _⟩ => ⟨S16x4096x64, .f32⟩
  | .hbm, ⟨6, _⟩ => ⟨S16x4096x64, .f32⟩
  | .hbm, ⟨7, _⟩ => ⟨S16x4096x64, .f32⟩
  | .hbm, ⟨8, _⟩ => ⟨S16x4096x64, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096x4096, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x4096, .f32⟩
  | .hbm, ⟨32, _⟩ => ⟨S16x4096x4096, .i1⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S_, .f32⟩
  | .hbm, ⟨37, _⟩ => ⟨S16x4096, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .i1⟩
  | .hbm, ⟨42, _⟩ => ⟨S_, .f32⟩
  | .hbm, ⟨43, _⟩ => ⟨S16x4096, .f32⟩
  | .hbm, ⟨44, _⟩ => ⟨S16x4096, .i1⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S16x4096, .f32⟩
  | .hbm, ⟨53, _⟩ => ⟨S16x4096x1, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x1, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x64, .f32⟩
  | .hbm, ⟨67, _⟩ => ⟨S16x64x4096, .f32⟩
  | .hbm, ⟨68, _⟩ => ⟨S16x4096x64, .f32⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S16x4096x1, .f32⟩
  | .hbm, ⟨76, _⟩ => ⟨S16x4096x1, .f32⟩
  | .hbm, ⟨77, _⟩ => ⟨S16x4096x4096, .f32⟩
  | .hbm, ⟨78, _⟩ => ⟨S16x4096x4096, .f32⟩
  | .hbm, ⟨79, _⟩ => ⟨S_, .f32⟩
  | .hbm, ⟨80, _⟩ => ⟨S16x4096, .f32⟩
  | .hbm, ⟨81, _⟩ => ⟨S16x4096x4096, .f32⟩
  | .hbm, ⟨82, _⟩ => ⟨S16x4096x4096, .f32⟩
  | .hbm, ⟨83, _⟩ => ⟨S16x4096x4096, .f32⟩
  | .hbm, ⟨84, _⟩ => ⟨S_, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x4096, .f32⟩
  | .hbm, ⟨91, _⟩ => ⟨S_, .f32⟩
  | .hbm, ⟨92, _⟩ => ⟨S16x4096, .f32⟩
  | .hbm, ⟨93, _⟩ => ⟨S16x1x4096, .f32⟩
  | .hbm, ⟨94, _⟩ => ⟨S16x4096x64, .f32⟩
  | .hbm, ⟨95, _⟩ => ⟨S16x4096x64, .f32⟩
  | .hbm, ⟨96, _⟩ => ⟨S16x1x4096, .f32⟩
  | _, _ => ⟨S16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel2.lean ====
abbrev S4096x2048 : Shape := ⟨2, ![4096, 2048]⟩
abbrev S4096x5632 : Shape := ⟨2, ![4096, 5632]⟩
abbrev S2048x5632 : Shape := ⟨2, ![2048, 5632]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | .local _ .vmem, ⟨6, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x5632 : Shape := ⟨2, ![4096, 5632]⟩
abbrev S2048x5632 : Shape := ⟨2, ![2048, 5632]⟩
abbrev S4096x2048 : Shape := ⟨2, ![4096, 2048]⟩
abbrev S512x5632 : Shape := ⟨2, ![512, 5632]⟩
abbrev S512x512 : Shape := ⟨2, ![512, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x512, .f32⟩
  | .local _ .vmem, ⟨5, _⟩ => ⟨S512x512, .f32⟩
  | .local _ .vmem, ⟨6, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x5632 : Shape := ⟨2, ![4096, 5632]⟩
abbrev S2048x5632 : Shape := ⟨2, ![2048, 5632]⟩
abbrev S4096x2048 : Shape := ⟨2, ![4096, 2048]⟩
abbrev S512x5632 : Shape := ⟨2, ![512, 5632]⟩
abbrev S512x512 : Shape := ⟨2, ![512, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S4096x3584 : Shape := ⟨2, ![4096, 3584]⟩
abbrev S2048x3584 : Shape := ⟨2, ![2048, 3584]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S2048x3584, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x3584 : Shape := ⟨2, ![4096, 3584]⟩
abbrev S_ : Shape := ⟨0, ![]⟩
abbrev S2048x3584 : Shape := ⟨2, ![2048, 3584]⟩
abbrev S3584x2048 : Shape := ⟨2, ![3584, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S_, .f32⟩
  | .hbm, ⟨3, _⟩ => ⟨S2048x3584, .f32⟩
  | .hbm, ⟨4, _⟩ => ⟨S4096x2048, .f32⟩
  | .hbm, ⟨5, _⟩ => ⟨S4096x3584, .f32⟩
  | .hbm, ⟨6, _⟩ => ⟨S4096x3584, .f32⟩
  | .hbm, ⟨7, _⟩ => ⟨S3584x2048, .f32⟩
  | .hbm, ⟨8, _⟩ => ⟨S2048x3584, .f32⟩
  | .hbm, ⟨9, _⟩ => ⟨S2048x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4096x3200 : Shape := ⟨2, ![4096, 3200]⟩
abbrev S2048x3200 : Shape := ⟨2, ![2048, 3200]⟩
abbrev S4096x1024 : Shape := ⟨2, ![4096, 1024]⟩
abbrev S4096x640 : Shape := ⟨2, ![4096, 640]⟩
abbrev S1024x640 : Shape := ⟨2, ![1024, 640]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3200, .bf16⟩
  | .hbm, ⟨2, _⟩ => ⟨S2048x3200, .bf16⟩
  | .local _ .vmem, ⟨0, _⟩ => ⟨S4096x1024, .bf16⟩
  | .local _ .vmem, ⟨1, _⟩ => ⟨S4096x1024, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .bf16⟩
  | .local _ .vmem, ⟨5, _⟩ => ⟨S1024x640, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x3200 : Shape := ⟨2, ![4096, 3200]⟩
abbrev S_ : Shape := ⟨0, ![]⟩
abbrev S2048x3200 : Shape := ⟨2, ![2048, 3200]⟩
abbrev S3200x2048 : Shape := ⟨2, ![3200, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3200, .bf16⟩
  | .hbm, ⟨2, _⟩ => ⟨S_, .f32⟩
  | .hbm, ⟨3, _⟩ => ⟨S2048x3200, .f32⟩
  | .hbm, ⟨4, _⟩ => ⟨S4096x2048, .f32⟩
  | .hbm, ⟨5, _⟩ => ⟨S4096x3200, .f32⟩
  | .hbm, ⟨6, _⟩ => ⟨S4096x3200, .f32⟩
  | .hbm, ⟨7, _⟩ => ⟨S3200x2048, .f32⟩
  | .hbm, ⟨8, _⟩ => ⟨S2048x3200, .f32⟩
  | .hbm, ⟨9, _⟩ => ⟨S2048x3200, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x3584 : Shape := ⟨2, ![4096, 3584]⟩
abbrev S2048x3584 : Shape := ⟨2, ![2048, 3584]⟩
abbrev S4096x2048 : Shape := ⟨2, ![4096, 2048]⟩
abbrev S1024x3584 : Shape := ⟨2, ![1024, 3584]⟩
abbrev S512x3584 : Shape := ⟨2, ![512, 3584]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S512x3584, .bf16⟩
  | .local _ .vmem, ⟨3, _⟩ => ⟨S512x3584, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x3584 : Shape := ⟨2, ![4096, 3584]⟩
abbrev S2048x3584 : Shape := ⟨2, ![2048, 3584]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S_, .f32⟩
  | .hbm, ⟨3, _⟩ => ⟨S4096x2048, .f32⟩
  | .hbm, ⟨4, _⟩ => ⟨S2048x3584, .f32⟩
  | .hbm, ⟨5, _⟩ => ⟨S4096x3584, .f32⟩
  | .hbm, ⟨6, _⟩ => ⟨S4096x3584, .f32⟩
  | .hbm, ⟨7, _⟩ => ⟨S4096x2048, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x3200 : Shape := ⟨2, ![4096, 3200]⟩
abbrev S2048x3200 : Shape := ⟨2, ![2048, 3200]⟩
abbrev S4096x2048 : Shape := ⟨2, ![4096, 2048]⟩
abbrev S1024x3200 : Shape := ⟨2, ![1024, 3200]⟩
abbrev S512x3200 : Shape := ⟨2, ![512, 3200]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x3200, .bf16⟩
  | .hbm, ⟨1, _⟩ => ⟨S2048x3200, .bf16⟩
  | .hbm, ⟨2, _⟩ => ⟨S4096x2048, .f32⟩
  | .hbm, ⟨3, _⟩ => ⟨S4096x2048, .f32⟩
  | .local _ .vmem, ⟨0, _⟩ => ⟨S1024x3200, .bf16⟩
  | .local _ .vmem, ⟨1, _⟩ => ⟨S1024x3200, .bf16⟩
  | .local _ .vmem, ⟨2, _⟩ => ⟨S512x3200, .bf16⟩
  | .local _ .vmem, ⟨3, _⟩ => ⟨S512x3200, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x3200 : Shape := ⟨2, ![4096, 3200]⟩
abbrev S2048x3200 : Shape := ⟨2, ![2048, 3200]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S2048x3200, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x3200, .f32⟩
  | .hbm, ⟨6, _⟩ => ⟨S4096x3200, .f32⟩
  | .hbm, ⟨7, _⟩ => ⟨S4096x3200, .f32⟩
  | .hbm, ⟨8, _⟩ => ⟨S4096x2048, .f32⟩
  | .hbm, ⟨9, _⟩ => ⟨S4096x2048, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x256 : Shape := ⟨2, ![4096, 256]⟩
abbrev S4096x2048 : Shape := ⟨2, ![4096, 2048]⟩
abbrev S256x2048 : Shape := ⟨2, ![256, 2048]⟩
abbrev S4096x512 : Shape := ⟨2, ![4096, 512]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .bf16⟩
  | .local _ .vmem, ⟨0, _⟩ => ⟨S4096x256, .f32⟩
  | .local _ .vmem, ⟨1, _⟩ => ⟨S4096x512, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | .local _ .vmem, ⟨5, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x2048, .f32⟩
  | .hbm, ⟨3, _⟩ => ⟨S2048x5632, .f32⟩
  | .hbm, ⟨4, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S2048x3584 : Shape := ⟨2, ![2048, 3584]⟩
abbrev S4096x3584 : Shape := ⟨2, ![4096, 3584]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S2048x3584 : Shape := ⟨2, ![2048, 3584]⟩
abbrev S4096x3584 : Shape := ⟨2, ![4096, 3584]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x2048, .f32⟩
  | .hbm, ⟨3, _⟩ => ⟨S2048x3584, .f32⟩
  | .hbm, ⟨4, _⟩ => ⟨S4096x3584, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4096x2048 : Shape := ⟨2, ![4096, 2048]⟩
abbrev S2048x3200 : Shape := ⟨2, ![2048, 3200]⟩
abbrev S4096x3200 : Shape := ⟨2, ![4096, 3200]⟩
abbrev S1024x2048 : Shape := ⟨2, ![1024, 2048]⟩
abbrev S2048x640 : Shape := ⟨2, ![2048, 640]⟩
abbrev S1024x640 : Shape := ⟨2, ![1024, 640]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3200, .bf16⟩
  | .hbm, ⟨2, _⟩ => ⟨S4096x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S2048x3200 : Shape := ⟨2, ![2048, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3200, .bf16⟩
  | .hbm, ⟨2, _⟩ => ⟨S4096x2048, .f32⟩
  | .hbm, ⟨3, _⟩ => ⟨S2048x3200, .f32⟩
  | .hbm, ⟨4, _⟩ => ⟨S4096x3200, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x512 : Shape := ⟨2, ![256, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S2048x1652 : Shape := ⟨2, ![2048, 1652]⟩
abbrev S128x1652 : Shape := ⟨2, ![128, 1652]⟩

abbrev nBuf : Space → Nat
  | .hbm => 9
  | .vmem => 18
  | .smem => 0
  | _ => 0

abbrev bufTy : (tb : Table) → Fin (tcTables nBuf tb) → BufTy
  | .hbm, ⟨0, _⟩ => ⟨S2048x1652, .f32⟩
  | .hbm, ⟨1, _⟩ => ⟨S2048x1652, .f32⟩
  | .hbm, ⟨2, _⟩ => ⟨S2048x1652, .f32⟩
  | .hbm, ⟨3, _⟩ => ⟨S2048x1652, .f32⟩
  | .hbm, ⟨4, _⟩ => ⟨S2048x1652, .f32⟩
  | .hbm, ⟨5, _⟩ => ⟨S2048x1652, .f32⟩
  | .hbm, ⟨6, _⟩ => ⟨S2048x1652, .f32⟩
  | .hbm, ⟨7, _⟩ => ⟨S2048x1652, .f32⟩
  | .hbm, ⟨8, _⟩ => ⟨S2048x1652, .f32⟩
  | .local _ .vmem, ⟨0, _⟩ => ⟨S128x1652, .f32⟩
  | .local _ .vmem, ⟨1, _⟩ => ⟨S128x1652, .f32⟩
  | .local _ .vmem, ⟨2, _⟩ => ⟨S128x1652, .f32⟩
  | .local _ .vmem, ⟨3, _⟩ => ⟨S128x1652, .f32⟩
  | .local _ .vmem, ⟨4, _⟩ => ⟨S128x1652, .f32⟩
  | .local _ .vmem, ⟨5, _⟩ => ⟨S128x1652, .f32⟩
  | .local _ .vmem, ⟨6, _⟩ => ⟨S128x1652, .f32⟩
  | .local _ .vmem, ⟨7, _⟩ => ⟨S128x1652, .f32⟩
  | .local _ .vmem, ⟨8, _⟩ => ⟨S128x1652, .f32⟩
  | .local _ .vmem, ⟨9, _⟩ => ⟨S128x1652, .f32⟩
  | .local _ .vmem, ⟨10, _⟩ => ⟨S128x1652, .f32⟩
  | .local _ .vmem, ⟨11, _⟩ => ⟨S128x1652, .f32⟩
  | .local _ .vmem, ⟨12, _⟩ => ⟨S128x1652, .f32⟩
  | .local _ .vmem, ⟨13, _⟩ => ⟨S128x1652, .f32⟩
  | .local _ .vmem, ⟨14, _⟩ => ⟨S128x1652, .f32⟩
  | .local _ .vmem, ⟨15, _⟩ => ⟨S128x1652, .f32⟩
  | .local _ .vmem, ⟨16, _⟩ => ⟨S128x1652, .f32⟩
  | .local _ .vmem, ⟨17, _⟩ => ⟨S128x1652, .f32⟩
  | _, _ => ⟨S2048x1652, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1652 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1652 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1652 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1652 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1652 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1652 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1652 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1652 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1652 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S2048x1652 : Shape := ⟨2, ![2048, 1652]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1652, .f32⟩
  | .hbm, ⟨1, _⟩ => ⟨S2048x1652, .f32⟩
  | .hbm, ⟨2, _⟩ => ⟨S2048x1652, .f32⟩
  | .hbm, ⟨3, _⟩ => ⟨S2048x1652, .f32⟩
  | .hbm, ⟨4, _⟩ => ⟨S2048x1652, .f32⟩
  | .hbm, ⟨5, _⟩ => ⟨S2048x1652, .f32⟩
  | .hbm, ⟨6, _⟩ => ⟨S_, .f32⟩
  | .hbm, ⟨7, _⟩ => ⟨S2048x1652, .f32⟩
  | .hbm, ⟨8, _⟩ => ⟨S2048x1652, .f32⟩
  | .hbm, ⟨9, _⟩ => ⟨S_, .f32⟩
  | .hbm, ⟨10, _⟩ => ⟨S2048x1652, .f32⟩
  | .hbm, ⟨11, _⟩ => ⟨S2048x1652, .f32⟩
  | .hbm, ⟨12, _⟩ => ⟨S2048x1652, .f32⟩
  | .hbm, ⟨13, _⟩ => ⟨S_, .f32⟩
  | .hbm, ⟨14, _⟩ => ⟨S2048x1652, .f32⟩
  | .hbm, ⟨15, _⟩ => ⟨S2048x1652, .f32⟩
  | .hbm, ⟨16, _⟩ => ⟨S2048x1652, .f32⟩
  | .hbm, ⟨17, _⟩ => ⟨S_, .f32⟩
  | .hbm, ⟨18, _⟩ => ⟨S2048x1652, .f32⟩
  | .hbm, ⟨19, _⟩ => ⟨S2048x1652, .f32⟩
  | .hbm, ⟨20, _⟩ => ⟨S2048x1652, .f32⟩
  | .hbm, ⟨21, _⟩ => ⟨S_, .f32⟩
  | .hbm, ⟨22, _⟩ => ⟨S2048x1652, .f32⟩
  | .hbm, ⟨23, _⟩ => ⟨S2048x1652, .f32⟩
  | .hbm, ⟨24, _⟩ => ⟨S_, .f32⟩
  | .hbm, ⟨25, _⟩ => ⟨S2048x1652, .f32⟩
  | .hbm, ⟨26, _⟩ => ⟨S2048x1652, .f32⟩
  | .hbm, ⟨27, _⟩ => ⟨S2048x1652, .f32⟩
  | .hbm, ⟨28, _⟩ => ⟨S_, .f32⟩
  | .hbm, ⟨29, _⟩ => ⟨S2048x1652, .f32⟩
  | .hbm, ⟨30, _⟩ => ⟨S2048x1652, .f32⟩
  | .hbm, ⟨31, _⟩ => ⟨S2048x1652, .f32⟩
  | .hbm, ⟨32, _⟩ => ⟨S_, .f32⟩
  | .hbm, ⟨33, _⟩ => ⟨S2048x1652, .f32⟩
  | .hbm, ⟨34, _⟩ => ⟨S2048x1652, .f32⟩
  | .hbm, ⟨35, _⟩ => ⟨S2048x1652, .f32⟩
  | .hbm, ⟨36, _⟩ => ⟨S_, .f32⟩
  | .hbm, ⟨37, _⟩ => ⟨S2048x1652, .f32⟩
  | .hbm, ⟨38, _⟩ => ⟨S2048x1652, .f32⟩
  | _, _ => ⟨S2048x1652, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S96x256 : Shape := ⟨2, ![96, 256]⟩

abbrev nBuf : Space → Nat
  | .hbm => 9
  | .vmem => 9
  | .smem => 0
  | _ => 0

abbrev bufTy : (tb : Table) → Fin (tcTables nBuf tb) → BufTy
  | .hbm, ⟨0, _⟩ => ⟨S96x256, .f32⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S96x256, .f32⟩
  | .hbm, ⟨5, _⟩ => ⟨S96x256, .f32⟩
  | .hbm, ⟨6, _⟩ => ⟨S96x256, .f32⟩
  | .hbm, ⟨7, _⟩ => ⟨S96x256, .f32⟩
  | .hbm, ⟨8, _⟩ => ⟨S96x256, .f32⟩
  | .local _ .vmem, ⟨0, _⟩ => ⟨S96x256, .f32⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S96x256, .f32⟩
  | _, _ => ⟨S96x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S96x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S96x256 : Shape := ⟨2, ![96, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S96x256, .f32⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S96x256, .f32⟩
  | .hbm, ⟨5, _⟩ => ⟨S96x256, .f32⟩
  | .hbm, ⟨6, _⟩ => ⟨S_, .f32⟩
  | .hbm, ⟨7, _⟩ => ⟨S96x256, .f32⟩
  | .hbm, ⟨8, _⟩ => ⟨S96x256, .f32⟩
  | .hbm, ⟨9, _⟩ => ⟨S_, .f32⟩
  | .hbm, ⟨10, _⟩ => ⟨S96x256, .f32⟩
  | .hbm, ⟨11, _⟩ => ⟨S96x256, .f32⟩
  | .hbm, ⟨12, _⟩ => ⟨S96x256, .f32⟩
  | .hbm, ⟨13, _⟩ => ⟨S_, .f32⟩
  | .hbm, ⟨14, _⟩ => ⟨S96x256, .f32⟩
  | .hbm, ⟨15, _⟩ => ⟨S96x256, .f32⟩
  | .hbm, ⟨16, _⟩ => ⟨S96x256, .f32⟩
  | .hbm, ⟨17, _⟩ => ⟨S_, .f32⟩
  | .hbm, ⟨18, _⟩ => ⟨S96x256, .f32⟩
  | .hbm, ⟨19, _⟩ => ⟨S96x256, .f32⟩
  | .hbm, ⟨20, _⟩ => ⟨S96x256, .f32⟩
  | .hbm, ⟨21, _⟩ => ⟨S_, .f32⟩
  | .hbm, ⟨22, _⟩ => ⟨S96x256, .f32⟩
  | .hbm, ⟨23, _⟩ => ⟨S96x256, .f32⟩
  | .hbm, ⟨24, _⟩ => ⟨S_, .f32⟩
  | .hbm, ⟨25, _⟩ => ⟨S96x256, .f32⟩
  | .hbm, ⟨26, _⟩ => ⟨S96x256, .f32⟩
  | .hbm, ⟨27, _⟩ => ⟨S96x256, .f32⟩
  | .hbm, ⟨28, _⟩ => ⟨S_, .f32⟩
  | .hbm, ⟨29, _⟩ => ⟨S96x256, .f32⟩
  | .hbm, ⟨30, _⟩ => ⟨S96x256, .f32⟩
  | .hbm, ⟨31, _⟩ => ⟨S96x256, .f32⟩
  | .hbm, ⟨32, _⟩ => ⟨S_, .f32⟩
  | .hbm, ⟨33, _⟩ => ⟨S96x256, .f32⟩
  | .hbm, ⟨34, _⟩ => ⟨S96x256, .f32⟩
  | .hbm, ⟨35, _⟩ => ⟨S96x256, .f32⟩
  | .hbm, ⟨36, _⟩ => ⟨S_, .f32⟩
  | .hbm, ⟨37, _⟩ => ⟨S96x256, .f32⟩
  | .hbm, ⟨38, _⟩ => ⟨S96x256, .f32⟩
  | _, _ => ⟨S96x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S256x256 : Shape := ⟨2, ![256, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S2048x1408 : Shape := ⟨2, ![2048, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S256x512 : Shape := ⟨2, ![256, 512]⟩
abbrev S128x512 : Shape := ⟨2, ![128, 512]⟩

abbrev nBuf : Space → Nat
  | .hbm => 9
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S512x2048 : Shape := ⟨2, ![512, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference28Ideal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S1408x2048 : Shape := ⟨2, ![1408, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S168x128 : Shape := ⟨2, ![168, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S168x128 : Shape := ⟨2, ![168, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S168x128, .f32⟩
  | .hbm, ⟨1, _⟩ => ⟨S168x128, .f32⟩
  | .hbm, ⟨2, _⟩ => ⟨S168x128, .f32⟩
  | .hbm, ⟨3, _⟩ => ⟨S168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S_, .f32⟩
  | .hbm, ⟨8, _⟩ => ⟨S168x128, .f32⟩
  | .hbm, ⟨9, _⟩ => ⟨S168x128, .f32⟩
  | .hbm, ⟨10, _⟩ => ⟨S168x128, .f32⟩
  | .hbm, ⟨11, _⟩ => ⟨S_, .f32⟩
  | .hbm, ⟨12, _⟩ => ⟨S168x128, .f32⟩
  | .hbm, ⟨13, _⟩ => ⟨S168x128, .f32⟩
  | .hbm, ⟨14, _⟩ => ⟨S168x128, .f32⟩
  | .hbm, ⟨15, _⟩ => ⟨S_, .f32⟩
  | .hbm, ⟨16, _⟩ => ⟨S168x128, .f32⟩
  | .hbm, ⟨17, _⟩ => ⟨S168x128, .f32⟩
  | .hbm, ⟨18, _⟩ => ⟨S168x128, .f32⟩
  | .hbm, ⟨19, _⟩ => ⟨S_, .f32⟩
  | .hbm, ⟨20, _⟩ => ⟨S168x128, .f32⟩
  | .hbm, ⟨21, _⟩ => ⟨S168x128, .f32⟩
  | .hbm, ⟨22, _⟩ => ⟨S_, .f32⟩
  | .hbm, ⟨23, _⟩ => ⟨S168x128, .f32⟩
  | .hbm, ⟨24, _⟩ => ⟨S168x128, .f32⟩
  | .hbm, ⟨25, _⟩ => ⟨S168x128, .f32⟩
  | .hbm, ⟨26, _⟩ => ⟨S_, .f32⟩
  | .hbm, ⟨27, _⟩ => ⟨S168x128, .f32⟩
  | .hbm, ⟨28, _⟩ => ⟨S168x128, .f32⟩
  | .hbm, ⟨29, _⟩ => ⟨S168x128, .f32⟩
  | .hbm, ⟨30, _⟩ => ⟨S_, .f32⟩
  | .hbm, ⟨31, _⟩ => ⟨S168x128, .f32⟩
  | .hbm, ⟨32, _⟩ => ⟨S168x128, .f32⟩
  | .hbm, ⟨33, _⟩ => ⟨S168x128, .f32⟩
  | .hbm, ⟨34, _⟩ => ⟨S_, .f32⟩
  | .hbm, ⟨35, _⟩ => ⟨S168x128, .f32⟩
  | .hbm, ⟨36, _⟩ => ⟨S168x128, .f32⟩
  | _, _ => ⟨S168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference31Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel32.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 12
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S1x128, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x128, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference32Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .bf16⟩
  | .hbm, ⟨94, _⟩ => ⟨S4096x2048, .bf16⟩
  | .hbm, ⟨95, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_cst_11 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_cst_13 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Kernel33.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S1x1024x64 : Shape := ⟨3, ![1, 1024, 64]⟩
abbrev S1x4096x64 : Shape := ⟨3, ![1, 4096, 64]⟩
abbrev S1x1024x1 : Shape := ⟨3, ![1, 1024, 1]⟩
abbrev S1x1x4096 : Shape := ⟨3, ![1, 1, 4096]⟩
abbrev S1024x1 : Shape := ⟨2, ![1024, 1]⟩
abbrev S1024x64 : Shape := ⟨2, ![1024, 64]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 7
  | .vmem => 17
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x1, .f32⟩
  | .hbm, ⟨4, _⟩ => ⟨S16x1x4096, .f32⟩
  | .hbm, ⟨5, _⟩ => ⟨S16x4096x64, .f32⟩
  | .hbm, ⟨6, _⟩ => ⟨S16x4096x1, .f32⟩
  | .local _ .vmem, ⟨0, _⟩ => ⟨S1x1024x64, .bf16⟩
  | .local _ .vmem, ⟨1, _⟩ => ⟨S1x1024x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x1024x1, .f32⟩
  | .local _ .vmem, ⟨7, _⟩ => ⟨S1x1024x1, .f32⟩
  | .local _ .vmem, ⟨8, _⟩ => ⟨S1x1x4096, .f32⟩
  | .local _ .vmem, ⟨9, _⟩ => ⟨S1x1x4096, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x1, .f32⟩
  | .local _ .vmem, ⟨13, _⟩ => ⟨S1x1024x1, .f32⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | _, _ => ⟨S16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_14 : BitVec 32 := 1#32
  ⟨c0_i32_13, v20, c1_i32_14⟩
def k0_mult1 (i : grid0.Coords) (k0_t1 : Fin (k0_t1_loop i).trips) : BitVec 32 :=
  let c0_i32_13 : BitVec 32 := 0#32
  let c1_i32_14 : BitVec 32 := 1#32
  let arg12 : BitVec 32 := Scf.iv c0_i32_13 c1_i32_14 k0_t1
  let c1024_i32_55 : BitVec 32 := 1024#32
  let v86 : BitVec 32 := Scalar.muli arg12 c1024_i32_55
  v86
def k0_off1 (i : grid0.Coords) (k0_t1 : Fin (k0_t1_loop i).trips) : Fin 3 → Nat :=
  let c0_56 : Index := 0#32
  let c0_i32_13 : BitVec 32 := 0#32
  let c1_i32_14 : BitVec 32 := 1#32
  let arg12 : BitVec 32 := Scf.iv c0_i32_13 c1_i32_14 k0_t1
  let c1024_i32_55 : BitVec 32 := 1024#32
  let v86 : BitVec 32 := Scalar.muli arg12 c1024_i32_55
  let v87 : BitVec 32 := v86
  let v88 : Index := Scalar.indexCast v87
  let c0_57 : Index := 0#32
  ![0, v88.toNat, 0]
def k0_off2 (i : grid0.Coords) (k0_t1 : Fin (k0_t1_loop i).trips) : Fin 3 → Nat :=
  let c0_58 : Index := 0#32
  let c0_59 : Index := 0#32
  let c0_i32_13 : BitVec 32 := 0#32
  let c1_i32_14 : BitVec 32 := 1#32
  let arg12 : BitVec 32 := Scf.iv c0_i32_13 c1_i32_14 k0_t1
  let c1024_i32_55 : BitVec 32 := 1024#32
  let v86 : BitVec 32 := Scalar.muli arg12 c1024_i32_55
  let v87 : BitVec 32 := v86
  let v91 : Index := Scalar.indexCast v87
  ![0, 0, v91.toNat]
@[reducible] def k0_t2_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let v17 : BitVec 32 := Scalar.addi c0_i32_13 v16
  let c1_i32_15 : BitVec 32 := 1#32
  ⟨v20, v17, c1_i32_15⟩
def k0_mult2 (i : grid0.Coords) (k0_t2 : Fin (k0_t2_loop i).trips) : BitVec 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg12 : BitVec 32 := Scf.iv v20 c1_i32_15 k0_t2
  let c1024_i32_55 : BitVec 32 := 1024#32
  let v86 : BitVec 32 := Scalar.muli arg12 c1024_i32_55
  v86
def k0_off3 (i : grid0.Coords) (k0_t2 : Fin (k0_t2_loop i).trips) : Fin 3 → Nat :=
  let c0_56 : Index := 0#32
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg12 : BitVec 32 := Scf.iv v20 c1_i32_15 k0_t2
  let c1024_i32_55 : BitVec 32 := 1024#32
  let v86 : BitVec 32 := Scalar.muli arg12 c1024_i32_55
  let v87 : BitVec 32 := v86
  let v88 : Index := Scalar.indexCast v87
  let c0_57 : Index := 0#32
  ![0, v88.toNat, 0]
def k0_off4 (i : grid0.Coords) (k0_t2 : Fin (k0_t2_loop i).trips) : Fin 3 → Nat :=
  let c0_58 : Index := 0#32
  let c0_59 : Index := 0#32
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg12 : BitVec 32 := Scf.iv v20 c1_i32_15 k0_t2
  let c1024_i32_55 : BitVec 32 := 1024#32
  let v86 : BitVec 32 := Scalar.muli arg12 c1024_i32_55
  let v87 : BitVec 32 := v86
  let v91 : Index := Scalar.indexCast v87
  ![0, 0, v91.toNat]
def k0_mult3 (i : grid0.Coords) : BitVec 32 :=
  let arg1 : BitVec 32 := BitVec.ofNat 32 (i 1).val
  let c1024_i32 : BitVec 32 := 1024#32
  let v21 : BitVec 32 := Scalar.muli arg1 c1024_i32
  v21
def k0_off5 (i : grid0.Coords) : Fin 3 → Nat :=
  let c0_16 : Index := 0#32
  let arg1 : BitVec 32 := BitVec.ofNat 32 (i 1).val
  let c1024_i32 : BitVec 32 := 1024#32
  let v21 : BitVec 32 := Scalar.muli arg1 c1024_i32
  let v22 : BitVec 32 := v21
  let v23 : Index := Scalar.indexCast v22
  let c0_17 : Index := 0#32
  ![0, v23.toNat, 0]
def k0_off6 (i : grid0.Coords) : Fin 3 → Nat :=
  let c0_18 : Index := 0#32
  let c0_19 : Index := 0#32
  let arg1 : BitVec 32 := BitVec.ofNat 32 (i 1).val
  let c1024_i32 : BitVec 32 := 1024#32
  let v21 : BitVec 32 := Scalar.muli arg1 c1024_i32
  let v22 : BitVec 32 := v21
  let v26 : Index := Scalar.indexCast v22
  ![0, 0, v26.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel33Ideal.lean ====
variable {F : FTy → Type} [FloatOps F] [Named F]
def κ : String → Option EReal := fun
  | "mask" => some ⊥
  | _ => none
-- ==== Reference33Ideal.lean ====
abbrev S16x4096x64 : Shape := ⟨3, ![16, 4096, 64]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x1, .f32⟩
  | .hbm, ⟨4, _⟩ => ⟨S16x1x4096, .f32⟩
  | .hbm, ⟨5, _⟩ => ⟨S16x4096x64, .f32⟩
  | .hbm, ⟨6, _⟩ => ⟨S16x4096x64, .f32⟩
  | .hbm, ⟨7, _⟩ => ⟨S16x4096x4096, .f32⟩
  | .hbm, ⟨8, _⟩ => ⟨S16x4096x4096, .f32⟩
  | .hbm, ⟨9, _⟩ => ⟨S16x4096x4096, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .f32⟩
  | .hbm, ⟨35, _⟩ => ⟨S16x4096x64, .f32⟩
  | .hbm, ⟨36, _⟩ => ⟨S16x4096x64, .f32⟩
  | .hbm, ⟨37, _⟩ => ⟨S16x4096x1, .f32⟩
  | .hbm, ⟨38, _⟩ => ⟨S16x4096x1, .f32⟩
  | _, _ => ⟨S16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel34.lean ====
abbrev S4096x5632 : Shape := ⟨2, ![4096, 5632]⟩
abbrev S256x5632 : Shape := ⟨2, ![256, 5632]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x5632, .f32⟩
  | .hbm, ⟨3, _⟩ => ⟨S4096x5632, .bf16⟩
  | .hbm, ⟨4, _⟩ => ⟨S4096x5632, .bf16⟩
  | .local _ .vmem, ⟨0, _⟩ => ⟨S256x5632, .f32⟩
  | .local _ .vmem, ⟨1, _⟩ => ⟨S256x5632, .f32⟩
  | .local _ .vmem, ⟨2, _⟩ => ⟨S256x5632, .f32⟩
  | .local _ .vmem, ⟨3, _⟩ => ⟨S256x5632, .f32⟩
  | .local _ .vmem, ⟨4, _⟩ => ⟨S256x5632, .f32⟩
  | .local _ .vmem, ⟨5, _⟩ => ⟨S256x5632, .f32⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .bf16⟩
  | .hbm, ⟨24, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Kernel35.lean ====
abbrev S4096x5632 : Shape := ⟨2, ![4096, 5632]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x5632, .bf16⟩
  | .local _ .vmem, ⟨0, _⟩ => ⟨S256x5632, .f32⟩
  | .local _ .vmem, ⟨1, _⟩ => ⟨S256x5632, .f32⟩
  | .local _ .vmem, ⟨2, _⟩ => ⟨S256x5632, .f32⟩
  | .local _ .vmem, ⟨3, _⟩ => ⟨S256x5632, .f32⟩
  | .local _ .vmem, ⟨4, _⟩ => ⟨S256x5632, .bf16⟩
  | .local _ .vmem, ⟨5, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4096x5632 : Shape := ⟨2, ![4096, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x5632, .f32⟩
  | .hbm, ⟨3, _⟩ => ⟨S4096x5632, .f32⟩
  | .hbm, ⟨4, _⟩ => ⟨S_, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel36.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Spec.lean ====
/- THE MATHEMATICS of the forgetting attention's gradient, over the real numbers, for one head: rows are natural numbers
   below 4096, columns are `Fin 64`. Nothing here mentions a program. -/
module

public import Mathlib.Analysis.SpecialFunctions.Log.Basic
public import Mathlib.Algebra.BigOperators.Fin
public import Mathlib.Tactic.Ring
public import Mathlib.Tactic.Linarith

@[expose] public section

noncomputable section

namespace Cert.Spec

open Finset

/-- The arguments of one head: queries, keys, values, the cumulative gates of queries and of keys, the cotangent. -/
structure Head where
  q : ℕ → Fin 64 → ℝ
  k : ℕ → Fin 64 → ℝ
  v : ℕ → Fin 64 → ℝ
  cc : ℕ → ℝ
  cr : ℕ → ℝ
  g : ℕ → Fin 64 → ℝ

variable (H : Head)

/-- The score of query `i` against key `j`. -/
def Head.S (i j : ℕ) : ℝ := (∑ d, H.q i d * H.k j d) + (H.cc i - H.cr j)

/-- The normaliser of query `i`: over the keys that do not come after it. -/
def Head.Z (i : ℕ) : ℝ := ∑ j ∈ range (i + 1), Real.exp (H.S i j)

/-- The weight of key `j` for query `i`. -/
def Head.p (i j : ℕ) : ℝ := if j ≤ i then Real.exp (H.S i j) / H.Z i else 0

/-- The attention's output. -/
def Head.o (i : ℕ) (d : Fin 64) : ℝ := ∑ j ∈ range 4096, H.p i j * H.v j d

/-- The cotangent of the weight. -/
def Head.dp (i j : ℕ) : ℝ := ∑ d, H.g i d * H.v j d

/-- The cotangent against the output. -/
def Head.delta (i : ℕ) : ℝ := ∑ d, H.g i d * H.o i d

/-- The gradient of the score. -/
def Head.D (i j : ℕ) : ℝ := H.p i j * (H.dp i j - H.delta i)

/-- The gradient of the queries. -/
def Head.dq (i : ℕ) (d : Fin 64) : ℝ := ∑ j ∈ range 4096, H.D i j * H.k j d
/-- The gradient of the queries' cumulative gate. -/
def Head.dcq (i : ℕ) : ℝ := ∑ j ∈ range 4096, H.D i j
/-- The gradient of the keys. -/
def Head.dk (j : ℕ) (d : Fin 64) : ℝ := ∑ i ∈ range 4096, H.D i j * H.q i d
/-- The gradient of the values. -/
def Head.dv (j : ℕ) (d : Fin 64) : ℝ := ∑ i ∈ range 4096, H.p i j * H.g i d
/-- The gradient of the keys' cumulative gate, with the sign the kernel gives it. -/
def Head.dck (j : ℕ) : ℝ := ∑ i ∈ range 4096, H.D i j

/-- The normaliser is positive. -/
theorem Head.Z_pos (i : ℕ) : 0 < H.Z i :=
  sum_pos (fun _ _ => Real.exp_pos _) ⟨0, by simp⟩

/-- A key after the query has no weight. -/
theorem Head.p_of_lt {i j : ℕ} (h : i < j) : H.p i j = 0 := if_neg (by omega)

/-- A key after the query has no gradient. -/
theorem Head.D_of_lt {i j : ℕ} (h : i < j) : H.D i j = 0 := by rw [Head.D, H.p_of_lt h, zero_mul]

/-- The weight by the logarithm of the normaliser. -/
theorem Head.exp_lse (i j : ℕ) : Real.exp (H.S i j - Real.log (H.Z i)) = Real.exp (H.S i j) / H.Z i := by
  rw [Real.exp_sub, Real.exp_log (H.Z_pos i)]

/-- Whatever is taken off every score of a row before the exponential, the weights are the same. -/
theorem Head.shift (i : ℕ) (m : ℝ) (j : ℕ) :
    Real.exp (H.S i j - m) / (∑ j' ∈ range (i + 1), Real.exp (H.S i j' - m)) = Real.exp (H.S i j) / H.Z i := by
  have : ∑ j' ∈ range (i + 1), Real.exp (H.S i j' - m) = H.Z i * Real.exp (-m) := by
    rw [Head.Z, sum_mul]; exact sum_congr rfl fun _ _ => by rw [sub_eq_add_neg, Real.exp_add]
  rw [this, sub_eq_add_neg, Real.exp_add, mul_div_mul_right _ _ (Real.exp_pos _).ne']

/-- The same for the logarithm of the normaliser. -/
theorem Head.shift_log (i : ℕ) (m : ℝ) :
    m + Real.log (∑ j' ∈ range (i + 1), Real.exp (H.S i j' - m)) = Real.log (H.Z i) := by
  have : ∑ j' ∈ range (i + 1), Real.exp (H.S i j' - m) = H.Z i * Real.exp (-m) := by
    rw [Head.Z, sum_mul]; exact sum_congr rfl fun _ _ => by rw [sub_eq_add_neg, Real.exp_add]
  rw [this, Real.log_mul (H.Z_pos i).ne' (Real.exp_pos _).ne', Real.log_exp]; ring

/-- The cotangent against the output is the weights against the cotangents of the weights. -/
theorem Head.delta_eq (i : ℕ) : H.delta i = ∑ j ∈ range 4096, H.p i j * H.dp i j := by
  simp only [Head.delta, Head.o, Head.dp, mul_sum]
  rw [sum_comm]
  exact sum_congr rfl fun _ _ => sum_congr rfl fun _ _ => by ring

/-- A sum over the keys up to the end of the query's own block is the sum over all keys. -/
theorem sum_upto {f : ℕ → ℝ} {a : ℕ} (ha : a < 4) (h : ∀ j, 1024 * (a + 1) ≤ j → f j = 0) :
    ∑ j ∈ range (1024 * (a + 1)), f j = ∑ j ∈ range 4096, f j :=
  sum_subset (range_subset_range.2 (by omega)) fun j _ hj => h j (by simpa using hj)

/-- A sum over one more block. -/
theorem sum_block (f : ℕ → ℝ) (a : ℕ) :
    ∑ j ∈ range (1024 * (a + 1)), f j = ∑ j ∈ range (1024 * a), f j + ∑ r : Fin 1024, f (1024 * a + r.val) := by
  rw [Nat.mul_add, Nat.mul_one, sum_range_add, Fin.sum_univ_eq_sum_range (fun r => f (1024 * a + r))]

end Cert.Spec
-- ==== Proof.Weights.lean ====
/- WHAT THE REFERENCE COMPUTES, FORWARD: its scores, the largest of a row, the weights and the output, read at an index, when
   its arguments hold real numbers. The kernel's host program computes the same arrays, so the kernel's side reads these too. -/
module

public import proofs.«01_k».proof.Proof.Gen.ReferenceIdeal.Read
public import proofs.«01_k».proof.Proof.Spec
public import Idealize.ShloMosaic.Lib.Pointwise
public import Idealize.ShloMosaic.Lib.IdealHost

@[expose] public section

noncomputable section

namespace Cert.RefValue

open Idealize.ShloMosaic Cert.ReferenceIdeal Cert.ReferenceIdeal.Gen Cert.ReferenceIdeal.Read Cert.Spec

/-- A sum of real numbers, read as an extended real, is the sum of the readings. -/
theorem coe_sum {n : ℕ} (f : Fin n → ℝ) : ((∑ k, f k : ℝ) : EReal) = ∑ k, (f k : EReal) :=
  map_sum (⟨⟨fun x : ℝ => (x : EReal), EReal.coe_zero⟩, EReal.coe_add⟩ : ℝ →+ EReal) f Finset.univ

/-- A sum over the 4096 positions of a row is a sum over the natural numbers below 4096. -/
theorem sum_row (f : ℕ → ℝ) : ∑ k : Fin 4096, f k.val = ∑ k ∈ Finset.range 4096, f k := Fin.sum_univ_eq_sum_range f 4096

/-- The word of minus infinity. -/
theorem ofBits_bot : Ideal.ofBits .f32 0xFF800000#32 = (⊥ : EReal) := by simp [Ideal.ofBits, Ideal.ieee]

/-- A quotient of real numbers. -/
theorem div_real (x : ℝ) {y : ℝ} (h : y ≠ 0) : Ideal.div (x : EReal) (y : EReal) = ((x / y : ℝ) : EReal) := by
  rw [Ideal.div_coe h, ← EReal.coe_mul, mul_one_div]

/-- The logarithm of a positive real number. -/
theorem log_real {x : ℝ} (h : 0 < x) : Ideal.log (x : EReal) = (Real.log x : EReal) := by
  rw [Ideal.log_coe, if_neg (not_le.2 h)]

/-- A sum with a logarithm, read at an index. -/
theorem add_log_apply {s : Shape} (A B : FVec Ideal s .f32) (i : s.Idx) :
    addf A (Host.log B) i = (A i : EReal) + Ideal.log (B i) := rfl

/-- The comparison of two positions of a row. -/
theorem sle_pos (a b : ℕ) (ha : a < 4096) (hb : b < 4096) :
    IntOp.cmpi CmpIPredicate.sle (BitVec.ofNat 32 a) (BitVec.ofNat 32 b) = BitVec.ofBool (decide (a ≤ b)) := by
  have e : ∀ n : ℕ, n < 4096 → (BitVec.ofNat 32 n).toInt = n := fun n hn => by
    rw [BitVec.toInt_eq_toNat_cond, BitVec.toNat_ofNat, Nat.mod_eq_of_lt (by omega), if_pos (by omega)]
  simp only [IntOp.cmpi, BitVec.sle, e _ ha, e _ hb, Nat.cast_le]

/-- The largest of finitely many values that are real or minus infinity, one of them real, is real. -/
theorem fold_max_real {n : ℕ} (f : Fin n → EReal) (ht : ∀ k, f k ≠ ⊤) (k₀ : Fin n) (hb : f k₀ ≠ ⊥) :
    ∃ M : ℝ, (Finset.univ : Finset (Fin n)).fold max (⊥ : EReal) f = (M : EReal) := by
  have h1 : (Finset.univ : Finset (Fin n)).fold max (⊥ : EReal) f < ⊤ :=
    (Finset.fold_max_lt _).2 ⟨bot_lt_top, fun k _ => lt_top_iff_ne_top.2 (ht k)⟩
  have h2 : (⊥ : EReal) < (Finset.univ : Finset (Fin n)).fold max (⊥ : EReal) f :=
    (Finset.lt_fold_max _).2 (Or.inr ⟨k₀, Finset.mem_univ _, bot_lt_iff_ne_bot.2 hb⟩)
  exact ⟨_, (EReal.coe_toReal h1.ne h2.ne').symm⟩

/-- The arguments of all the heads, as real numbers. -/
structure Args (H : ℕ → Head) (x0 x1 x2 : (⟨S16x4096x64, .bf16⟩ : BufTy).Contents (Elt Ideal))
    (x3 : (⟨S16x4096x1, .f32⟩ : BufTy).Contents (Elt Ideal)) (x4 : (⟨S16x1x4096, .f32⟩ : BufTy).Contents (Elt Ideal))
    (x5 : (⟨S16x4096x64, .f32⟩ : BufTy).Contents (Elt Ideal)) : Prop where
  q : ∀ i : S16x4096x64.Idx, x0 i = ((H (i 0).val).q (i 1).val (i 2) : EReal)
  k : ∀ i : S16x4096x64.Idx, x1 i = ((H (i 0).val).k (i 1).val (i 2) : EReal)
  v : ∀ i : S16x4096x64.Idx, x2 i = ((H (i 0).val).v (i 1).val (i 2) : EReal)
  cc : ∀ i : S16x4096x1.Idx, x3 i = ((H (i 0).val).cc (i 1).val : EReal)
  cr : ∀ i : S16x1x4096.Idx, x4 i = ((H (i 0).val).cr (i 2).val : EReal)
  g : ∀ i : S16x4096x64.Idx, x5 i = ((H (i 0).val).g (i 1).val (i 2) : EReal)

variable {H : ℕ → Head} {x0 x1 x2 : (⟨S16x4096x64, .bf16⟩ : BufTy).Contents (Elt Ideal)}
  {x3 : (⟨S16x4096x1, .f32⟩ : BufTy).Contents (Elt Ideal)} {x4 : (⟨S16x1x4096, .f32⟩ : BufTy).Contents (Elt Ideal)}
  {x5 : (⟨S16x4096x64, .f32⟩ : BufTy).Contents (Elt Ideal)} (R : Args H x0 x1 x2 x3 x4 x5)

/-- The mask: the key does not come after the query. -/
theorem mask_apply (i : S16x4096x4096.Idx) :
    val_main_v15_1 (F := Ideal) i = BitVec.ofBool (decide ((i 2).val ≤ (i 1).val)) := by
  rw [val_main_v15_1_apply, val_main_v14_apply, val_main_v12_apply, val_main_v13_apply, val_main_v9_apply, val_main_v11_apply,
    val_main_v8_apply, val_main_v10_apply]
  exact sle_pos _ _ (i 2).isLt (i 1).isLt

include R

/-- The scores. -/
theorem v7_apply (i : S16x4096x4096.Idx) :
    val_main_v7 (F := Ideal) x0 x1 x3 x4 i = ((H (i 0).val).S (i 1).val (i 2).val : EReal) := by
  rw [val_main_v7_apply, val_main_v3_apply, val_main_v6_apply, val_main_v4_apply, val_main_v5_apply]
  simp only [val_main_v0_apply, val_main_v1_apply, Ideal.extf_def, Ideal.addf_def, Ideal.subf_def, R.q, R.k, R.cc, R.cr,
    ← EReal.coe_mul, ← coe_sum, ← EReal.coe_add, ← EReal.coe_sub]
  rfl

/-- The masked scores. -/
theorem v15_apply (i : S16x4096x4096.Idx) :
    val_main_v15_0 (F := Ideal) x0 x1 x3 x4 i
      = if (i 2).val ≤ (i 1).val then ((H (i 0).val).S (i 1).val (i 2).val : EReal) else ⊥ := by
  rw [val_main_v15_0_apply, mask_apply, v7_apply R]
  by_cases hc : (i 2).val ≤ (i 1).val
  · rw [decide_eq_true hc, if_pos hc]; rfl
  · rw [decide_eq_false hc, if_neg hc]
    show val_main_call0_v2 (F := Ideal) i = ⊥
    rw [val_main_call0_v2_apply, val_main_call0_v0_apply, val_main_cst_apply]
    exact ofBits_bot

/-- The largest score of a row is a real number. -/
theorem v16_real (i : S16x4096.Idx) : ∃ M : ℝ, val_main_v16 (F := Ideal) x0 x1 x3 x4 i = (M : EReal) := by
  have e : val_main_v16 (F := Ideal) x0 x1 x3 x4 i
      = (Finset.univ : Finset (Fin 4096)).fold max (⊥ : EReal) (fun k => val_main_v15_0 (F := Ideal) x0 x1 x3 x4 (idx_main_v37 i k)) := by
    unfold val_main_v16
    generalize val_main_v15_0 (F := Ideal) x0 x1 x3 x4 = y
    rw [show (FloatOps.maximumf (F := Ideal) (φ := .f32)) = (max : EReal → EReal → EReal) from rfl,
      Host.reduce_eq_fold_single (max : EReal → EReal → EReal) y _ reducesTo_S16x4096x4096_S16x4096_d2 (by decide) h_S_,
      show val_main_cst_0 (F := Ideal) (Shape.Idx.first h_S_) = (⊥ : EReal) from ofBits_bot]
    refine congrArg (fun g : Fin 4096 → EReal => (Finset.univ : Finset (Fin 4096)).fold max (⊥ : EReal) g) (funext fun k => ?_)
    exact congrArg y (funext fun a => Fin.ext (by match a with | ⟨0, _⟩ => rfl | ⟨1, _⟩ => rfl | ⟨2, _⟩ => rfl))
  rw [e]
  refine fold_max_real _ (fun k => ?_) (i 1) ?_
  · rw [v15_apply R]; split_ifs
    · exact EReal.coe_ne_top _
    · exact bot_ne_top
  · rw [v15_apply R, if_pos le_rfl]; exact EReal.coe_ne_bot _

/-- The largest score of a row of a head, `0` past the last row. -/
def top (x0 x1 : (⟨S16x4096x64, .bf16⟩ : BufTy).Contents (Elt Ideal))
    (x3 : (⟨S16x4096x1, .f32⟩ : BufTy).Contents (Elt Ideal)) (x4 : (⟨S16x1x4096, .f32⟩ : BufTy).Contents (Elt Ideal))
    (i : S16x4096.Idx) : ℝ := (val_main_v16 (F := Ideal) x0 x1 x3 x4 i).toReal

/-- The largest score of a row, by its name. -/
theorem v16_apply (i : S16x4096.Idx) : val_main_v16 (F := Ideal) x0 x1 x3 x4 i = (top x0 x1 x3 x4 i : EReal) := by
  obtain ⟨M, hM⟩ := v16_real R i
  rw [top, hM, EReal.toReal_coe]

omit R in
/-- The largest score against minus infinity is itself. -/
theorem v23_eq : val_main_v23 (F := Ideal) x0 x1 x3 x4 = val_main_v16 (F := Ideal) x0 x1 x3 x4 := by
  funext i
  rw [val_main_v23_apply, val_main_v22_apply, val_main_cst_2_apply]
  show max (Ideal.ofBits .f32 0xFF800000#32) _ = _
  rw [ofBits_bot]; exact max_bot_left _

/-- The row's index of an index of the scores. -/
abbrev rowOf (i : S16x4096x4096.Idx) : S16x4096.Idx := idx_main_v33 (idx_main_v34 i)

/-- The exponential of the score less the largest of its row. -/
theorem v36_apply (i : S16x4096x4096.Idx) :
    val_main_v36 (F := Ideal) x0 x1 x3 x4 i
      = ((if (i 2).val ≤ (i 1).val then Real.exp ((H (i 0).val).S (i 1).val (i 2).val - top x0 x1 x3 x4 (rowOf i)) else 0 : ℝ) : EReal) := by
  rw [val_main_v36_apply, val_main_v35_apply, v15_apply R, val_main_v34_apply, val_main_v33_apply, v23_eq, v16_apply R,
    Ideal.hostUnary_exp_def, Ideal.subf_def]
  split_ifs
  · rw [← EReal.coe_sub, Ideal.exp_coe]
  · rw [EReal.bot_sub, Ideal.exp_bot]; rfl

/-- The sum of the exponentials of a row. -/
def den (H : ℕ → Head) (t : ℝ) (h i : ℕ) : ℝ := ∑ j ∈ Finset.range (i + 1), Real.exp ((H h).S i j - t)

omit R in
/-- It is positive. -/
theorem den_pos (t : ℝ) (h i : ℕ) : 0 < den H t h i := Finset.sum_pos (fun _ _ => Real.exp_pos _) ⟨0, by simp⟩

omit R in
/-- A sum over all keys of what is nought past the query is the sum over the keys up to it. -/
theorem sum_masked (f : ℕ → ℝ) {i : ℕ} (hi : i < 4096) :
    (∑ j ∈ Finset.range 4096, if j ≤ i then f j else 0) = ∑ j ∈ Finset.range (i + 1), f j := by
  rw [← Finset.sum_filter]
  refine Finset.sum_congr (Finset.ext fun j => ?_) fun _ _ => rfl
  simp only [Finset.mem_filter, Finset.mem_range]; omega

/-- The reference's sum of the exponentials of a row. -/
theorem v37_apply (i : S16x4096.Idx) :
    val_main_v37 (F := Ideal) x0 x1 x3 x4 i = (den H (top x0 x1 x3 x4 i) (i 0).val (i 1).val : EReal) := by
  rw [val_main_v37_apply, val_main_cst_8_apply]
  have e : ∀ k : Fin 4096, rowOf (idx_main_v37 i k) = i := fun k => funext fun a => by
    match a with | ⟨0, _⟩ => rfl | ⟨1, _⟩ => rfl
  simp only [v36_apply R, e, ← coe_sum]
  show Ideal.ofBits .f32 0x00000000#32 + _ = _
  rw [Ideal.ofBits_zero_f32, zero_add, den, ← sum_masked _ (i 1).isLt]
  exact congrArg _ (sum_row fun j => if j ≤ (i 1).val then Real.exp ((H (i 0).val).S (i 1).val j - top x0 x1 x3 x4 i) else 0)

/-- An exponential is the weight times the row's sum. -/
theorem weight_den (t : ℝ) (h i j : ℕ) :
    (if j ≤ i then Real.exp ((H h).S i j - t) else 0) = (H h).p i j * den H t h i := by
  unfold Head.p; split_ifs
  · rw [← (H h).shift i t j]; exact (div_mul_cancel₀ _ (den_pos t h i).ne').symm
  · rw [zero_mul]

/-- The exponential by the weight. -/
theorem v36_eq (i : S16x4096x4096.Idx) :
    val_main_v36 (F := Ideal) x0 x1 x3 x4 i
      = (((H (i 0).val).p (i 1).val (i 2).val * den H (top x0 x1 x3 x4 (rowOf i)) (i 0).val (i 1).val : ℝ) : EReal) := by
  rw [v36_apply R, weight_den R]

/-- The weights. -/
theorem v40_apply (i : S16x4096x4096.Idx) :
    val_main_v40 (F := Ideal) x0 x1 x3 x4 i = ((H (i 0).val).p (i 1).val (i 2).val : EReal) := by
  rw [val_main_v40_apply, v36_eq R, val_main_v39_apply, val_main_v38_apply, v37_apply R, Ideal.hostDivf_def]
  rw [div_real _ (den_pos _ _ _).ne']
  exact congrArg _ (mul_div_cancel_right₀ _ (den_pos _ _ _).ne')

/-- The output. -/
theorem v44_apply (i : S16x4096x64.Idx) :
    val_main_v44 (F := Ideal) x0 x1 x2 x3 x4 i = ((H (i 0).val).o (i 1).val (i 2) : EReal) := by
  rw [val_main_v44_apply]
  simp only [v40_apply R, val_main_v2_apply, Ideal.extf_def, R.v, ← EReal.coe_mul, ← coe_sum]
  exact congrArg _ (sum_row fun j => (H (i 0).val).p (i 1).val j * (H (i 0).val).v j (i 2))

/-- The logarithm of a row's normaliser: the largest score of the row plus the logarithm of the row's sum. -/
theorem lse_apply (i : S16x4096x1.Idx) :
    addf (F := Ideal) (s := S16x4096x1) (φ := .f32) (val_main_v33 (F := Ideal) x0 x1 x3 x4)
      (Host.log (F := Ideal) (s := S16x4096x1) (φ := .f32) (val_main_v38 (F := Ideal) x0 x1 x3 x4)) i
      = (Real.log ((H (i 0).val).Z (i 1).val) : EReal) := by
  have a : val_main_v33 (F := Ideal) x0 x1 x3 x4 i = (top x0 x1 x3 x4 (idx_main_v33 i) : EReal) := by
    rw [val_main_v33_apply, v23_eq, v16_apply R]
  have b : val_main_v38 (F := Ideal) x0 x1 x3 x4 i = (den H (top x0 x1 x3 x4 (idx_main_v33 i)) (i 0).val (i 1).val : EReal) := by
    rw [val_main_v38_apply, show idx_main_v38 i = idx_main_v33 i from funext fun a => by match a with | ⟨0, _⟩ => rfl | ⟨1, _⟩ => rfl,
      v37_apply R]
  refine (add_log_apply _ _ i).trans ?_
  rw [a, b]
  generalize top x0 x1 x3 x4 (idx_main_v33 i) = t
  rw [log_real (den_pos _ _ _), ← EReal.coe_add]
  exact congrArg (fun r : ℝ => (r : EReal)) ((H (i 0).val).shift_log (i 1).val t)

end Cert.RefValue
-- ==== Proof.Host.lean ====
/- WHAT THE HOST PREPARES: the attention's output and the logarithms of its normalisers, which the kernel's call takes as
   arguments, as the reference's own arrays. -/
module

public import proofs.«01_k».proof.Proof.Gen.KernelIdeal.Frame
public import proofs.«01_k».proof.Proof.Weights
public import Idealize.ShloMosaic.Lib.StableHlo.Run

@[expose] public section

set_option maxRecDepth 8192

noncomputable section

namespace Cert.KernelIdeal.HostValue

open Idealize.ShloMosaic Idealize.ShloMosaic.TcCoe Idealize.ShloMosaic.StableHlo
open Idealize.SL.Sem
open Cert.KernelIdeal Cert.KernelIdeal.Gen Cert.ReferenceIdeal.Read

variable (m : (ℓ : Loc nD τ sig) → Buf (Elt Ideal) ℓ) (c : Dev nD)

/-- The output the call is given is the reference's. -/
theorem V_o : V m c main_v25 = val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  unfold val_main_v44 val_main_v40 val_main_v39 val_main_v38 val_main_v37 val_main_v36 val_main_v35 val_main_v34 val_main_v33
  rw [Cert.RefValue.v23_eq]
  unfold V
  simp only [hostOps0, hostOps0_1, hostOps0_2, List.flatten_cons, List.flatten_nil, List.append_nil, List.cons_append,
    List.nil_append, TRef.nullary, TRef.ternary, TRef.unary, TRef.toBuf, TRef.ofBuf, cast_eq]
  after_results_simp
  rfl

/-- The normalisers' logarithms the call is given: the largest score of the row plus the logarithm of the row's sum. -/
theorem V_lse : V m c main_v27 = (addf (F := Ideal) (φ := .f32)
    (val_main_v33 (F := Ideal) (m ((c : Thread nD τ).loc main_arg0)) (m ((c : Thread nD τ).loc main_arg1))
      (m ((c : Thread nD τ).loc main_arg3)) (m ((c : Thread nD τ).loc main_arg4)))
    (Host.log (val_main_v38 (F := Ideal) (m ((c : Thread nD τ).loc main_arg0)) (m ((c : Thread nD τ).loc main_arg1))
      (m ((c : Thread nD τ).loc main_arg3)) (m ((c : Thread nD τ).loc main_arg4)))) : (⟨S16x4096x1, .f32⟩ : BufTy).Contents (Elt Ideal)) := by
  unfold val_main_v38 val_main_v37 val_main_v36 val_main_v35 val_main_v34 val_main_v33
  rw [Cert.RefValue.v23_eq]
  unfold V
  simp only [hostOps0, hostOps0_1, hostOps0_2, List.flatten_cons, List.flatten_nil, List.append_nil, List.cons_append,
    List.nil_append, TRef.nullary, TRef.ternary, TRef.unary, TRef.toBuf, TRef.ofBuf, cast_eq]
  after_results_simp
  refine congrArg₂ (addf (F := Ideal) (s := S16x4096x1) (φ := .f32)) ?_ ?_
  · rfl
  · refine congrArg (Host.log (F := Ideal) (s := S16x4096x1) (φ := .f32)) ?_
    rfl

variable {H : ℕ → Cert.Spec.Head}
  (R : Cert.RefValue.Args H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include R

/-- The output the call is given, read at an index. -/
theorem V_o_apply (i : S16x4096x64.Idx) : V m c main_v25 i = ((H (i 0).val).o (i 1).val (i 2) : EReal) := by
  rw [V_o]; exact Cert.RefValue.v44_apply R i

/-- The normalisers' logarithms the call is given, read at an index. -/
theorem V_lse_apply (i : S16x4096x1.Idx) : V m c main_v27 i = (Real.log ((H (i 0).val).Z (i 1).val) : EReal) := by
  rw [V_lse]; exact Cert.RefValue.lse_apply R i

end Cert.KernelIdeal.HostValue
-- ==== Proof.Blocks.lean ====
/- WHAT ONE BLOCK COMPUTES: each value the body of the attention's backward call stores, read at an index, when the
   blocks it reads hold real numbers. The block of queries has rows `r`, the block of keys rows `c`, a head has 64 columns. -/
module

public import proofs.«01_k».proof.Proof.Gen.KernelIdeal.Skeleton
public import Idealize.ShloMosaic.Lib.Pointwise

@[expose] public section

noncomputable section

namespace Cert.KernelIdeal.Blocks

open Idealize.ShloMosaic Cert.KernelIdeal Cert.KernelIdeal.Gen

/-- A sum of real numbers, read as an extended real, is the sum of the readings. -/
theorem coe_sum {n : ℕ} (f : Fin n → ℝ) : ((∑ k, f k : ℝ) : EReal) = ∑ k, (f k : EReal) :=
  map_sum (⟨⟨fun x : ℝ => (x : EReal), EReal.coe_zero⟩, EReal.coe_add⟩ : ℝ →+ EReal) f Finset.univ

/-- The score of a row of queries against a row of keys, the query's own normaliser taken off. -/
def score {n : ℕ} (Q : Fin n → Fin 64 → ℝ) (C L : Fin n → ℝ) {k : ℕ} (K : Fin k → Fin 64 → ℝ) (R : Fin k → ℝ) (r : Fin n) (c : Fin k) : ℝ :=
  (∑ d, Q r d * K c d) + C r - R c - L r

/-- The weight of a block below the diagonal. -/
def wt {n : ℕ} (Q : Fin n → Fin 64 → ℝ) (C L : Fin n → ℝ) {k : ℕ} (K : Fin k → Fin 64 → ℝ) (R : Fin k → ℝ) (r : Fin n) (c : Fin k) : ℝ :=
  Real.exp (score Q C L K R r c)

/-- The weight of the block on the diagonal: no weight where the key comes after the query. -/
def wtm {n : ℕ} (Q : Fin n → Fin 64 → ℝ) (C L : Fin n → ℝ) {k : ℕ} (K : Fin k → Fin 64 → ℝ) (R : Fin k → ℝ) (r : Fin n) (c : Fin k) : ℝ :=
  if c.val ≤ r.val then Real.exp (score Q C L K R r c) else 0

/-- The gradient of a score from its weight. -/
def ds {n k : ℕ} (P : Fin n → Fin k → ℝ) (G : Fin n → Fin 64 → ℝ) (E : Fin n → ℝ) (V : Fin k → Fin 64 → ℝ) (r : Fin n) (c : Fin k) : ℝ :=
  P r c * ((∑ d, G r d * V c d) - E r)

/-- The named constant of the mask is minus infinity. -/
theorem mask_eq : (Named.named κ "mask" 0xF149F2CA#32 : Ideal .f32) = (⊥ : EReal) := rfl

/-- The mask's comparison of the row's number with the column's. -/
theorem sge_iota (r c : Fin 1024) :
    IntOp.cmpi CmpIPredicate.sge (BitVec.ofNat 32 r.val) (BitVec.ofNat 32 c.val) = BitVec.ofBool (decide (c.val ≤ r.val)) := by
  have hr := r.isLt; have hc := c.isLt
  have e : ∀ n : ℕ, n < 1024 → (BitVec.ofNat 32 n).toInt = n := fun n hn => by
    rw [BitVec.toInt_eq_toNat_cond, BitVec.toNat_ofNat, Nat.mod_eq_of_lt (by omega), if_pos (by omega)]
  simp only [IntOp.cmpi, BitVec.sle, e _ hr, e _ hc, Nat.cast_le]

section
variable (v12 : FVec Ideal S1024x64 .bf16) (v14 v16 v23 : FVec Ideal S1024x1 .f32) (v24 : FVec Ideal S1024x64 .bf16)
  (kb vb : Vec Ideal S1x1024x64 .bf16) (rb : Vec Ideal S1x1x1024 .f32)
  (Q G : Fin 1024 → Fin 64 → ℝ) (C L E : Fin 1024 → ℝ) (K V : Fin 1024 → Fin 64 → ℝ) (R : Fin 1024 → ℝ)

/-- What a block reads, as real numbers. -/
structure Reads : Prop where
  q : ∀ r d, v12 (ix2 r d) = (Q r d : EReal)
  c : ∀ r, v14 (ix2 r 0) = (C r : EReal)
  l : ∀ r, v16 (ix2 r 0) = (L r : EReal)
  e : ∀ r, v23 (ix2 r 0) = (E r : EReal)
  g : ∀ r d, v24 (ix2 r d) = (G r d : EReal)
  k : ∀ c d, kb (ix3 0 c d) = (K c d : EReal)
  v : ∀ c d, vb (ix3 0 c d) = (V c d : EReal)
  r : ∀ c, rb (ix3 0 0 c) = (R c : EReal)

variable {v12 v14 v16 v23 v24 kb vb rb Q G C L E K V R} (h : Reads v12 v14 v16 v23 v24 kb vb rb Q G C L E K V R)
include h

/-- A block below the diagonal: its weights. -/
theorem pay6_apply (r c : Fin 1024) : k0_pay6 v12 v14 v16 kb rb (ix2 r c) = (wt Q C L K R r c : EReal) := by
  pointwise [k0_pay6, k0_pay5]
  simp only [h.q, h.c, h.l, h.k, h.r, ← EReal.coe_mul, ← coe_sum, ← EReal.coe_add, ← EReal.coe_sub, Ideal.exp_coe]
  rfl

/-- A block below the diagonal: the gradients of its scores. -/
theorem pay7_apply (r c : Fin 1024) :
    k0_pay7 v12 v14 v16 v23 v24 kb rb vb (ix2 r c) = (ds (wt Q C L K R) G E V r c : EReal) := by
  have h6 := pay6_apply h
  pointwise [k0_pay7]
  rw [h6]
  simp only [h.e, h.g, h.v, ← EReal.coe_mul, ← coe_sum, ← EReal.coe_add, ← EReal.coe_sub]
  rfl

/-- A block below the diagonal: what it adds to the gradient of the queries. -/
theorem pay9_apply (old : Vec Ideal S1024x64 .f32) (r : Fin 1024) (d : Fin 64) (a : ℝ) (ha : old (ix2 r d) = (a : EReal)) :
    k0_pay9 v12 v14 v16 v23 v24 kb rb vb old (ix2 r d) = ((a + ∑ c, ds (wt Q C L K R) G E V r c * K c d : ℝ) : EReal) := by
  have h7 := pay7_apply h
  pointwise [k0_pay9, k0_pay8, k0_pay5]
  simp only [h7, ha, h.k, ← EReal.coe_mul, ← coe_sum, ← EReal.coe_add]

/-- A block below the diagonal: what it adds to the gradient of the queries' gate. -/
theorem pay10_apply (old : Vec Ideal S1024x1 .f32) (r : Fin 1024) (a : ℝ) (ha : old (ix2 r 0) = (a : EReal)) :
    k0_pay10 v12 v14 v16 v23 v24 kb rb vb old (ix2 r 0) = ((a + ∑ c, ds (wt Q C L K R) G E V r c : ℝ) : EReal) := by
  have h7 := pay7_apply h
  pointwise [k0_pay10]
  simp only [h7, ha, ← coe_sum, ← EReal.coe_add]

/-- A block below the diagonal: what it adds to the gradient of the values. -/
theorem pay28_apply (old : Vec Ideal S1024x64 .f32) (c : Fin 1024) (d : Fin 64) (a : ℝ) (ha : old (ix2 c d) = (a : EReal)) :
    k0_pay28 v24 (k0_pay6 v12 v14 v16 kb rb) old (ix2 c d) = ((a + ∑ r, wt Q C L K R r c * G r d : ℝ) : EReal) := by
  have h6 := pay6_apply h
  pointwise [k0_pay28]
  simp only [h6, ha, h.g, ← EReal.coe_mul, ← coe_sum, ← EReal.coe_add]

/-- A block below the diagonal: what it adds to the gradient of the keys. -/
theorem pay29_apply (old : Vec Ideal S1024x64 .f32) (c : Fin 1024) (d : Fin 64) (a : ℝ) (ha : old (ix2 c d) = (a : EReal)) :
    k0_pay29 v12 (k0_pay8 v12 v14 v16 v23 v24 kb rb vb) old (ix2 c d)
      = ((a + ∑ r, ds (wt Q C L K R) G E V r c * Q r d : ℝ) : EReal) := by
  have h7 := pay7_apply h
  pointwise [k0_pay29, k0_pay8]
  simp only [h7, ha, h.q, ← EReal.coe_mul, ← coe_sum, ← EReal.coe_add]

/-- A block below the diagonal: what it adds to the gradient of the keys' gate. -/
theorem pay30_apply (old : Vec Ideal S1x1024 .f32) (c : Fin 1024) (a : ℝ) (ha : old (ix2 0 c) = (a : EReal)) :
    k0_pay30 (k0_pay7 v12 v14 v16 v23 v24 kb rb vb) old (ix2 0 c) = ((a + ∑ r, ds (wt Q C L K R) G E V r c : ℝ) : EReal) := by
  have h7 := pay7_apply h
  pointwise [k0_pay30]
  simp only [h7, ha, ← coe_sum, ← EReal.coe_add]

/-- The block on the diagonal: its weights. -/
theorem pay35_apply (r c : Fin 1024) : k0_pay35 v12 v14 v16 kb rb (ix2 r c) = (wtm Q C L K R r c : EReal) := by
  pointwise [k0_pay35, k0_pay34]
  rw [sge_iota, mask_eq, wtm, score]
  by_cases hc : c.val ≤ r.val
  · rw [decide_eq_true hc, if_pos hc, show ∀ a b : EReal, Scalar.select (BitVec.ofBool true) a b = a from fun _ _ => rfl]
    simp only [h.q, h.c, h.l, h.k, h.r, ← EReal.coe_mul, ← coe_sum, ← EReal.coe_add, ← EReal.coe_sub, Ideal.exp_coe]
  · rw [decide_eq_false hc, if_neg hc, show ∀ a b : EReal, Scalar.select (BitVec.ofBool false) a b = b from fun _ _ => rfl]
    simp only [h.l]
    rfl

/-- The block on the diagonal: the gradients of its scores. -/
theorem pay36_apply (r c : Fin 1024) :
    k0_pay36 v12 v14 v16 v23 v24 kb rb vb (ix2 r c) = (ds (wtm Q C L K R) G E V r c : EReal) := by
  have h6 := pay35_apply h
  pointwise [k0_pay36]
  rw [h6]
  simp only [h.e, h.g, h.v, ← EReal.coe_mul, ← coe_sum, ← EReal.coe_add, ← EReal.coe_sub]
  rfl

/-- The block on the diagonal: what it adds to the gradient of the queries. -/
theorem pay38_apply (old : Vec Ideal S1024x64 .f32) (r : Fin 1024) (d : Fin 64) (a : ℝ) (ha : old (ix2 r d) = (a : EReal)) :
    k0_pay38 v12 v14 v16 v23 v24 kb rb vb old (ix2 r d) = ((a + ∑ c, ds (wtm Q C L K R) G E V r c * K c d : ℝ) : EReal) := by
  have h7 := pay36_apply h
  pointwise [k0_pay38, k0_pay37, k0_pay34]
  simp only [h7, ha, h.k, ← EReal.coe_mul, ← coe_sum, ← EReal.coe_add]

/-- The block on the diagonal: what it adds to the gradient of the queries' gate. -/
theorem pay39_apply (old : Vec Ideal S1024x1 .f32) (r : Fin 1024) (a : ℝ) (ha : old (ix2 r 0) = (a : EReal)) :
    k0_pay39 (k0_pay36 v12 v14 v16 v23 v24 kb rb vb) old (ix2 r 0) = ((a + ∑ c, ds (wtm Q C L K R) G E V r c : ℝ) : EReal) := by
  have h7 := pay36_apply h
  pointwise [k0_pay39]
  simp only [h7, ha, ← coe_sum, ← EReal.coe_add]

/-- The block on the diagonal: what it adds to the gradient of the values. -/
theorem pay40_apply (old : Vec Ideal S1024x64 .f32) (c : Fin 1024) (d : Fin 64) (a : ℝ) (ha : old (ix2 c d) = (a : EReal)) :
    k0_pay40 v24 (k0_pay35 v12 v14 v16 kb rb) old (ix2 c d) = ((a + ∑ r, wtm Q C L K R r c * G r d : ℝ) : EReal) := by
  have h6 := pay35_apply h
  pointwise [k0_pay40]
  simp only [h6, ha, h.g, ← EReal.coe_mul, ← coe_sum, ← EReal.coe_add]

/-- The block on the diagonal: what it adds to the gradient of the keys. -/
theorem pay41_apply (old : Vec Ideal S1024x64 .f32) (c : Fin 1024) (d : Fin 64) (a : ℝ) (ha : old (ix2 c d) = (a : EReal)) :
    k0_pay41 v12 (k0_pay37 v12 v14 v16 v23 v24 kb rb vb) old (ix2 c d)
      = ((a + ∑ r, ds (wtm Q C L K R) G E V r c * Q r d : ℝ) : EReal) := by
  have h7 := pay36_apply h
  pointwise [k0_pay41, k0_pay37]
  simp only [h7, ha, h.q, ← EReal.coe_mul, ← coe_sum, ← EReal.coe_add]

/-- The block on the diagonal: what it adds to the gradient of the keys' gate. -/
theorem pay42_apply (old : Vec Ideal S1x1024 .f32) (c : Fin 1024) (a : ℝ) (ha : old (ix2 0 c) = (a : EReal)) :
    k0_pay42 (k0_pay36 v12 v14 v16 v23 v24 kb rb vb) old (ix2 0 c) = ((a + ∑ r, ds (wtm Q C L K R) G E V r c : ℝ) : EReal) := by
  have h7 := pay36_apply h
  pointwise [k0_pay42]
  simp only [h7, ha, ← coe_sum, ← EReal.coe_add]

end

end Cert.KernelIdeal.Blocks
-- ==== Proof.HeadBlock.lean ====
/- ONE BLOCK OF A HEAD: what a block of queries and a block of keys compute, when the blocks are rows of a head's arguments
   and the normaliser is the logarithm of the head's own; and what adding one block does to an array of rows. -/
module

public import proofs.«01_k».proof.Proof.Blocks
public import proofs.«01_k».proof.Proof.Spec

@[expose] public section

noncomputable section

namespace Cert.KernelIdeal.Blocks

open Idealize.ShloMosaic Cert.KernelIdeal Cert.KernelIdeal.Gen Cert.Spec

/-- Row `r` of block `a`. -/
abbrev row (a : ℕ) (r : Fin 1024) : ℕ := 1024 * a + r.val

variable (H : Head)

theorem score_eq (a b : ℕ) (r c : Fin 1024) :
    score (fun r => H.q (row a r)) (fun r => H.cc (row a r)) (fun r => Real.log (H.Z (row a r))) (fun c => H.k (row b c)) (fun c => H.cr (row b c)) r c
      = H.S (row a r) (row b c) - Real.log (H.Z (row a r)) := by
  rw [score, Head.S]; ring

/-- Below the diagonal the weights of a block are the head's. -/
theorem wt_eq {a b : ℕ} (hab : b < a) (r c : Fin 1024) :
    wt (fun r => H.q (row a r)) (fun r => H.cc (row a r)) (fun r => Real.log (H.Z (row a r))) (fun c => H.k (row b c)) (fun c => H.cr (row b c)) r c
      = H.p (row a r) (row b c) := by
  rw [wt, score_eq, H.exp_lse, Head.p, if_pos]
  have := r.isLt; have := c.isLt; simp only [row]; omega

/-- On the diagonal too. -/
theorem wtm_eq (a : ℕ) (r c : Fin 1024) :
    wtm (fun r => H.q (row a r)) (fun r => H.cc (row a r)) (fun r => Real.log (H.Z (row a r))) (fun c => H.k (row a c)) (fun c => H.cr (row a c)) r c
      = H.p (row a r) (row a c) := by
  rw [wtm, score_eq, H.exp_lse, Head.p]
  exact if_congr ⟨fun h => Nat.add_le_add_left h _, fun h => Nat.le_of_add_le_add_left h⟩ rfl rfl

/-- Below the diagonal the gradients of the scores of a block are the head's. -/
theorem ds_wt_eq {a b : ℕ} (hab : b < a) (r c : Fin 1024) :
    ds (wt (fun r => H.q (row a r)) (fun r => H.cc (row a r)) (fun r => Real.log (H.Z (row a r))) (fun c => H.k (row b c)) (fun c => H.cr (row b c)))
        (fun r => H.g (row a r)) (fun r => H.delta (row a r)) (fun c => H.v (row b c)) r c
      = H.D (row a r) (row b c) := by
  rw [ds, wt_eq H hab]; rfl

/-- On the diagonal too. -/
theorem ds_wtm_eq (a : ℕ) (r c : Fin 1024) :
    ds (wtm (fun r => H.q (row a r)) (fun r => H.cc (row a r)) (fun r => Real.log (H.Z (row a r))) (fun c => H.k (row a c)) (fun c => H.cr (row a c)))
        (fun r => H.g (row a r)) (fun r => H.delta (row a r)) (fun c => H.v (row a c)) r c
      = H.D (row a r) (row a c) := by
  rw [ds, wtm_eq]; rfl

/-- What the body holds of a block of queries. -/
structure Query (a : ℕ) (v12 : FVec Ideal S1024x64 .bf16) (v14 v16 v23 : FVec Ideal S1024x1 .f32) (v24 : FVec Ideal S1024x64 .bf16) : Prop where
  q : ∀ r d, v12 (ix2 r d) = (H.q (row a r) d : EReal)
  c : ∀ r, v14 (ix2 r 0) = (H.cc (row a r) : EReal)
  l : ∀ r, v16 (ix2 r 0) = (Real.log (H.Z (row a r)) : EReal)
  e : ∀ r, v23 (ix2 r 0) = (H.delta (row a r) : EReal)
  g : ∀ r d, v24 (ix2 r d) = (H.g (row a r) d : EReal)

/-- What the body reads of the keys, over all their rows. -/
structure Keys (xk xv : Vec Ideal S1x4096x64 .bf16) (xr : Vec Ideal S1x1x4096 .f32) : Prop where
  k : ∀ (j : Fin 4096) d, xk (ix3 0 j d) = (H.k j.val d : EReal)
  v : ∀ (j : Fin 4096) d, xv (ix3 0 j d) = (H.v j.val d : EReal)
  r : ∀ j : Fin 4096, xr (ix3 0 0 j) = (H.cr j.val : EReal)

/-- What the five accumulators hold when the first `1024 * b` keys have been met by block `a` of the queries. -/
structure Held (a b : ℕ) (dk0 dv0 : ℕ → Fin 64 → ℝ) (dc0 : ℕ → ℝ) (y15 : Vec Ideal S1024x64 .f32) (y16 : Vec Ideal S1024x1 .f32)
    (y17 y18 : Vec Ideal S4096x64 .f32) (y19 : Vec Ideal S1x4096 .f32) : Prop where
  dq : ∀ r d, y15 (ix2 r d) = ((∑ j ∈ Finset.range (1024 * b), H.D (row a r) j * H.k j d : ℝ) : EReal)
  dcq : ∀ r, y16 (ix2 r 0) = ((∑ j ∈ Finset.range (1024 * b), H.D (row a r) j : ℝ) : EReal)
  dk : ∀ (j : Fin 4096) d, y17 (ix2 j d) = ((dk0 j.val d + if j.val < 1024 * b then ∑ r, H.D (row a r) j.val * H.q (row a r) d else 0 : ℝ) : EReal)
  dv : ∀ (j : Fin 4096) d, y18 (ix2 j d) = ((dv0 j.val d + if j.val < 1024 * b then ∑ r, H.p (row a r) j.val * H.g (row a r) d else 0 : ℝ) : EReal)
  dc : ∀ j : Fin 4096, y19 (ix2 0 j) = ((dc0 j.val + if j.val < 1024 * b then ∑ r, H.D (row a r) j.val else 0 : ℝ) : EReal)

/-- Adding one block of rows to an array of rows. -/
theorem acc_step {b : ℕ} (hb : b < 4) (x x' : Fin 4096 → EReal) (x0 inc : ℕ → ℝ)
    (hx : ∀ j, x j = ((x0 j.val + if j.val < 1024 * b then inc j.val else 0 : ℝ) : EReal))
    (hnew : ∀ c : Fin 1024, ∀ s : ℝ, x ⟨row b c, by have := c.isLt; simp only [row]; omega⟩ = (s : EReal) →
      x' ⟨row b c, by have := c.isLt; simp only [row]; omega⟩ = ((s + inc (row b c) : ℝ) : EReal))
    (hmiss : ∀ j : Fin 4096, j.val < 1024 * b ∨ 1024 * b + 1024 ≤ j.val → x' j = x j) (j : Fin 4096) :
    x' j = ((x0 j.val + if j.val < 1024 * (b + 1) then inc j.val else 0 : ℝ) : EReal) := by
  by_cases h : j.val < 1024 * b ∨ 1024 * b + 1024 ≤ j.val
  · rw [hmiss j h, hx j]
    rcases h with h | h
    · rw [if_pos h, if_pos (by omega)]
    · rw [if_neg (by omega), if_neg (by omega)]
  · obtain ⟨h1, h2⟩ := not_or.1 h
    have e : j = ⟨row b ⟨j.val - 1024 * b, by omega⟩, by simp only [row]; omega⟩ := Fin.ext (by simp only [row]; omega)
    have e' : row b ⟨j.val - 1024 * b, by omega⟩ = j.val := by simp only [row]; omega
    have hn := hnew ⟨j.val - 1024 * b, by omega⟩ (x0 j.val) (by rw [← e, hx j, if_neg h1, add_zero])
    rw [← e, e'] at hn
    rw [hn, if_pos (by omega)]

/-- Row `c` of block `b`, as an index of the whole array. -/
abbrev rowIx {b : ℕ} (hb : b < 4) (c : Fin 1024) : Fin 4096 := ⟨row b c, by have := c.isLt; simp only [row]; omega⟩

/-- One more block of keys: what each accumulator must do for the five to hold one block more. -/
theorem Held.step {a b : ℕ} (hb : b < 4) {dk0 dv0 : ℕ → Fin 64 → ℝ} {dc0 : ℕ → ℝ} {y15 y15' : Vec Ideal S1024x64 .f32} {y16 y16' : Vec Ideal S1024x1 .f32}
    {y17 y17' y18 y18' : Vec Ideal S4096x64 .f32} {y19 y19' : Vec Ideal S1x4096 .f32} (h : Held H a b dk0 dv0 dc0 y15 y16 y17 y18 y19)
    (n15 : ∀ r d (s : ℝ), y15 (ix2 r d) = (s : EReal) → y15' (ix2 r d) = ((s + ∑ c, H.D (row a r) (row b c) * H.k (row b c) d : ℝ) : EReal))
    (n16 : ∀ r (s : ℝ), y16 (ix2 r 0) = (s : EReal) → y16' (ix2 r 0) = ((s + ∑ c, H.D (row a r) (row b c) : ℝ) : EReal))
    (n17 : ∀ c d (s : ℝ), y17 (ix2 (rowIx hb c) d) = (s : EReal) →
      y17' (ix2 (rowIx hb c) d) = ((s + ∑ r, H.D (row a r) (row b c) * H.q (row a r) d : ℝ) : EReal))
    (n18 : ∀ c d (s : ℝ), y18 (ix2 (rowIx hb c) d) = (s : EReal) →
      y18' (ix2 (rowIx hb c) d) = ((s + ∑ r, H.p (row a r) (row b c) * H.g (row a r) d : ℝ) : EReal))
    (n19 : ∀ c (s : ℝ), y19 (ix2 0 (rowIx hb c)) = (s : EReal) →
      y19' (ix2 0 (rowIx hb c)) = ((s + ∑ r, H.D (row a r) (row b c) : ℝ) : EReal))
    (m17 : ∀ (j : Fin 4096) d, j.val < 1024 * b ∨ 1024 * b + 1024 ≤ j.val → y17' (ix2 j d) = y17 (ix2 j d))
    (m18 : ∀ (j : Fin 4096) d, j.val < 1024 * b ∨ 1024 * b + 1024 ≤ j.val → y18' (ix2 j d) = y18 (ix2 j d))
    (m19 : ∀ j : Fin 4096, j.val < 1024 * b ∨ 1024 * b + 1024 ≤ j.val → y19' (ix2 0 j) = y19 (ix2 0 j)) :
    Held H a (b + 1) dk0 dv0 dc0 y15' y16' y17' y18' y19' where
  dq r d := by rw [n15 r d _ (h.dq r d), sum_block]
  dcq r := by rw [n16 r _ (h.dcq r), sum_block]
  dk j d := acc_step hb (fun j => y17 (ix2 j d)) (fun j => y17' (ix2 j d)) (fun j => dk0 j d) (fun j => ∑ r, H.D (row a r) j * H.q (row a r) d)
    (fun j => h.dk j d) (fun c s hs => n17 c d s hs) (fun j hj => m17 j d hj) j
  dv j d := acc_step hb (fun j => y18 (ix2 j d)) (fun j => y18' (ix2 j d)) (fun j => dv0 j d) (fun j => ∑ r, H.p (row a r) j * H.g (row a r) d)
    (fun j => h.dv j d) (fun c s hs => n18 c d s hs) (fun j hj => m18 j d hj) j
  dc j := acc_step hb (fun j => y19 (ix2 0 j)) (fun j => y19' (ix2 0 j)) dc0 (fun j => ∑ r, H.D (row a r) j)
    (fun j => h.dc j) (fun c s hs => n19 c s hs) (fun j hj => m19 j hj) j

/-- What the blocks read are the rows of the head. -/
theorem Query.reads {a b : ℕ} (hb : b < 4) {v12 : FVec Ideal S1024x64 .bf16} {v14 v16 v23 : FVec Ideal S1024x1 .f32} {v24 : FVec Ideal S1024x64 .bf16}
    (hQ : Query H a v12 v14 v16 v23 v24) {xk xv : Vec Ideal S1x4096x64 .bf16} {xr : Vec Ideal S1x1x4096 .f32} (hK : Keys H xk xv xr)
    {kb vb : Vec Ideal S1x1024x64 .bf16} {rb : Vec Ideal S1x1x1024 .f32} (hk : ∀ c d, kb (ix3 0 c d) = xk (ix3 0 (rowIx hb c) d))
    (hv : ∀ c d, vb (ix3 0 c d) = xv (ix3 0 (rowIx hb c) d)) (hr : ∀ c, rb (ix3 0 0 c) = xr (ix3 0 0 (rowIx hb c))) :
    Reads v12 v14 v16 v23 v24 kb vb rb (fun r => H.q (row a r)) (fun r => H.g (row a r)) (fun r => H.cc (row a r)) (fun r => Real.log (H.Z (row a r)))
      (fun r => H.delta (row a r)) (fun c => H.k (row b c)) (fun c => H.v (row b c)) (fun c => H.cr (row b c)) where
  q := hQ.q
  c := hQ.c
  l := hQ.l
  e := hQ.e
  g := hQ.g
  k c d := (hk c d).trans (hK.k _ d)
  v c d := (hv c d).trans (hK.v _ d)
  r c := (hr c).trans (hK.r _)

end Cert.KernelIdeal.Blocks
-- ==== Proof.Prologue.lean ====
/- WHAT THE BODY HOLDS BEFORE THE LOOP, and what it stores at the end: the reshapes of the blocks read, the cotangent
   against the output, the accumulators' zeros, the reshapes of the blocks written. -/
module

public import proofs.«01_k».proof.Proof.HeadBlock

@[expose] public section

noncomputable section

namespace Cert.KernelIdeal.Blocks

open Idealize.ShloMosaic Cert.KernelIdeal Cert.KernelIdeal.Gen Cert.Spec

variable (H : Head)

/-- What the blocks of queries read are the rows of block `a` of the head. -/
structure Inputs (a : ℕ) (x0 : Vec Ideal S1x1024x64 .bf16) (x3 : Vec Ideal S1x1024x1 .f32) (x5 : Vec Ideal S1x1024x64 .f32)
    (x6 : Vec Ideal S1x1024x1 .f32) (x7 : Vec Ideal S1x1024x64 .f32) : Prop where
  q : ∀ r d, x0 (ix3 0 r d) = (H.q (row a r) d : EReal)
  c : ∀ r, x3 (ix3 0 r 0) = (H.cc (row a r) : EReal)
  o : ∀ r d, x5 (ix3 0 r d) = (H.o (row a r) d : EReal)
  l : ∀ r, x6 (ix3 0 r 0) = (Real.log (H.Z (row a r)) : EReal)
  g : ∀ r d, x7 (ix3 0 r d) = (H.g (row a r) d : EReal)

/-- Then the values the body holds before the loop are those of block `a`. -/
theorem Inputs.query {a : ℕ} {x0 : Vec Ideal S1x1024x64 .bf16} {x3 : Vec Ideal S1x1024x1 .f32} {x5 : Vec Ideal S1x1024x64 .f32}
    {x6 : Vec Ideal S1x1024x1 .f32} {x7 : Vec Ideal S1x1024x64 .f32} (h : Inputs H a x0 x3 x5 x6 x7) :
    Query H a (k0_pay22 x0) (k0_pay23 x3) (k0_pay24 x6) (k0_pay26 x7 x5) (k0_pay27 x7) where
  q r d := by pointwise [k0_pay22]; exact h.q r d
  c r := by pointwise [k0_pay23]; exact h.c r
  l r := by pointwise [k0_pay24]; exact h.l r
  e r := by
    pointwise [k0_pay26, k0_pay25]
    simp only [h.o, h.g, ← EReal.coe_mul, ← coe_sum]
    rfl
  g r d := by pointwise [k0_pay27, k0_pay25]; exact h.g r d

theorem pay17_apply (j : Fin 4096) (d : Fin 64) : (k0_pay17 : FVec Ideal S4096x64 .f32) (ix2 j d) = ((0 : ℝ) : EReal) := by
  pointwise [k0_pay17]; rfl
theorem pay18_apply (j : Fin 4096) (d : Fin 64) : (k0_pay18 : FVec Ideal S4096x64 .f32) (ix2 j d) = ((0 : ℝ) : EReal) := by
  pointwise [k0_pay18]; rfl
theorem pay19_apply (j : Fin 4096) : (k0_pay19 : FVec Ideal S1x4096 .f32) (ix2 0 j) = ((0 : ℝ) : EReal) := by
  pointwise [k0_pay19]; rfl
theorem pay20_apply (r : Fin 1024) (d : Fin 64) : (k0_pay20 : FVec Ideal S1024x64 .f32) (ix2 r d) = ((0 : ℝ) : EReal) := by
  pointwise [k0_pay20]; rfl
theorem pay21_apply (r : Fin 1024) : (k0_pay21 : FVec Ideal S1024x1 .f32) (ix2 r 0) = ((0 : ℝ) : EReal) := by
  pointwise [k0_pay21]; rfl
theorem pay43_apply (y : Vec Ideal S1024x64 .f32) (r : Fin 1024) (d : Fin 64) : k0_pay43 y (ix3 0 r d) = y (ix2 r d) := by
  pointwise [k0_pay43]
theorem pay1_apply (y : Vec Ideal S1024x1 .f32) (r : Fin 1024) : k0_pay1 y (ix3 0 r 0) = y (ix2 r 0) := by
  pointwise [k0_pay1]
theorem pay2_apply (y : Vec Ideal S4096x64 .f32) (j : Fin 4096) (d : Fin 64) : k0_pay2 y (ix3 0 j d) = y (ix2 j d) := by
  pointwise [k0_pay2]
theorem pay3_apply (y : Vec Ideal S4096x64 .f32) (j : Fin 4096) (d : Fin 64) : k0_pay3 y (ix3 0 j d) = y (ix2 j d) := by
  pointwise [k0_pay3]
theorem pay4_apply (y : Vec Ideal S1x4096 .f32) (j : Fin 4096) : k0_pay4 y (ix3 0 0 j) = y (ix2 0 j) := by
  pointwise [k0_pay4]

/-- With the accumulators of the queries at zero, and nothing asked of the others, no key has been met. -/
theorem Held.start {a : ℕ} {dk0 dv0 : ℕ → Fin 64 → ℝ} {dc0 : ℕ → ℝ} {y15 : Vec Ideal S1024x64 .f32} {y16 : Vec Ideal S1024x1 .f32}
    {y17 y18 : Vec Ideal S4096x64 .f32} {y19 : Vec Ideal S1x4096 .f32} (h15 : ∀ r d, y15 (ix2 r d) = ((0 : ℝ) : EReal))
    (h16 : ∀ r, y16 (ix2 r 0) = ((0 : ℝ) : EReal)) (h17 : ∀ (j : Fin 4096) d, y17 (ix2 j d) = (dk0 j.val d : EReal))
    (h18 : ∀ (j : Fin 4096) d, y18 (ix2 j d) = (dv0 j.val d : EReal)) (h19 : ∀ j : Fin 4096, y19 (ix2 0 j) = (dc0 j.val : EReal)) :
    Held H a 0 dk0 dv0 dc0 y15 y16 y17 y18 y19 where
  dq r d := by rw [h15 r d]; rfl
  dcq r := by rw [h16 r]; rfl
  dk j d := by rw [h17 j d, if_neg (by omega), add_zero]
  dv j d := by rw [h18 j d, if_neg (by omega), add_zero]
  dc j := by rw [h19 j, if_neg (by omega), add_zero]

end Cert.KernelIdeal.Blocks
-- ==== Proof.Windows.lean ====
/- THE WINDOWS: what the blocks that a point of the grid reads hold, in terms of the heads. Point `t` is block `t % 4` of the
   queries of head `t / 4`. -/
module

public import proofs.«01_k».proof.Proof.Host
public import proofs.«01_k».proof.Proof.Prologue

@[expose] public section

set_option maxRecDepth 8192

noncomputable section

namespace Cert.KernelIdeal.Blocks

open Idealize.ShloMosaic Idealize.ShloMosaic.TcCoe
open Idealize.SL.Sem
open Cert.KernelIdeal Cert.KernelIdeal.Gen Cert.Spec

/-- The block of queries a window of queries reads at a point. -/
theorem idx_q : ∀ t : Fin cfg0.N,
    (win0_0.index t (0 : Fin 3) = t.val / 4 ∧ win0_0.index t (1 : Fin 3) = t.val % 4 ∧ win0_0.index t (2 : Fin 3) = 0)
    ∧ (win0_3.index t (0 : Fin 3) = t.val / 4 ∧ win0_3.index t (1 : Fin 3) = t.val % 4 ∧ win0_3.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The block of keys a window of keys reads at a point. -/
theorem idx_k : ∀ t : Fin cfg0.N,
    (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_4.index t (0 : Fin 3) = t.val / 4 ∧ win0_4.index t (1 : Fin 3) = 0 ∧ win0_4.index t (2 : Fin 3) = 0) :=
  (by decide +kernel : ∀ t : Fin grid0.N, _)

/-- An array's index by the numbers of its coordinates. -/
theorem idx_ext {n0 n1 n2 : ℕ} {i : (⟨3, ![n0, n1, n2]⟩ : Shape).Idx} {a : Fin n0} {b : Fin n1} {d : Fin n2}
    (h0 : (i 0).val = a.val) (h1 : (i 1).val = b.val) (h2 : (i 2).val = d.val) : i = ix3 a b d :=
  funext fun x => Fin.ext (by match x with | ⟨0, _⟩ => exact h0 | ⟨1, _⟩ => exact h1 | ⟨2, _⟩ => exact h2)

variable (m : (ℓ : Loc nD τ sig) → Buf (Elt Ideal) ℓ) (c : Dev nD) {H : ℕ → Cert.Spec.Head}
  (R : Cert.RefValue.Args H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))

theorem head_lt (t : Fin cfg0.N) : t.val / 4 < 16 := by have h : t.val < 64 := t.isLt; omega
theorem row_lt_all (t : Fin cfg0.N) (r : Fin 1024) : row (t.val % 4) r < 4096 := by
  have := r.isLt; simp only [row]; omega

/-- The block of queries of a point. -/
theorem iblk_q (t : Fin cfg0.N) (r : Fin 1024) (d : Fin 64) : iblk m c 0 t (ix3 0 r d)
    = m ((c : Thread nD τ).loc main_arg0) (ix3 ⟨t.val / 4, head_lt t⟩ ⟨row (t.val % 4) r, row_lt_all t r⟩ d) := by
  obtain ⟨e0, e1, e2⟩ := (idx_q t).1
  refine Eq.trans ?_ (congrFun (V_main_arg0 m c) _)
  unfold iblk
  generalize V m c = W
  show W main_arg0 (((cfg0.win 0).blk t).view.emb (ix3 0 r d)) = _
  refine congrArg (W main_arg0) (idx_ext ?_ ?_ ?_)
  · show win0_0.index t (0 : Fin 3) * 1 + 1 * 0 = t.val / 4; omega
  · show win0_0.index t (1 : Fin 3) * 1024 + 1 * r.val = 1024 * (t.val % 4) + r.val; omega
  · show win0_0.index t (2 : Fin 3) * 64 + 1 * d.val = d.val; omega

/-- The queries' cumulative gate of a point. -/
theorem iblk_c (t : Fin cfg0.N) (r : Fin 1024) : iblk m c 3 t (ix3 0 r 0)
    = m ((c : Thread nD τ).loc main_arg3) (ix3 ⟨t.val / 4, head_lt t⟩ ⟨row (t.val % 4) r, row_lt_all t r⟩ 0) := by
  obtain ⟨e0, e1, e2⟩ := (idx_q t).2.1
  refine Eq.trans ?_ (congrFun (V_main_arg3 m c) _)
  unfold iblk
  generalize V m c = W
  show W main_arg3 (((cfg0.win 3).blk t).view.emb (ix3 0 r 0)) = _
  refine congrArg (W main_arg3) (idx_ext ?_ ?_ ?_)
  · show win0_3.index t (0 : Fin 3) * 1 + 1 * 0 = t.val / 4; omega
  · show win0_3.index t (1 : Fin 3) * 1024 + 1 * r.val = 1024 * (t.val % 4) + r.val; omega
  · show win0_3.index t (2 : Fin 3) * 1 + 1 * 0 = 0; omega

/-- The output's block of a point. -/
theorem iblk_o (t : Fin cfg0.N) (r : Fin 1024) (d : Fin 64) : iblk m c 5 t (ix3 0 r d)
    = V m c main_v25 (ix3 ⟨t.val / 4, head_lt t⟩ ⟨row (t.val % 4) r, row_lt_all t r⟩ d) := by
  obtain ⟨e0, e1, e2⟩ := (idx_q t).2.2.1
  unfold iblk
  generalize V m c = W
  show W main_v25 (((cfg0.win 5).blk t).view.emb (ix3 0 r d)) = _
  refine congrArg (W main_v25) (idx_ext ?_ ?_ ?_)
  · show win0_5.index t (0 : Fin 3) * 1 + 1 * 0 = t.val / 4; omega
  · show win0_5.index t (1 : Fin 3) * 1024 + 1 * r.val = 1024 * (t.val % 4) + r.val; omega
  · show win0_5.index t (2 : Fin 3) * 64 + 1 * d.val = d.val; omega

/-- The block of the normalisers' logarithms of a point. -/
theorem iblk_l (t : Fin cfg0.N) (r : Fin 1024) : iblk m c 6 t (ix3 0 r 0)
    = V m c main_v27 (ix3 ⟨t.val / 4, head_lt t⟩ ⟨row (t.val % 4) r, row_lt_all t r⟩ 0) := by
  obtain ⟨e0, e1, e2⟩ := (idx_q t).2.2.2.1
  unfold iblk
  generalize V m c = W
  have e : ((cfg0.win 6).blk t).view.emb (ix3 0 r 0) = (ix3 ⟨t.val / 4, head_lt t⟩ ⟨row (t.val % 4) r, row_lt_all t r⟩ 0 : S16x4096x1.Idx) := by
    refine idx_ext ?_ ?_ ?_
    · show win0_6.index t (0 : Fin 3) * 1 + 1 * 0 = t.val / 4; omega
    · show win0_6.index t (1 : Fin 3) * 1024 + 1 * r.val = 1024 * (t.val % 4) + r.val; omega
    · show win0_6.index t (2 : Fin 3) * 1 + 1 * 0 = 0; omega
  rw [View.read_apply, e]
  exact cast_eq _ _

/-- The cotangent's block of a point. -/
theorem iblk_g (t : Fin cfg0.N) (r : Fin 1024) (d : Fin 64) : iblk m c 7 t (ix3 0 r d)
    = m ((c : Thread nD τ).loc main_arg5) (ix3 ⟨t.val / 4, head_lt t⟩ ⟨row (t.val % 4) r, row_lt_all t r⟩ d) := by
  obtain ⟨e0, e1, e2⟩ := (idx_q t).2.2.2.2
  refine Eq.trans ?_ (congrFun (V_main_arg5 m c) _)
  unfold iblk
  generalize V m c = W
  show W main_arg5 (((cfg0.win 7).blk t).view.emb (ix3 0 r d)) = _
  refine congrArg (W main_arg5) (idx_ext ?_ ?_ ?_)
  · show win0_7.index t (0 : Fin 3) * 1 + 1 * 0 = t.val / 4; omega
  · show win0_7.index t (1 : Fin 3) * 1024 + 1 * r.val = 1024 * (t.val % 4) + r.val; omega
  · show win0_7.index t (2 : Fin 3) * 64 + 1 * d.val = d.val; omega

/-- The keys of a point's head. -/
theorem iblk_k (t : Fin cfg0.N) (j : Fin 4096) (d : Fin 64) : iblk m c 1 t (ix3 0 j d)
    = m ((c : Thread nD τ).loc main_arg1) (ix3 ⟨t.val / 4, head_lt t⟩ j d) := by
  obtain ⟨e0, e1, e2⟩ := (idx_k t).1
  refine Eq.trans ?_ (congrFun (V_main_arg1 m c) _)
  unfold iblk
  generalize V m c = W
  show W main_arg1 (((cfg0.win 1).blk t).view.emb (ix3 0 j d)) = _
  refine congrArg (W main_arg1) (idx_ext ?_ ?_ ?_)
  · show win0_1.index t (0 : Fin 3) * 1 + 1 * 0 = t.val / 4; omega
  · show win0_1.index t (1 : Fin 3) * 4096 + 1 * j.val = j.val; omega
  · show win0_1.index t (2 : Fin 3) * 64 + 1 * d.val = d.val; omega

/-- The values of a point's head. -/
theorem iblk_v (t : Fin cfg0.N) (j : Fin 4096) (d : Fin 64) : iblk m c 2 t (ix3 0 j d)
    = m ((c : Thread nD τ).loc main_arg2) (ix3 ⟨t.val / 4, head_lt t⟩ j d) := by
  obtain ⟨e0, e1, e2⟩ := (idx_k t).2.1
  refine Eq.trans ?_ (congrFun (V_main_arg2 m c) _)
  unfold iblk
  generalize V m c = W
  show W main_arg2 (((cfg0.win 2).blk t).view.emb (ix3 0 j d)) = _
  refine congrArg (W main_arg2) (idx_ext ?_ ?_ ?_)
  · show win0_2.index t (0 : Fin 3) * 1 + 1 * 0 = t.val / 4; omega
  · show win0_2.index t (1 : Fin 3) * 4096 + 1 * j.val = j.val; omega
  · show win0_2.index t (2 : Fin 3) * 64 + 1 * d.val = d.val; omega

/-- The keys' cumulative gate of a point's head. -/
theorem iblk_r (t : Fin cfg0.N) (j : Fin 4096) : iblk m c 4 t (ix3 0 0 j)
    = m ((c : Thread nD τ).loc main_arg4) (ix3 ⟨t.val / 4, head_lt t⟩ 0 j) := by
  obtain ⟨e0, e1, e2⟩ := (idx_k t).2.2
  refine Eq.trans ?_ (congrFun (V_main_arg4 m c) _)
  unfold iblk
  generalize V m c = W
  show W main_arg4 (((cfg0.win 4).blk t).view.emb (ix3 0 0 j)) = _
  refine congrArg (W main_arg4) (idx_ext ?_ ?_ ?_)
  · show win0_4.index t (0 : Fin 3) * 1 + 1 * 0 = t.val / 4; omega
  · show win0_4.index t (1 : Fin 3) * 1 + 1 * 0 = 0; omega
  · show win0_4.index t (2 : Fin 3) * 4096 + 1 * j.val = j.val; omega

include R

/-- What the blocks of a point's queries hold. -/
theorem inputs (t : Fin cfg0.N) :
    Inputs (H (t.val / 4)) (t.val % 4) (iblk m c 0 t) (iblk m c 3 t) (iblk m c 5 t) (iblk m c 6 t) (iblk m c 7 t) where
  q r d := (iblk_q m c t r d).trans (R.q _)
  c r := (iblk_c m c t r).trans (R.cc _)
  o r d := (iblk_o m c t r d).trans (HostValue.V_o_apply m c R _)
  l r := (iblk_l m c t r).trans (HostValue.V_lse_apply m c R _)
  g r d := (iblk_g m c t r d).trans (R.g _)

/-- What the blocks of a point's keys hold. -/
theorem keys (t : Fin cfg0.N) : Keys (H (t.val / 4)) (iblk m c 1 t) (iblk m c 2 t) (iblk m c 4 t) where
  k j d := (iblk_k m c t j d).trans (R.k _)
  v j d := (iblk_v m c t j d).trans (R.v _)
  r j := (iblk_r m c t j).trans (R.cr _)

end Cert.KernelIdeal.Blocks
-- ==== Proof.Loop.lean ====
/- THE LOOP OVER THE BLOCKS OF KEYS BELOW THE DIAGONAL: what one trip leaves in the five accumulators, and what all the trips
   leave, by induction. -/
module

public import proofs.«01_k».proof.Proof.HeadBlock
public import proofs.«01_k».proof.Proof.Gen.KernelIdeal.Loops
public import Idealize.ShloMosaic.Lib.WritesUnit
public import Idealize.ShloMosaic.Lib.VecWindow

@[expose] public section

set_option maxRecDepth 8192

noncomputable section

namespace Cert.KernelIdeal.Blocks

open Idealize.ShloMosaic Idealize.ShloMosaic.TcCoe Idealize.ShloMosaic.Tactic
open Idealize.SL.Sem
open Cert.KernelIdeal Cert.KernelIdeal.Gen Cert.Spec

/-- A load of a window reads, at an index of the window, what the view reads at the index moved by the offsets. -/
theorem readAt_window {sig : RefSig} {κ : Kind} {sp : Space} {s : Shape} {e : EltTy} (v : View sig κ sp s e) (f : v.ty.Contents (Elt Ideal))
    {off off' size : Fin s.rank → ℕ} (inb : ∀ a, off a + size a ≤ s.size a) (x : (Rect.unit off size inb).shape.Idx) (y : s.Idx) (ho : off = off')
    (h : ∀ a, (y a).val = off' a + (x a).val) : v.readAt (Elt Ideal) (Rect.unit off size inb).toLoadRect f x = v.read (Elt Ideal) f y :=
  congrArg (v.read (Elt Ideal) f) (funext fun a => Fin.ext (by
    subst ho
    show off a + 1 * (x a).val = (y a).val
    rw [h a, Nat.one_mul]))

/-- The row offset of a block of keys, as the kernel computes it. -/
theorem off_iv {n : ℕ} (h : n < 4) : (Scalar.indexCast (Scalar.muli (Scf.iv 0#32 1#32 n) 1024#32)).toNat = 1024 * n := by
  interval_cases n <;> rfl

/-- The row offset of a block of queries, as the kernel computes it. -/
theorem off_lit {n : ℕ} (h : n < 4) : (Scalar.indexCast (Scalar.muli (BitVec.ofNat 32 n) 1024#32)).toNat = 1024 * n := by
  interval_cases n <;> rfl

/-- The first loop makes one trip for each block of keys below the diagonal. -/
theorem trips_eq (i : grid0.Coords) : (k0_t1_loop i).trips = (i 1).val := by
  have h : (i 1).val < 4 := (i 1).isLt
  show Scf.trips 0#32 (Scalar.addi 0#32 (Scalar.muli (Scalar.divsi (Scalar.subi (BitVec.ofNat 32 (i 1).val) 0#32) 1#32) 1#32)) 1#32 = _
  generalize (i 1).val = n at h
  interval_cases n <;> decide

/-- The second loop makes none. -/
theorem trips2_eq (i : grid0.Coords) : (k0_t2_loop i).trips = 0 := by
  have h : (i 1).val < 4 := (i 1).isLt
  show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = _
  generalize (i 1).val = n at h
  interval_cases n <;> decide

section
variable (𝒱 : Variants) (c : Dev nD) (bd : Option 𝒱.V) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x1 .f32) (harg11 : arg11.IsWhole) (arg12 : Memref sig .tc .vmem S1x4096x64 .f32) (harg12 : arg12.IsWhole) (arg13 : Memref sig .tc .vmem S1x4096x64 .f32) (harg13 : arg13.IsWhole) (arg14 : Memref sig .tc .vmem S1x1x4096 .f32) (harg14 : arg14.IsWhole) (arg15 : Memref sig .tc .vmem S1024x64 .f32) (harg15 : arg15.IsWhole) (arg16 : Memref sig .tc .vmem S1024x1 .f32) (harg16 : arg16.IsWhole) (arg17 : Memref sig .tc .vmem S4096x64 .f32) (harg17 : arg17.IsWhole) (arg18 : Memref sig .tc .vmem S4096x64 .f32) (harg18 : arg18.IsWhole) (arg19 : Memref sig .tc .vmem S1x4096 .f32) (harg19 : arg19.IsWhole) (arg1 : BitVec 32) (v12 : FVec Ideal S1024x64 .bf16) (v14 : FVec Ideal S1024x1 .f32) (v16 : FVec Ideal S1024x1 .f32) (v23 : FVec Ideal S1024x1 .f32) (v24 : FVec Ideal S1024x64 .bf16) (c0_i32_22 : BitVec 32) (c1_i32 : BitVec 32) (v27 : BitVec 32) (X_arg3 : BufTy.Contents (Elt Ideal) arg3.view.ty) (X_arg4 : BufTy.Contents (Elt Ideal) arg4.view.ty) (X_arg6 : BufTy.Contents (Elt Ideal) arg6.view.ty)
  (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)

/-- One trip: block `k` of the keys is added to the accumulators. -/
theorem trip_held (H : Head) (k : Fin (k0_t1_loop i).trips) (dk0 dv0 : ℕ → Fin 64 → ℝ) (dc0 : ℕ → ℝ)
    (hQ : Query H (i 1).val v12 v14 v16 v23 v24)
    (hK : Keys H (arg3.view.read (Elt Ideal) X_arg3) (arg4.view.read (Elt Ideal) X_arg4) (arg6.view.read (Elt Ideal) X_arg6))
    (h : Held H (i 1).val k.val dk0 dv0 dc0 (arg15.view.read (Elt Ideal) f15) (arg16.view.read (Elt Ideal) f16) (arg17.view.read (Elt Ideal) f17)
      (arg18.view.read (Elt Ideal) f18) (arg19.view.read (Elt Ideal) f19)) :
    let L := tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 k f15 f16 f17 f18 f19
    Held H (i 1).val (k.val + 1) dk0 dv0 dc0 (arg15.view.read (Elt Ideal) (arg15.view.writes (Elt Ideal) f15 L.1))
      (arg16.view.read (Elt Ideal) (arg16.view.writes (Elt Ideal) f16 L.2.1)) (arg17.view.read (Elt Ideal) (arg17.view.writes (Elt Ideal) f17 L.2.2.1))
      (arg18.view.read (Elt Ideal) (arg18.view.writes (Elt Ideal) f18 L.2.2.2.1)) (arg19.view.read (Elt Ideal) (arg19.view.writes (Elt Ideal) f19 L.2.2.2.2)) := by
  have hka : k.val < (i 1).val := lt_of_lt_of_eq k.isLt (trips_eq i)
  have h4 : (i 1).val < 4 := (i 1).isLt
  have hb : k.val < 4 := by omega
  have o1 : k0_off1 i k = ![0, 1024 * k.val, 0] := by rw [← off_iv hb]; rfl
  have o2 : k0_off2 i k = ![0, 0, 1024 * k.val] := by rw [← off_iv hb]; rfl
  have o3 : k0_off3 i k = ![1024 * k.val, 0] := by rw [← off_iv hb]; rfl
  have o4 : k0_off4 i k = ![0, 1024 * k.val] := by rw [← off_iv hb]; rfl
  unfold tripL_k0_t1 trip_k0_t1
  intro L
  subst L
  dsimp only
  set kb := View.readAt (Elt Ideal) arg3.view (Rect.unit (s := S1x4096x64) (k0_off1 i k) S1x1024x64.size (k0_off1_inb i k)).toLoadRect X_arg3 with hkb
  set vb := View.readAt (Elt Ideal) arg4.view (Rect.unit (s := S1x4096x64) (k0_off1 i k) S1x1024x64.size (k0_off1_inb i k)).toLoadRect X_arg4 with hvb
  set rb := View.readAt (Elt Ideal) arg6.view (Rect.unit (s := S1x1x4096) (k0_off2 i k) S1x1x1024.size (k0_off2_inb i k)).toLoadRect X_arg6 with hrb
  have w138 : trip_k0_t1.sl.v138 i arg3 arg4 arg6 arg15 v12 v14 v16 v23 v24 X_arg3 X_arg4 X_arg6 k f15
      = k0_pay9 v12 v14 v16 v23 v24 kb rb vb (View.readAt (Elt Ideal) arg15.view (Rect.unit (s := S1024x64) ![0, 0] S1024x64.size (by decide)).toLoadRect f15) := rfl
  have w145 : trip_k0_t1.sl.v145 i arg3 arg4 arg6 arg16 v12 v14 v16 v23 v24 X_arg3 X_arg4 X_arg6 k f16
      = k0_pay10 v12 v14 v16 v23 v24 kb rb vb (View.readAt (Elt Ideal) arg16.view (Rect.unit (s := S1024x1) ![0, 0] S1024x1.size (by decide)).toLoadRect f16) := rfl
  have w132 : trip_k0_t1.sl.v132 i arg3 arg4 arg6 v12 v14 v16 v23 v24 X_arg3 X_arg4 X_arg6 k = k0_pay8 v12 v14 v16 v23 v24 kb rb vb := rfl
  have w131 : trip_k0_t1.sl.v131 i arg3 arg4 arg6 v12 v14 v16 v23 v24 X_arg3 X_arg4 X_arg6 k = k0_pay7 v12 v14 v16 v23 v24 kb rb vb := rfl
  have w124 : trip_k0_t1.sl.v124 i arg3 arg6 v12 v14 v16 X_arg3 X_arg6 k = k0_pay6 v12 v14 v16 kb rb := rfl
  rw [w138, w145, w132, w131, w124]
  have hR := hQ.reads H hb hK (kb := kb) (vb := vb) (rb := rb)
    (fun c d => readAt_window (s := S1x4096x64) _ _ (k0_off1_inb i k) (ix3 0 c d) (ix3 0 (rowIx hb c) d) o1 (by intro x; fin_cases x <;> simp [row]))
    (fun c d => readAt_window (s := S1x4096x64) _ _ (k0_off1_inb i k) (ix3 0 c d) (ix3 0 (rowIx hb c) d) o1 (by intro x; fin_cases x <;> simp [row]))
    (fun c => readAt_window (s := S1x1x4096) _ _ (k0_off2_inb i k) (ix3 0 0 c) (ix3 0 0 (rowIx hb c)) o2 (by intro x; fin_cases x <;> simp [row]))
  refine h.step H hb (fun r d s hs => ?_) (fun r s hs => ?_) (fun c d s hs => ?_) (fun c d s hs => ?_) (fun c s hs => ?_) (fun j d hj => ?_) (fun j d hj => ?_) (fun j hj => ?_)
  · rw [View.read_writes_cons_unit_of_mem _ _ _ _ _ _ (ix2 r d) rfl (by intro x; fin_cases x <;> simp)]
    refine (pay9_apply hR _ r d s ((readAt_window (s := S1024x64) (off' := ![0, 0]) _ _ _ (ix2 r d) (ix2 r d) rfl (by intro x; fin_cases x <;> simp)).trans hs)).trans ?_
    simp only [ds_wt_eq H hka]
  · rw [View.read_writes_cons_unit_of_mem _ _ _ _ _ _ (ix2 r 0) rfl (by intro x; fin_cases x <;> simp)]
    refine (pay10_apply hR _ r s ((readAt_window (s := S1024x1) (off' := ![0, 0]) _ _ _ (ix2 r 0) (ix2 r 0) rfl (by intro x; fin_cases x <;> simp)).trans hs)).trans ?_
    simp only [ds_wt_eq H hka]
  · rw [View.read_writes_cons_unit_of_mem _ _ _ _ _ _ (ix2 c d) o3 (by intro x; fin_cases x <;> simp [row])]
    refine (pay29_apply hR _ c d s ((readAt_window (s := S4096x64) _ _ (k0_off3_inb i k) (ix2 c d) (ix2 (rowIx hb c) d) o3 (by intro x; fin_cases x <;> simp [row])).trans hs)).trans ?_
    simp only [ds_wt_eq H hka]
  · rw [View.read_writes_cons_unit_of_mem _ _ _ _ _ _ (ix2 c d) o3 (by intro x; fin_cases x <;> simp [row])]
    refine (pay28_apply hR _ c d s ((readAt_window (s := S4096x64) _ _ (k0_off3_inb i k) (ix2 c d) (ix2 (rowIx hb c) d) o3 (by intro x; fin_cases x <;> simp [row])).trans hs)).trans ?_
    simp only [wt_eq H hka]
  · rw [View.read_writes_cons_unit_of_mem _ _ _ _ _ _ (ix2 0 c) o4 (by intro x; fin_cases x <;> simp [row])]
    refine (pay30_apply hR _ c s ((readAt_window (s := S1x4096) _ _ (k0_off4_inb i k) (ix2 0 c) (ix2 0 (rowIx hb c)) o4 (by intro x; fin_cases x <;> simp [row])).trans hs)).trans ?_
    simp only [ds_wt_eq H hka]
  · rw [View.read_writes_cons_unit_of_not_mem _ _ _ _ _ _ o3 0 (by simpa using hj)]; rfl
  · rw [View.read_writes_cons_unit_of_not_mem _ _ _ _ _ _ o3 0 (by simpa using hj)]; rfl
  · rw [View.read_writes_cons_unit_of_not_mem _ _ _ _ _ _ o4 1 (by simpa using hj)]; rfl

/-- The first `n` trips: the first `n` blocks of the keys are added to the accumulators. -/
theorem loop_held (H : Head) (dk0 dv0 : ℕ → Fin 64 → ℝ) (dc0 : ℕ → ℝ)
    (hQ : Query H (i 1).val v12 v14 v16 v23 v24)
    (hK : Keys H (arg3.view.read (Elt Ideal) X_arg3) (arg4.view.read (Elt Ideal) X_arg4) (arg6.view.read (Elt Ideal) X_arg6))
    (h : Held H (i 1).val 0 dk0 dv0 dc0 (arg15.view.read (Elt Ideal) f15) (arg16.view.read (Elt Ideal) f16) (arg17.view.read (Elt Ideal) f17)
      (arg18.view.read (Elt Ideal) f18) (arg19.view.read (Elt Ideal) f19)) (n : ℕ) (hn : n ≤ (k0_t1_loop i).trips) :
    let L := pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 f15 f16 f17 f18 f19 n
    Held H (i 1).val n dk0 dv0 dc0 (arg15.view.read (Elt Ideal) (arg15.view.writes (Elt Ideal) f15 L.1))
      (arg16.view.read (Elt Ideal) (arg16.view.writes (Elt Ideal) f16 L.2.1)) (arg17.view.read (Elt Ideal) (arg17.view.writes (Elt Ideal) f17 L.2.2.1))
      (arg18.view.read (Elt Ideal) (arg18.view.writes (Elt Ideal) f18 L.2.2.2.1)) (arg19.view.read (Elt Ideal) (arg19.view.writes (Elt Ideal) f19 L.2.2.2.2)) := by
  induction n with
  | zero => exact h
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 f15 f16 f17 f18 f19 ⟨n, hn⟩
    have t := trip_held 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 _ _ _ _ _ H ⟨n, hn⟩ dk0 dv0 dc0 hQ hK (ih (Nat.le_of_lt hn))
    intro L
    have eL : L = _ := e
    rw [eL]
    simp only [View.writes_append]
    exact t

end

end Cert.KernelIdeal.Blocks
-- ==== Proof.Point.lean ====
/- ONE POINT OF THE GRID: the loop over the blocks of keys below the diagonal, the second loop that makes no trip, and the
   block on the diagonal. -/
module

public import proofs.«01_k».proof.Proof.Loop
public import proofs.«01_k».proof.Proof.Prologue

@[expose] public section

set_option maxRecDepth 8192

noncomputable section

namespace Cert.KernelIdeal.Blocks

open Idealize.ShloMosaic Idealize.ShloMosaic.TcCoe Idealize.ShloMosaic.Tactic
open Idealize.SL.Sem
open Cert.KernelIdeal Cert.KernelIdeal.Gen Cert.Spec

/-- The block on the diagonal is added to the accumulators. -/
theorem diag_held (H : Head) (i : grid0.Coords) (arg3 : Memref sig .tc .vmem S1x4096x64 .bf16) (arg4 : Memref sig .tc .vmem S1x4096x64 .bf16)
    (arg6 : Memref sig .tc .vmem S1x1x4096 .f32) (arg15 : Memref sig .tc .vmem S1024x64 .f32) (arg16 : Memref sig .tc .vmem S1024x1 .f32)
    (arg17 arg18 : Memref sig .tc .vmem S4096x64 .f32) (arg19 : Memref sig .tc .vmem S1x4096 .f32)
    (v12 : FVec Ideal S1024x64 .bf16) (v14 v16 v23 : FVec Ideal S1024x1 .f32) (v24 : FVec Ideal S1024x64 .bf16)
    (X_arg3 : BufTy.Contents (Elt Ideal) arg3.view.ty) (X_arg4 : BufTy.Contents (Elt Ideal) arg4.view.ty) (X_arg6 : BufTy.Contents (Elt Ideal) arg6.view.ty)
    (f15 : BufTy.Contents (Elt Ideal) arg15.view.ty) (f16 : BufTy.Contents (Elt Ideal) arg16.view.ty) (f17 : BufTy.Contents (Elt Ideal) arg17.view.ty)
    (f18 : BufTy.Contents (Elt Ideal) arg18.view.ty) (f19 : BufTy.Contents (Elt Ideal) arg19.view.ty)
    (dk0 dv0 : ℕ → Fin 64 → ℝ) (dc0 : ℕ → ℝ)
    (hQ : Query H (i 1).val v12 v14 v16 v23 v24)
    (hK : Keys H (arg3.view.read (Elt Ideal) X_arg3) (arg4.view.read (Elt Ideal) X_arg4) (arg6.view.read (Elt Ideal) X_arg6))
    (h : Held H (i 1).val (i 1).val dk0 dv0 dc0 (arg15.view.read (Elt Ideal) f15) (arg16.view.read (Elt Ideal) f16) (arg17.view.read (Elt Ideal) f17)
      (arg18.view.read (Elt Ideal) f18) (arg19.view.read (Elt Ideal) f19)) :
    let kb := View.readAt (Elt Ideal) arg3.view (Rect.unit (s := S1x4096x64) (k0_off9 i) S1x1024x64.size (k0_off9_inb i)).toLoadRect X_arg3
    let vb := View.readAt (Elt Ideal) arg4.view (Rect.unit (s := S1x4096x64) (k0_off9 i) S1x1024x64.size (k0_off9_inb i)).toLoadRect X_arg4
    let rb := View.readAt (Elt Ideal) arg6.view (Rect.unit (s := S1x1x4096) (k0_off10 i) S1x1x1024.size (k0_off10_inb i)).toLoadRect X_arg6
    Held H (i 1).val ((i 1).val + 1) dk0 dv0 dc0
      (k0_pay38 v12 v14 v16 v23 v24 kb rb vb (View.readAt (Elt Ideal) arg15.view (Rect.unit (s := S1024x64) ![0, 0] S1024x64.size inb_S1024x64_S1024x64_0_0).toLoadRect f15))
      (k0_pay39 (k0_pay36 v12 v14 v16 v23 v24 kb rb vb) (View.readAt (Elt Ideal) arg16.view (Rect.unit (s := S1024x1) ![0, 0] S1024x1.size inb_S1024x1_S1024x1_0_0).toLoadRect f16))
      (arg17.view.read (Elt Ideal) (arg17.view.writes (Elt Ideal) f17 [⟨Rect.unit (s := S4096x64) (k0_off11 i) S1024x64.size (k0_off11_inb i),
        k0_pay41 v12 (k0_pay37 v12 v14 v16 v23 v24 kb rb vb) (View.readAt (Elt Ideal) arg17.view (Rect.unit (s := S4096x64) (k0_off11 i) S1024x64.size (k0_off11_inb i)).toLoadRect f17)⟩]))
      (arg18.view.read (Elt Ideal) (arg18.view.writes (Elt Ideal) f18 [⟨Rect.unit (s := S4096x64) (k0_off11 i) S1024x64.size (k0_off11_inb i),
        k0_pay40 v24 (k0_pay35 v12 v14 v16 kb rb) (View.readAt (Elt Ideal) arg18.view (Rect.unit (s := S4096x64) (k0_off11 i) S1024x64.size (k0_off11_inb i)).toLoadRect f18)⟩]))
      (arg19.view.read (Elt Ideal) (arg19.view.writes (Elt Ideal) f19 [⟨Rect.unit (s := S1x4096) (k0_off12 i) S1x1024.size (k0_off12_inb i),
        k0_pay42 (k0_pay36 v12 v14 v16 v23 v24 kb rb vb) (View.readAt (Elt Ideal) arg19.view (Rect.unit (s := S1x4096) (k0_off12 i) S1x1024.size (k0_off12_inb i)).toLoadRect f19)⟩])) := by
  have hb : (i 1).val < 4 := (i 1).isLt
  have o1 : k0_off9 i = ![0, 1024 * (i 1).val, 0] := by rw [← off_lit hb]; rfl
  have o2 : k0_off10 i = ![0, 0, 1024 * (i 1).val] := by rw [← off_lit hb]; rfl
  have o3 : k0_off11 i = ![1024 * (i 1).val, 0] := by rw [← off_lit hb]; rfl
  have o4 : k0_off12 i = ![0, 1024 * (i 1).val] := by rw [← off_lit hb]; rfl
  intro kb vb rb
  have hR := hQ.reads H hb hK (kb := kb) (vb := vb) (rb := rb)
    (fun c d => readAt_window (s := S1x4096x64) _ _ (k0_off9_inb i) (ix3 0 c d) (ix3 0 (rowIx hb c) d) o1 (by intro x; fin_cases x <;> simp [row]))
    (fun c d => readAt_window (s := S1x4096x64) _ _ (k0_off9_inb i) (ix3 0 c d) (ix3 0 (rowIx hb c) d) o1 (by intro x; fin_cases x <;> simp [row]))
    (fun c => readAt_window (s := S1x1x4096) _ _ (k0_off10_inb i) (ix3 0 0 c) (ix3 0 0 (rowIx hb c)) o2 (by intro x; fin_cases x <;> simp [row]))
  refine h.step H hb (fun r d s hs => ?_) (fun r s hs => ?_) (fun c d s hs => ?_) (fun c d s hs => ?_) (fun c s hs => ?_) (fun j d hj => ?_) (fun j d hj => ?_) (fun j hj => ?_)
  · refine (pay38_apply hR _ r d s ((readAt_window (s := S1024x64) (off' := ![0, 0]) _ _ _ (ix2 r d) (ix2 r d) rfl (by intro x; fin_cases x <;> simp)).trans hs)).trans ?_
    simp only [ds_wtm_eq H]
  · refine (pay39_apply hR _ r s ((readAt_window (s := S1024x1) (off' := ![0, 0]) _ _ _ (ix2 r 0) (ix2 r 0) rfl (by intro x; fin_cases x <;> simp)).trans hs)).trans ?_
    simp only [ds_wtm_eq H]
  · rw [View.read_writes_cons_unit_of_mem _ _ _ _ _ _ (ix2 c d) o3 (by intro x; fin_cases x <;> simp [row])]
    refine (pay41_apply hR _ c d s ((readAt_window (s := S4096x64) _ _ (k0_off11_inb i) (ix2 c d) (ix2 (rowIx hb c) d) o3 (by intro x; fin_cases x <;> simp [row])).trans hs)).trans ?_
    simp only [ds_wtm_eq H]
  · rw [View.read_writes_cons_unit_of_mem _ _ _ _ _ _ (ix2 c d) o3 (by intro x; fin_cases x <;> simp [row])]
    refine (pay40_apply hR _ c d s ((readAt_window (s := S4096x64) _ _ (k0_off11_inb i) (ix2 c d) (ix2 (rowIx hb c) d) o3 (by intro x; fin_cases x <;> simp [row])).trans hs)).trans ?_
    simp only [wtm_eq H]
  · rw [View.read_writes_cons_unit_of_mem _ _ _ _ _ _ (ix2 0 c) o4 (by intro x; fin_cases x <;> simp [row])]
    refine (pay42_apply hR _ c s ((readAt_window (s := S1x4096) _ _ (k0_off12_inb i) (ix2 0 c) (ix2 0 (rowIx hb c)) o4 (by intro x; fin_cases x <;> simp [row])).trans hs)).trans ?_
    simp only [ds_wtm_eq H]
  · rw [View.read_writes_cons_unit_of_not_mem _ _ _ _ _ _ o3 0 (by simpa using hj)]; rfl
  · rw [View.read_writes_cons_unit_of_not_mem _ _ _ _ _ _ o3 0 (by simpa using hj)]; rfl
  · rw [View.read_writes_cons_unit_of_not_mem _ _ _ _ _ _ o4 1 (by simpa using hj)]; rfl

section
variable (𝒱 : Variants) (c : Dev nD) (bd : Option 𝒱.V) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x1 .f32) (harg11 : arg11.IsWhole) (arg12 : Memref sig .tc .vmem S1x4096x64 .f32) (harg12 : arg12.IsWhole) (arg13 : Memref sig .tc .vmem S1x4096x64 .f32) (harg13 : arg13.IsWhole) (arg14 : Memref sig .tc .vmem S1x1x4096 .f32) (harg14 : arg14.IsWhole) (arg15 : Memref sig .tc .vmem S1024x64 .f32) (harg15 : arg15.IsWhole) (arg16 : Memref sig .tc .vmem S1024x1 .f32) (harg16 : arg16.IsWhole) (arg17 : Memref sig .tc .vmem S4096x64 .f32) (harg17 : arg17.IsWhole) (arg18 : Memref sig .tc .vmem S4096x64 .f32) (harg18 : arg18.IsWhole) (arg19 : Memref sig .tc .vmem S1x4096 .f32) (harg19 : arg19.IsWhole) (arg1 : BitVec 32) (v12 : FVec Ideal S1024x64 .bf16) (v14 : FVec Ideal S1024x1 .f32) (v16 : FVec Ideal S1024x1 .f32) (v23 : FVec Ideal S1024x1 .f32) (v24 : FVec Ideal S1024x64 .bf16) (c0_i32_22 : BitVec 32) (c1_i32 : BitVec 32) (v27 : BitVec 32) (X_arg3 : BufTy.Contents (Elt Ideal) arg3.view.ty) (X_arg4 : BufTy.Contents (Elt Ideal) arg4.view.ty) (X_arg6 : BufTy.Contents (Elt Ideal) arg6.view.ty)
  (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)

/-- The second loop's pieces before its first trip, and so all of them: none. -/
theorem loop2_nil (v29 : BitVec 32) :
    pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 v29 X_arg3 X_arg4 X_arg6 f15 f16 f17 f18 f19
      (Scf.trips (Scalar.addi 0#32 (Scalar.muli (Scalar.divsi (Scalar.subi (BitVec.ofNat 32 (i 1).val) 0#32) 1#32) 1#32))
        (Scalar.addi 0#32 (Scalar.subi (BitVec.ofNat 32 (i 1).val) 0#32)) 1#32) = ([], [], [], [], []) := by
  rw [show Scf.trips (Scalar.addi 0#32 (Scalar.muli (Scalar.divsi (Scalar.subi (BitVec.ofNat 32 (i 1).val) 0#32) 1#32) 1#32))
        (Scalar.addi 0#32 (Scalar.subi (BitVec.ofNat 32 (i 1).val) 0#32)) 1#32 = 0 from trips2_eq i]
  rfl

/-- The first loop whole. -/
theorem loops_held (H : Head) (dk0 dv0 : ℕ → Fin 64 → ℝ) (dc0 : ℕ → ℝ)
    (hQ : Query H (i 1).val v12 v14 v16 v23 v24)
    (hK : Keys H (arg3.view.read (Elt Ideal) X_arg3) (arg4.view.read (Elt Ideal) X_arg4) (arg6.view.read (Elt Ideal) X_arg6))
    (h : Held H (i 1).val 0 dk0 dv0 dc0 (arg15.view.read (Elt Ideal) f15) (arg16.view.read (Elt Ideal) f16) (arg17.view.read (Elt Ideal) f17)
      (arg18.view.read (Elt Ideal) f18) (arg19.view.read (Elt Ideal) f19)) :
    let L := pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 f15 f16 f17 f18 f19
      (Scf.trips 0#32 (Scalar.addi 0#32 (Scalar.muli (Scalar.divsi (Scalar.subi (BitVec.ofNat 32 (i 1).val) 0#32) 1#32) 1#32)) 1#32)
    Held H (i 1).val (i 1).val dk0 dv0 dc0 (arg15.view.read (Elt Ideal) (arg15.view.writes (Elt Ideal) f15 L.1))
      (arg16.view.read (Elt Ideal) (arg16.view.writes (Elt Ideal) f16 L.2.1)) (arg17.view.read (Elt Ideal) (arg17.view.writes (Elt Ideal) f17 L.2.2.1))
      (arg18.view.read (Elt Ideal) (arg18.view.writes (Elt Ideal) f18 L.2.2.2.1)) (arg19.view.read (Elt Ideal) (arg19.view.writes (Elt Ideal) f19 L.2.2.2.2)) := by
  have t := loop_held 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v12 v14 v16 v23 v24 c0_i32_22 c1_i32 v27 X_arg3 X_arg4 X_arg6 f15 f16 f17 f18 f19 H dk0 dv0 dc0 hQ hK h _ le_rfl
  rw [show Held H (i 1).val (i 1).val = Held H (i 1).val (k0_t1_loop i).trips from by rw [trips_eq]]
  exact t

end

end Cert.KernelIdeal.Blocks
-- ==== Proof.CaseA.lean ====
/- THE POINTS OF THE GRID, case by case: what a point leaves in the accumulators and in the outputs' blocks. -/
module

public import proofs.«01_k».proof.Proof.Point
public import proofs.«01_k».proof.Proof.Gen.KernelIdeal.Frame

@[expose] public section

set_option maxRecDepth 8192

noncomputable section

namespace Cert.KernelIdeal.Blocks

open Idealize.ShloMosaic Idealize.ShloMosaic.TcCoe Idealize.ShloMosaic.Tactic
open Idealize.SL.Sem
open Cert.KernelIdeal Cert.KernelIdeal.Gen Cert.Spec

/-- A load of a whole buffer held at `X` reads `X`. -/
theorem readAt_unread {s : Shape} {e : EltTy} (arg : Memref sig .tc .vmem s e) (h : arg.IsWhole) (X : s.Idx → Elt Ideal e)
    {off : Fin s.rank → ℕ} (inb : ∀ a, off a + s.size a ≤ s.size a) :
    View.readAt (Elt Ideal) arg.view (Rect.unit off s.size inb).toLoadRect (h.unread X) = X :=
  (View.readAt_full _ _ _).trans (h.read_unread X)

/-- What is read back from a buffer filled from nothing depends on the buffer only through its name. -/
theorem read_writes_of_eq {s : Shape} {e : EltTy} {a b : Memref sig .tc .vmem s e} (h : a = b) (L : List (View.Piece (Elt Ideal) s e)) :
    View.read (Elt Ideal) b.view (View.writes b.view (Elt Ideal) b.view.junk L) = View.read (Elt Ideal) a.view (View.writes a.view (Elt Ideal) a.view.junk L) := by
  subst h; rfl

/-- The five accumulators may be named otherwise. -/
theorem Held.congr {H : Head} {a b : ℕ} {dk0 dv0 : ℕ → Fin 64 → ℝ} {dc0 : ℕ → ℝ} {y15 : Vec Ideal S1024x64 .f32} {y16 : Vec Ideal S1024x1 .f32}
    {y17 y17' y18 y18' : Vec Ideal S4096x64 .f32} {y19 y19' : Vec Ideal S1x4096 .f32} (h : Held H a b dk0 dv0 dc0 y15 y16 y17 y18 y19)
    (e17 : y17' = y17) (e18 : y18' = y18) (e19 : y19' = y19) : Held H a b dk0 dv0 dc0 y15 y16 y17' y18' y19' := by
  subst e17 e18 e19; exact h

variable (c : Dev nD) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x1 .f32) (harg11 : arg11.IsWhole) (arg12 : Memref sig .tc .vmem S1x4096x64 .f32) (harg12 : arg12.IsWhole) (arg13 : Memref sig .tc .vmem S1x4096x64 .f32) (harg13 : arg13.IsWhole) (arg14 : Memref sig .tc .vmem S1x1x4096 .f32) (harg14 : arg14.IsWhole) (arg15 : Memref sig .tc .vmem S1024x64 .f32) (harg15 : arg15.IsWhole) (arg16 : Memref sig .tc .vmem S1024x1 .f32) (harg16 : arg16.IsWhole) (arg17 : Memref sig .tc .vmem S4096x64 .f32) (harg17 : arg17.IsWhole) (arg18 : Memref sig .tc .vmem S4096x64 .f32) (harg18 : arg18.IsWhole) (arg19 : Memref sig .tc .vmem S1x4096 .f32) (harg19 : arg19.IsWhole)
  (x0 : Vec Ideal S1x1024x64 .bf16) (x1 : Vec Ideal S1x4096x64 .bf16) (x2 : Vec Ideal S1x4096x64 .bf16) (x3 : Vec Ideal S1x1024x1 .f32) (x4 : Vec Ideal S1x1x4096 .f32) (x5 : Vec Ideal S1x1024x64 .f32) (x6 : Vec Ideal S1x1024x1 .f32) (x7 : Vec Ideal S1x1024x64 .f32) (xs2 : Vec Ideal S4096x64 .f32) (xs3 : Vec Ideal S4096x64 .f32) (xs4 : Vec Ideal S1x4096 .f32)

/-- What the first point of a head leaves in accumulator 17, by the buffer's own name. -/
theorem soutA_2 (e : arg17 = scM0_2) (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7
      = View.read (Elt Ideal) arg17.view (View.writes arg17.view (Elt Ideal) arg17.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.1) := by
  unfold sout0_A_2
  exact read_writes_of_eq e _

/-- What the first point of a head leaves in accumulator 18, by the buffer's own name. -/
theorem soutA_3 (e : arg18 = scM0_3) (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7
      = View.read (Elt Ideal) arg18.view (View.writes arg18.view (Elt Ideal) arg18.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.1) := by
  unfold sout0_A_3
  exact read_writes_of_eq e _

/-- What the first point of a head leaves in accumulator 19, by the buffer's own name. -/
theorem soutA_4 (e : arg19 = scM0_4) (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7
      = View.read (Elt Ideal) arg19.view (View.writes arg19.view (Elt Ideal) arg19.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.1) := by
  unfold sout0_A_4
  exact read_writes_of_eq e _

theorem caseA_read (hc0 : cond0_0 i) (hc1 : ¬cond0_1 i) (H : Head) (hI : Inputs H (i 1).val x0 x3 x5 x6 x7) (hK : Keys H x1 x2 x4)
     :
    ∃ y15 y16, Held H (i 1).val ((i 1).val + 1) (fun _ _ => 0) (fun _ _ => 0) (fun _ => 0) y15 y16 (View.read (Elt Ideal) arg17.view (View.writes arg17.view (Elt Ideal) arg17.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.1)) (View.read (Elt Ideal) arg18.view (View.writes arg18.view (Elt Ideal) arg18.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.1)) (View.read (Elt Ideal) arg19.view (View.writes arg19.view (Elt Ideal) arg19.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7).2.2.2.2.2.2.2.1))
      ∧ out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 = k0_pay43 y15 ∧ out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 = k0_pay1 y16 := by
  have hQ : Query H (i 1).val (kernelRun0_A.sl.r c arg2 harg2 x0) (kernelRun0_A.sl.r_1 c arg5 harg5 x3) (kernelRun0_A.sl.r_2 c arg8 harg8 x6) (kernelRun0_A.sl.r_3 c arg7 harg7 arg9 harg9 x5 x7) (kernelRun0_A.sl.r_4 c arg9 harg9 x7) := by
    have e0 : kernelRun0_A.sl.r c arg2 harg2 x0 = k0_pay22 x0 := congrArg k0_pay22 (readAt_unread arg2 harg2 x0 _)
    have e1 : kernelRun0_A.sl.r_1 c arg5 harg5 x3 = k0_pay23 x3 := congrArg k0_pay23 (readAt_unread arg5 harg5 x3 _)
    have e2 : kernelRun0_A.sl.r_2 c arg8 harg8 x6 = k0_pay24 x6 := congrArg k0_pay24 (readAt_unread arg8 harg8 x6 _)
    have e3 : kernelRun0_A.sl.r_3 c arg7 harg7 arg9 harg9 x5 x7 = k0_pay26 x7 x5 := congrArg₂ k0_pay26 (readAt_unread arg9 harg9 x7 _) (readAt_unread arg7 harg7 x5 _)
    have e4 : kernelRun0_A.sl.r_4 c arg9 harg9 x7 = k0_pay27 x7 := congrArg k0_pay27 (readAt_unread arg9 harg9 x7 _)
    rw [e0, e1, e2, e3, e4]
    exact hI.query H
  have hK' : Keys H (arg3.view.read (Elt Ideal) (harg3.unread x1)) (arg4.view.read (Elt Ideal) (harg4.unread x2)) (arg6.view.read (Elt Ideal) (harg6.unread x4)) := by
    rw [harg3.read_unread, harg4.read_unread, harg6.read_unread]; exact hK
  have z15 : arg15.view.read (Elt Ideal) (arg15.view.writes (Elt Ideal) arg15.view.junk (kernelRun0_A.sl.HS0_1 (F := Ideal))) = k0_pay20 (F := Ideal) :=
    by unfold kernelRun0_A.sl.HS0_1; exact View.read_writes_full (Val := Elt Ideal) arg15.view arg15.view.junk inb_S1024x64_S1024x64_0_0 _ []
  have z16 : arg16.view.read (Elt Ideal) (arg16.view.writes (Elt Ideal) arg16.view.junk (kernelRun0_A.sl.HS1_1 (F := Ideal))) = k0_pay21 (F := Ideal) :=
    by unfold kernelRun0_A.sl.HS1_1; exact View.read_writes_full (Val := Elt Ideal) arg16.view arg16.view.junk inb_S1024x1_S1024x1_0_0 _ []
  have z17 : arg17.view.read (Elt Ideal) (arg17.view.writes (Elt Ideal) arg17.view.junk (kernelRun0_A.sl.HS2_1 (F := Ideal))) = k0_pay17 (F := Ideal) :=
    by unfold kernelRun0_A.sl.HS2_1; exact View.read_writes_full (Val := Elt Ideal) arg17.view arg17.view.junk inb_S4096x64_S4096x64_0_0 _ []
  have z18 : arg18.view.read (Elt Ideal) (arg18.view.writes (Elt Ideal) arg18.view.junk (kernelRun0_A.sl.HS3_1 (F := Ideal))) = k0_pay18 (F := Ideal) :=
    by unfold kernelRun0_A.sl.HS3_1; exact View.read_writes_full (Val := Elt Ideal) arg18.view arg18.view.junk inb_S4096x64_S4096x64_0_0 _ []
  have z19 : arg19.view.read (Elt Ideal) (arg19.view.writes (Elt Ideal) arg19.view.junk (kernelRun0_A.sl.HS4_1 (F := Ideal))) = k0_pay19 (F := Ideal) :=
    by unfold kernelRun0_A.sl.HS4_1; exact View.read_writes_full (Val := Elt Ideal) arg19.view arg19.view.junk inb_S1x4096_S1x4096_0_0 _ []
  have h0 := Held.start H (a := (i 1).val) (dk0 := (fun _ _ => 0)) (dv0 := (fun _ _ => 0)) (dc0 := (fun _ => 0))
    (y15 := arg15.view.read (Elt Ideal) (arg15.view.writes (Elt Ideal) arg15.view.junk (kernelRun0_A.sl.HS0_1 (F := Ideal))))
    (y16 := arg16.view.read (Elt Ideal) (arg16.view.writes (Elt Ideal) arg16.view.junk (kernelRun0_A.sl.HS1_1 (F := Ideal))))
    (y17 := arg17.view.read (Elt Ideal) (arg17.view.writes (Elt Ideal) arg17.view.junk (kernelRun0_A.sl.HS2_1 (F := Ideal)))) (y18 := arg18.view.read (Elt Ideal) (arg18.view.writes (Elt Ideal) arg18.view.junk (kernelRun0_A.sl.HS3_1 (F := Ideal)))) (y19 := arg19.view.read (Elt Ideal) (arg19.view.writes (Elt Ideal) arg19.view.junk (kernelRun0_A.sl.HS4_1 (F := Ideal))))
    (fun r d => (congrFun z15 (ix2 r d)).trans (pay20_apply r d))
    (fun r => (congrFun z16 (ix2 r 0)).trans (pay21_apply r))
    (fun j d => (congrFun z17 (ix2 j d)).trans (pay17_apply j d))
    (fun j d => (congrFun z18 (ix2 j d)).trans (pay18_apply j d))
    (fun j => (congrFun z19 (ix2 0 j)).trans (pay19_apply j))
  have L := loops_held Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) _ _ _ _ _ 0#32 1#32 (kernelRun0_A.sl.v27 i) (harg3.unread x1) (harg4.unread x2) (harg6.unread x4) (arg15.view.writes (Elt Ideal) arg15.view.junk (kernelRun0_A.sl.HS0_1 (F := Ideal))) (arg16.view.writes (Elt Ideal) arg16.view.junk (kernelRun0_A.sl.HS1_1 (F := Ideal))) (arg17.view.writes (Elt Ideal) arg17.view.junk (kernelRun0_A.sl.HS2_1 (F := Ideal))) (arg18.view.writes (Elt Ideal) arg18.view.junk (kernelRun0_A.sl.HS3_1 (F := Ideal))) (arg19.view.writes (Elt Ideal) arg19.view.junk (kernelRun0_A.sl.HS4_1 (F := Ideal))) H (fun _ _ => 0) (fun _ _ => 0) (fun _ => 0) hQ hK' h0
  have D := diag_held H i arg3 arg4 arg6 arg15 arg16 arg17 arg18 arg19 _ _ _ _ _ (harg3.unread x1) (harg4.unread x2) (harg6.unread x4) _ _ _ _ _ (fun _ _ => 0) (fun _ _ => 0) (fun _ => 0) hQ hK' L
  unfold out0_A_8 out0_A_9 kernelRun0_A
  dsimp only
  unfold kernelRun0_A.sl.v98 kernelRun0_A.sl.v102 kernelRun0_A.sl.HS0_1_1 kernelRun0_A.sl.HS1_1_1 kernelRun0_A.sl.v82 kernelRun0_A.sl.r_5 kernelRun0_A.sl.r_6 kernelRun0_A.sl.r_7 kernelRun0_A.sl.v59 kernelRun0_A.sl.v73 kernelRun0_A.sl.v65 kernelRun0_A.sl.v90
  unfold k0_t1_loop k0_t2_loop
  dsimp only
  simp only [loop2_nil, List.nil_append]
  dsimp only at D
  generalize pb_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ = L at D ⊢
  clear h0 z15 z16
  rw [← View.writes_append arg15.view arg15.view.junk L.1 (kernelRun0_A.sl.HS0_1 (F := Ideal)), ← View.writes_append arg16.view arg16.view.junk L.2.1 (kernelRun0_A.sl.HS1_1 (F := Ideal)), ← View.writes_append arg17.view arg17.view.junk L.2.2.1 (kernelRun0_A.sl.HS2_1 (F := Ideal)), ← View.writes_append arg18.view arg18.view.junk L.2.2.2.1 (kernelRun0_A.sl.HS3_1 (F := Ideal)), ← View.writes_append arg19.view arg19.view.junk L.2.2.2.2 (kernelRun0_A.sl.HS4_1 (F := Ideal))] at D
  refine ⟨_, _, ?_, (View.read_writes_full (Val := Elt Ideal) VO0_8 _ inb_S1x1024x64_S1x1024x64_0_0_0 _ []).trans
      (congrArg k0_pay43 (View.readCov_full arg15.view inb_S1024x64_S1024x64_0_0 inb_S1024x64_S1024x64_0_0 _ _)),
    (View.read_writes_full (Val := Elt Ideal) VO0_9 _ inb_S1x1024x1_S1x1024x1_0_0_0 _ []).trans
      (congrArg k0_pay1 (View.readCov_full arg16.view inb_S1024x1_S1024x1_0_0 inb_S1024x1_S1024x1_0_0 _ _))⟩
  exact D

/-- The first point of a head. -/
theorem caseA (e17 : arg17 = scM0_2) (e18 : arg18 = scM0_3) (e19 : arg19 = scM0_4) (hc0 : cond0_0 i) (hc1 : ¬cond0_1 i) (H : Head) (hI : Inputs H (i 1).val x0 x3 x5 x6 x7) (hK : Keys H x1 x2 x4)
     :
    ∃ y15 y16, Held H (i 1).val ((i 1).val + 1) (fun _ _ => 0) (fun _ _ => 0) (fun _ => 0) y15 y16 (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7) (sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7)
      ∧ out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 = k0_pay43 y15 ∧ out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 = k0_pay1 y16 := by
  obtain ⟨y15, y16, h, h8, h9⟩ := caseA_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 hc0 hc1 H hI hK
  exact ⟨y15, y16, h.congr (soutA_2 (e := e17) ..) (soutA_3 (e := e18) ..) (soutA_4 (e := e19) ..), h8, h9⟩

end Cert.KernelIdeal.Blocks
-- ==== Proof.CaseB.lean ====
/- THE POINTS OF THE GRID, case by case: what a point leaves in the accumulators and in the outputs' blocks. -/
module

public import proofs.«01_k».proof.Proof.Point
public import proofs.«01_k».proof.Proof.Gen.KernelIdeal.Frame

@[expose] public section

set_option maxRecDepth 8192

noncomputable section

namespace Cert.KernelIdeal.Blocks

open Idealize.ShloMosaic Idealize.ShloMosaic.TcCoe Idealize.ShloMosaic.Tactic
open Idealize.SL.Sem
open Cert.KernelIdeal Cert.KernelIdeal.Gen Cert.Spec

/-- A load of a whole buffer held at `X` reads `X`. -/
theorem readAt_unread {s : Shape} {e : EltTy} (arg : Memref sig .tc .vmem s e) (h : arg.IsWhole) (X : s.Idx → Elt Ideal e)
    {off : Fin s.rank → ℕ} (inb : ∀ a, off a + s.size a ≤ s.size a) :
    View.readAt (Elt Ideal) arg.view (Rect.unit off s.size inb).toLoadRect (h.unread X) = X :=
  (View.readAt_full _ _ _).trans (h.read_unread X)

variable (c : Dev nD) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x1 .f32) (harg11 : arg11.IsWhole) (arg12 : Memref sig .tc .vmem S1x4096x64 .f32) (harg12 : arg12.IsWhole) (arg13 : Memref sig .tc .vmem S1x4096x64 .f32) (harg13 : arg13.IsWhole) (arg14 : Memref sig .tc .vmem S1x1x4096 .f32) (harg14 : arg14.IsWhole) (arg15 : Memref sig .tc .vmem S1024x64 .f32) (harg15 : arg15.IsWhole) (arg16 : Memref sig .tc .vmem S1024x1 .f32) (harg16 : arg16.IsWhole) (arg17 : Memref sig .tc .vmem S4096x64 .f32) (harg17 : arg17.IsWhole) (arg18 : Memref sig .tc .vmem S4096x64 .f32) (harg18 : arg18.IsWhole) (arg19 : Memref sig .tc .vmem S1x4096 .f32) (harg19 : arg19.IsWhole)
  (x0 : Vec Ideal S1x1024x64 .bf16) (x1 : Vec Ideal S1x4096x64 .bf16) (x2 : Vec Ideal S1x4096x64 .bf16) (x3 : Vec Ideal S1x1024x1 .f32) (x4 : Vec Ideal S1x1x4096 .f32) (x5 : Vec Ideal S1x1024x64 .f32) (x6 : Vec Ideal S1x1024x1 .f32) (x7 : Vec Ideal S1x1024x64 .f32) (xs2 : Vec Ideal S4096x64 .f32) (xs3 : Vec Ideal S4096x64 .f32) (xs4 : Vec Ideal S1x4096 .f32)

theorem caseB (hc0 : ¬cond0_0 i) (hc1 : ¬cond0_1 i) (H : Head) (hI : Inputs H (i 1).val x0 x3 x5 x6 x7) (hK : Keys H x1 x2 x4)
    (dk0 dv0 : ℕ → Fin 64 → ℝ) (dc0 : ℕ → ℝ)
    (h17 : ∀ (j : Fin 4096) d, xs2 (ix2 j d) = (dk0 j.val d : EReal)) (h18 : ∀ (j : Fin 4096) d, xs3 (ix2 j d) = (dv0 j.val d : EReal))
    (h19 : ∀ j : Fin 4096, xs4 (ix2 0 j) = (dc0 j.val : EReal)) :
    ∃ y15 y16, Held H (i 1).val ((i 1).val + 1) dk0 dv0 dc0 y15 y16 (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) (sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) (sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4)
      ∧ out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay43 y15 ∧ out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay1 y16 := by
  have hQ : Query H (i 1).val (kernelRun0_B.sl.r c arg2 harg2 x0) (kernelRun0_B.sl.r_1 c arg5 harg5 x3) (kernelRun0_B.sl.r_2 c arg8 harg8 x6) (kernelRun0_B.sl.r_3 c arg7 harg7 arg9 harg9 x5 x7) (kernelRun0_B.sl.r_4 c arg9 harg9 x7) := by
    have e0 : kernelRun0_B.sl.r c arg2 harg2 x0 = k0_pay22 x0 := congrArg k0_pay22 (readAt_unread arg2 harg2 x0 _)
    have e1 : kernelRun0_B.sl.r_1 c arg5 harg5 x3 = k0_pay23 x3 := congrArg k0_pay23 (readAt_unread arg5 harg5 x3 _)
    have e2 : kernelRun0_B.sl.r_2 c arg8 harg8 x6 = k0_pay24 x6 := congrArg k0_pay24 (readAt_unread arg8 harg8 x6 _)
    have e3 : kernelRun0_B.sl.r_3 c arg7 harg7 arg9 harg9 x5 x7 = k0_pay26 x7 x5 := congrArg₂ k0_pay26 (readAt_unread arg9 harg9 x7 _) (readAt_unread arg7 harg7 x5 _)
    have e4 : kernelRun0_B.sl.r_4 c arg9 harg9 x7 = k0_pay27 x7 := congrArg k0_pay27 (readAt_unread arg9 harg9 x7 _)
    rw [e0, e1, e2, e3, e4]
    exact hI.query H
  have hK' : Keys H (arg3.view.read (Elt Ideal) (harg3.unread x1)) (arg4.view.read (Elt Ideal) (harg4.unread x2)) (arg6.view.read (Elt Ideal) (harg6.unread x4)) := by
    rw [harg3.read_unread, harg4.read_unread, harg6.read_unread]; exact hK
  have z15 : arg15.view.read (Elt Ideal) (arg15.view.writes (Elt Ideal) arg15.view.junk (kernelRun0_B.sl.HS0_1 (F := Ideal))) = k0_pay20 (F := Ideal) :=
    by unfold kernelRun0_B.sl.HS0_1; exact View.read_writes_full (Val := Elt Ideal) arg15.view arg15.view.junk inb_S1024x64_S1024x64_0_0 _ []
  have z16 : arg16.view.read (Elt Ideal) (arg16.view.writes (Elt Ideal) arg16.view.junk (kernelRun0_B.sl.HS1_1 (F := Ideal))) = k0_pay21 (F := Ideal) :=
    by unfold kernelRun0_B.sl.HS1_1; exact View.read_writes_full (Val := Elt Ideal) arg16.view arg16.view.junk inb_S1024x1_S1024x1_0_0 _ []
  have h0 := Held.start H (a := (i 1).val) (dk0 := dk0) (dv0 := dv0) (dc0 := dc0)
    (y15 := arg15.view.read (Elt Ideal) (arg15.view.writes (Elt Ideal) arg15.view.junk (kernelRun0_B.sl.HS0_1 (F := Ideal))))
    (y16 := arg16.view.read (Elt Ideal) (arg16.view.writes (Elt Ideal) arg16.view.junk (kernelRun0_B.sl.HS1_1 (F := Ideal))))
    (y17 := arg17.view.read (Elt Ideal) (harg17.unread xs2)) (y18 := arg18.view.read (Elt Ideal) (harg18.unread xs3)) (y19 := arg19.view.read (Elt Ideal) (harg19.unread xs4))
    (fun r d => (congrFun z15 (ix2 r d)).trans (pay20_apply r d))
    (fun r => (congrFun z16 (ix2 r 0)).trans (pay21_apply r))
    (fun j d => by rw [harg17.read_unread]; exact h17 j d) (fun j d => by rw [harg18.read_unread]; exact h18 j d) (fun j => by rw [harg19.read_unread]; exact h19 j)
  have L := loops_held Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) _ _ _ _ _ 0#32 1#32 (kernelRun0_B.sl.v27 i) (harg3.unread x1) (harg4.unread x2) (harg6.unread x4) (arg15.view.writes (Elt Ideal) arg15.view.junk (kernelRun0_B.sl.HS0_1 (F := Ideal))) (arg16.view.writes (Elt Ideal) arg16.view.junk (kernelRun0_B.sl.HS1_1 (F := Ideal))) (harg17.unread xs2) (harg18.unread xs3) (harg19.unread xs4) H dk0 dv0 dc0 hQ hK' h0
  have D := diag_held H i arg3 arg4 arg6 arg15 arg16 arg17 arg18 arg19 _ _ _ _ _ (harg3.unread x1) (harg4.unread x2) (harg6.unread x4) _ _ _ _ _ dk0 dv0 dc0 hQ hK' L
  unfold sout0_B_2 sout0_B_3 sout0_B_4 out0_B_8 out0_B_9 kernelRun0_B
  dsimp only
  try unfold kernelRun0_B.sl.HS2_1 kernelRun0_B.sl.HS3_1 kernelRun0_B.sl.HS4_1
  unfold kernelRun0_B.sl.v98 kernelRun0_B.sl.v102 kernelRun0_B.sl.HS0_1_1 kernelRun0_B.sl.HS1_1_1 kernelRun0_B.sl.v82 kernelRun0_B.sl.r_5 kernelRun0_B.sl.r_6 kernelRun0_B.sl.r_7 kernelRun0_B.sl.v59 kernelRun0_B.sl.v73 kernelRun0_B.sl.v65 kernelRun0_B.sl.v90
  unfold k0_t1_loop k0_t2_loop
  dsimp only
  simp only [loop2_nil, List.nil_append]
  dsimp only at D
  generalize pb_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ = L at D ⊢
  clear h0 z15 z16
  rw [← View.writes_append, ← View.writes_append] at D
  refine ⟨_, _, ?_, (View.read_writes_full (Val := Elt Ideal) VO0_8 _ inb_S1x1024x64_S1x1024x64_0_0_0 _ []).trans
      (congrArg k0_pay43 (View.readCov_full arg15.view inb_S1024x64_S1024x64_0_0 inb_S1024x64_S1024x64_0_0 _ _)),
    (View.read_writes_full (Val := Elt Ideal) VO0_9 _ inb_S1x1024x1_S1x1024x1_0_0_0 _ []).trans
      (congrArg k0_pay1 (View.readCov_full arg16.view inb_S1024x1_S1024x1_0_0 inb_S1024x1_S1024x1_0_0 _ _))⟩
  exact D

end Cert.KernelIdeal.Blocks
-- ==== Proof.CaseC.lean ====
/- THE POINTS OF THE GRID, case by case: what a point leaves in the accumulators and in the outputs' blocks. -/
module

public import proofs.«01_k».proof.Proof.Point
public import proofs.«01_k».proof.Proof.Gen.KernelIdeal.Frame

@[expose] public section

set_option maxRecDepth 8192

noncomputable section

namespace Cert.KernelIdeal.Blocks

open Idealize.ShloMosaic Idealize.ShloMosaic.TcCoe Idealize.ShloMosaic.Tactic
open Idealize.SL.Sem
open Cert.KernelIdeal Cert.KernelIdeal.Gen Cert.Spec

/-- A load of a whole buffer held at `X` reads `X`. -/
theorem readAt_unread {s : Shape} {e : EltTy} (arg : Memref sig .tc .vmem s e) (h : arg.IsWhole) (X : s.Idx → Elt Ideal e)
    {off : Fin s.rank → ℕ} (inb : ∀ a, off a + s.size a ≤ s.size a) :
    View.readAt (Elt Ideal) arg.view (Rect.unit off s.size inb).toLoadRect (h.unread X) = X :=
  (View.readAt_full _ _ _).trans (h.read_unread X)

variable (c : Dev nD) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1x1024x64 .f32) (harg9 : arg9.IsWhole) (arg10 : Memref sig .tc .vmem S1x1024x64 .f32) (harg10 : arg10.IsWhole) (arg11 : Memref sig .tc .vmem S1x1024x1 .f32) (harg11 : arg11.IsWhole) (arg12 : Memref sig .tc .vmem S1x4096x64 .f32) (harg12 : arg12.IsWhole) (arg13 : Memref sig .tc .vmem S1x4096x64 .f32) (harg13 : arg13.IsWhole) (arg14 : Memref sig .tc .vmem S1x1x4096 .f32) (harg14 : arg14.IsWhole) (arg15 : Memref sig .tc .vmem S1024x64 .f32) (harg15 : arg15.IsWhole) (arg16 : Memref sig .tc .vmem S1024x1 .f32) (harg16 : arg16.IsWhole) (arg17 : Memref sig .tc .vmem S4096x64 .f32) (harg17 : arg17.IsWhole) (arg18 : Memref sig .tc .vmem S4096x64 .f32) (harg18 : arg18.IsWhole) (arg19 : Memref sig .tc .vmem S1x4096 .f32) (harg19 : arg19.IsWhole)
  (x0 : Vec Ideal S1x1024x64 .bf16) (x1 : Vec Ideal S1x4096x64 .bf16) (x2 : Vec Ideal S1x4096x64 .bf16) (x3 : Vec Ideal S1x1024x1 .f32) (x4 : Vec Ideal S1x1x4096 .f32) (x5 : Vec Ideal S1x1024x64 .f32) (x6 : Vec Ideal S1x1024x1 .f32) (x7 : Vec Ideal S1x1024x64 .f32) (xs2 : Vec Ideal S4096x64 .f32) (xs3 : Vec Ideal S4096x64 .f32) (xs4 : Vec Ideal S1x4096 .f32)

/-- The last point's output 10 is its accumulator reshaped. -/
theorem outC_10 (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay2 (sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) := by
  unfold out0_C_10 sout0_C_2 kernelRun0_C
  dsimp only
  refine (View.read_writes_full (Val := Elt Ideal) VO0_10 _ inb_S1x4096x64_S1x4096x64_0_0_0 _ []).trans (congrArg k0_pay2 ?_)
  unfold kernelRun0_C.sl.v109
  exact View.readAt_full _ _ _

/-- The last point's output 11 is its accumulator reshaped. -/
theorem outC_11 (hc0 : ¬cond0_0 i) (hc1 : cond0_1 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay3 (sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) := by
  unfold out0_C_11 sout0_C_3 kernelRun0_C
  dsimp only
  refine (View.read_writes_full (Val := Elt Ideal) VO0_11 _ inb_S1x4096x64_S1x4096x64_0_0_0 _ []).trans (congrArg k0_pay3 ?_)
  unfold kernelRun0_C.sl.v113
  exact View.readAt_full _ _ _

/-- The last point's output 12 is its accumulator reshaped. -/
theorem outC_12 (hc0 : ¬cond0_0 i) (hc1 : cond0_1 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay4 (sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) := by
  unfold out0_C_12 sout0_C_4 kernelRun0_C
  dsimp only
  refine (View.read_writes_full (Val := Elt Ideal) VO0_12 _ inb_S1x1x4096_S1x1x4096_0_0_0 _ []).trans (congrArg k0_pay4 ?_)
  unfold kernelRun0_C.sl.v117
  exact View.readAt_full _ _ _

theorem caseC (hc0 : ¬cond0_0 i) (hc1 : cond0_1 i) (H : Head) (hI : Inputs H (i 1).val x0 x3 x5 x6 x7) (hK : Keys H x1 x2 x4)
    (dk0 dv0 : ℕ → Fin 64 → ℝ) (dc0 : ℕ → ℝ)
    (h17 : ∀ (j : Fin 4096) d, xs2 (ix2 j d) = (dk0 j.val d : EReal)) (h18 : ∀ (j : Fin 4096) d, xs3 (ix2 j d) = (dv0 j.val d : EReal))
    (h19 : ∀ j : Fin 4096, xs4 (ix2 0 j) = (dc0 j.val : EReal)) :
    ∃ y15 y16, Held H (i 1).val ((i 1).val + 1) dk0 dv0 dc0 y15 y16 (sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) (sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4) (sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4)
      ∧ out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay43 y15 ∧ out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 xs2 xs3 xs4 = k0_pay1 y16 := by
  have hQ : Query H (i 1).val (kernelRun0_C.sl.r c arg2 harg2 x0) (kernelRun0_C.sl.r_1 c arg5 harg5 x3) (kernelRun0_C.sl.r_2 c arg8 harg8 x6) (kernelRun0_C.sl.r_3 c arg7 harg7 arg9 harg9 x5 x7) (kernelRun0_C.sl.r_4 c arg9 harg9 x7) := by
    have e0 : kernelRun0_C.sl.r c arg2 harg2 x0 = k0_pay22 x0 := congrArg k0_pay22 (readAt_unread arg2 harg2 x0 _)
    have e1 : kernelRun0_C.sl.r_1 c arg5 harg5 x3 = k0_pay23 x3 := congrArg k0_pay23 (readAt_unread arg5 harg5 x3 _)
    have e2 : kernelRun0_C.sl.r_2 c arg8 harg8 x6 = k0_pay24 x6 := congrArg k0_pay24 (readAt_unread arg8 harg8 x6 _)
    have e3 : kernelRun0_C.sl.r_3 c arg7 harg7 arg9 harg9 x5 x7 = k0_pay26 x7 x5 := congrArg₂ k0_pay26 (readAt_unread arg9 harg9 x7 _) (readAt_unread arg7 harg7 x5 _)
    have e4 : kernelRun0_C.sl.r_4 c arg9 harg9 x7 = k0_pay27 x7 := congrArg k0_pay27 (readAt_unread arg9 harg9 x7 _)
    rw [e0, e1, e2, e3, e4]
    exact hI.query H
  have hK' : Keys H (arg3.view.read (Elt Ideal) (harg3.unread x1)) (arg4.view.read (Elt Ideal) (harg4.unread x2)) (arg6.view.read (Elt Ideal) (harg6.unread x4)) := by
    rw [harg3.read_unread, harg4.read_unread, harg6.read_unread]; exact hK
  have z15 : arg15.view.read (Elt Ideal) (arg15.view.writes (Elt Ideal) arg15.view.junk (kernelRun0_C.sl.HS0_1 (F := Ideal))) = k0_pay20 (F := Ideal) :=
    by unfold kernelRun0_C.sl.HS0_1; exact View.read_writes_full (Val := Elt Ideal) arg15.view arg15.view.junk inb_S1024x64_S1024x64_0_0 _ []
  have z16 : arg16.view.read (Elt Ideal) (arg16.view.writes (Elt Ideal) arg16.view.junk (kernelRun0_C.sl.HS1_1 (F := Ideal))) = k0_pay21 (F := Ideal) :=
    by unfold kernelRun0_C.sl.HS1_1; exact View.read_writes_full (Val := Elt Ideal) arg16.view arg16.view.junk inb_S1024x1_S1024x1_0_0 _ []
  have h0 := Held.start H (a := (i 1).val) (dk0 := dk0) (dv0 := dv0) (dc0 := dc0)
    (y15 := arg15.view.read (Elt Ideal) (arg15.view.writes (Elt Ideal) arg15.view.junk (kernelRun0_C.sl.HS0_1 (F := Ideal))))
    (y16 := arg16.view.read (Elt Ideal) (arg16.view.writes (Elt Ideal) arg16.view.junk (kernelRun0_C.sl.HS1_1 (F := Ideal))))
    (y17 := arg17.view.read (Elt Ideal) (harg17.unread xs2)) (y18 := arg18.view.read (Elt Ideal) (harg18.unread xs3)) (y19 := arg19.view.read (Elt Ideal) (harg19.unread xs4))
    (fun r d => (congrFun z15 (ix2 r d)).trans (pay20_apply r d))
    (fun r => (congrFun z16 (ix2 r 0)).trans (pay21_apply r))
    (fun j d => by rw [harg17.read_unread]; exact h17 j d) (fun j d => by rw [harg18.read_unread]; exact h18 j d) (fun j => by rw [harg19.read_unread]; exact h19 j)
  have L := loops_held Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) _ _ _ _ _ 0#32 1#32 (kernelRun0_C.sl.v27 i) (harg3.unread x1) (harg4.unread x2) (harg6.unread x4) (arg15.view.writes (Elt Ideal) arg15.view.junk (kernelRun0_C.sl.HS0_1 (F := Ideal))) (arg16.view.writes (Elt Ideal) arg16.view.junk (kernelRun0_C.sl.HS1_1 (F := Ideal))) (harg17.unread xs2) (harg18.unread xs3) (harg19.unread xs4) H dk0 dv0 dc0 hQ hK' h0
  have D := diag_held H i arg3 arg4 arg6 arg15 arg16 arg17 arg18 arg19 _ _ _ _ _ (harg3.unread x1) (harg4.unread x2) (harg6.unread x4) _ _ _ _ _ dk0 dv0 dc0 hQ hK' L
  unfold sout0_C_2 sout0_C_3 sout0_C_4 out0_C_8 out0_C_9 kernelRun0_C
  dsimp only
  try unfold kernelRun0_C.sl.HS2_1 kernelRun0_C.sl.HS3_1 kernelRun0_C.sl.HS4_1
  unfold kernelRun0_C.sl.v98 kernelRun0_C.sl.v102 kernelRun0_C.sl.HS0_1_1 kernelRun0_C.sl.HS1_1_1 kernelRun0_C.sl.v82 kernelRun0_C.sl.r_5 kernelRun0_C.sl.r_6 kernelRun0_C.sl.r_7 kernelRun0_C.sl.v59 kernelRun0_C.sl.v73 kernelRun0_C.sl.v65 kernelRun0_C.sl.v90
  unfold k0_t1_loop k0_t2_loop
  dsimp only
  simp only [loop2_nil, List.nil_append]
  dsimp only at D
  generalize pb_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ = L at D ⊢
  clear h0 z15 z16
  rw [← View.writes_append, ← View.writes_append] at D
  refine ⟨_, _, ?_, (View.read_writes_full (Val := Elt Ideal) VO0_8 _ inb_S1x1024x64_S1x1024x64_0_0_0 _ []).trans
      (congrArg k0_pay43 (View.readCov_full arg15.view inb_S1024x64_S1024x64_0_0 inb_S1024x64_S1024x64_0_0 _ _)),
    (View.read_writes_full (Val := Elt Ideal) VO0_9 _ inb_S1x1024x1_S1x1024x1_0_0_0 _ []).trans
      (congrArg k0_pay1 (View.readCov_full arg16.view inb_S1024x1_S1024x1_0_0 inb_S1024x1_S1024x1_0_0 _ _))⟩
  exact D

end Cert.KernelIdeal.Blocks
-- ==== Proof.Fold.lean ====
/- THE GRID: what the arrays hold after every point of it, the accumulators of the keys carried along a head's points. -/
module

public import proofs.«01_k».proof.Proof.CaseA
public import proofs.«01_k».proof.Proof.CaseB
public import proofs.«01_k».proof.Proof.CaseC

@[expose] public section

set_option maxRecDepth 8192

noncomputable section

namespace Cert.KernelIdeal.Blocks

open Idealize.ShloMosaic Idealize.ShloMosaic.TcCoe
open Idealize.SL.Sem
open Cert.KernelIdeal Cert.KernelIdeal.Gen Cert.Spec

/-- What the accumulators of the keys hold when the first `1024 * b` queries of a head have been met. -/
structure Carried (H : Head) (b : ℕ) (y17 y18 : Vec Ideal S4096x64 .f32) (y19 : Vec Ideal S1x4096 .f32) : Prop where
  dk : ∀ (j : Fin 4096) d, y17 (ix2 j d) = ((∑ i ∈ Finset.range (1024 * b), H.D i j.val * H.q i d : ℝ) : EReal)
  dv : ∀ (j : Fin 4096) d, y18 (ix2 j d) = ((∑ i ∈ Finset.range (1024 * b), H.p i j.val * H.g i d : ℝ) : EReal)
  dc : ∀ j : Fin 4096, y19 (ix2 0 j) = ((∑ i ∈ Finset.range (1024 * b), H.D i j.val : ℝ) : EReal)

/-- A key past the block of queries is met by none of its queries. -/
theorem sum_if {a j : ℕ} {f : Fin 1024 → ℝ} (h : 1024 * (a + 1) ≤ j → ∀ r, f r = 0) :
    (if j < 1024 * (a + 1) then ∑ r, f r else 0) = ∑ r, f r := by
  by_cases hj : j < 1024 * (a + 1)
  · rw [if_pos hj]
  · rw [if_neg hj, Finset.sum_eq_zero fun r _ => h (by omega) r]

theorem row_lt {a j : ℕ} (h : 1024 * (a + 1) ≤ j) (r : Fin 1024) : row a r < j := by
  have := r.isLt; simp only [row]; omega

/-- One block of queries more. -/
theorem Held.carry {H : Head} {a : ℕ} {y15 : Vec Ideal S1024x64 .f32} {y16 : Vec Ideal S1024x1 .f32} {y17 y18 : Vec Ideal S4096x64 .f32}
    {y19 : Vec Ideal S1x4096 .f32} (h : Held H a (a + 1) (fun j d => ∑ i ∈ Finset.range (1024 * a), H.D i j * H.q i d)
      (fun j d => ∑ i ∈ Finset.range (1024 * a), H.p i j * H.g i d) (fun j => ∑ i ∈ Finset.range (1024 * a), H.D i j) y15 y16 y17 y18 y19) :
    Carried H (a + 1) y17 y18 y19 where
  dk j d := by
    rw [h.dk j d, sum_if fun hj r => by rw [H.D_of_lt (row_lt hj r), zero_mul], sum_block]
  dv j d := by
    rw [h.dv j d, sum_if fun hj r => by rw [H.p_of_lt (row_lt hj r), zero_mul], sum_block]
  dc j := by
    rw [h.dc j, sum_if fun hj r => H.D_of_lt (row_lt hj r), sum_block]

/-- What a point of the grid leaves: the gradients of its queries, the accumulators of the keys, and, at a head's last point, the
    gradients of its keys. -/
structure Left (H : Head) (a : ℕ) (s : Vec Ideal S1x1024x64 .f32 × Vec Ideal S1x1024x1 .f32 × Vec Ideal S1x4096x64 .f32 × Vec Ideal S1x4096x64 .f32 × Vec Ideal S1x1x4096 .f32 × Vec Ideal S4096x64 .f32 × Vec Ideal S4096x64 .f32 × Vec Ideal S1x4096 .f32) : Prop where
  dq : ∀ r d, s.1 (ix3 0 r d) = (H.dq (row a r) d : EReal)
  dcq : ∀ r, s.2.1 (ix3 0 r 0) = (H.dcq (row a r) : EReal)
  car : Carried H (a + 1) s.2.2.2.2.2.1 s.2.2.2.2.2.2.1 s.2.2.2.2.2.2.2
  dk : a = 3 → ∀ j d, s.2.2.1 (ix3 0 j d) = (H.dk j.val d : EReal)
  dv : a = 3 → ∀ j d, s.2.2.2.1 (ix3 0 j d) = (H.dv j.val d : EReal)
  dck : a = 3 → ∀ j, s.2.2.2.2.1 (ix3 0 0 j) = (H.dck j.val : EReal)

theorem left_of {H : Head} {a : ℕ} (ha : a < 4) {o8 : Vec Ideal S1x1024x64 .f32} {o9 : Vec Ideal S1x1024x1 .f32} {o10 o11 : Vec Ideal S1x4096x64 .f32} {o12 : Vec Ideal S1x1x4096 .f32}
    {s2 s3 : Vec Ideal S4096x64 .f32} {s4 : Vec Ideal S1x4096 .f32} {y15 : Vec Ideal S1024x64 .f32} {y16 : Vec Ideal S1024x1 .f32}
    (h : Held H a (a + 1) (fun j d => ∑ i ∈ Finset.range (1024 * a), H.D i j * H.q i d)
      (fun j d => ∑ i ∈ Finset.range (1024 * a), H.p i j * H.g i d) (fun j => ∑ i ∈ Finset.range (1024 * a), H.D i j) y15 y16
      s2 s3 s4) (e8 : o8 = k0_pay43 y15) (e9 : o9 = k0_pay1 y16)
    (e10 : a = 3 → o10 = k0_pay2 s2) (e11 : a = 3 → o11 = k0_pay3 s3)
    (e12 : a = 3 → o12 = k0_pay4 s4) : Left H a (o8, o9, o10, o11, o12, s2, s3, s4) where
  dq r d := by
    show o8 _ = _
    rw [e8, pay43_apply, h.dq r d, sum_upto ha fun j hj => by rw [H.D_of_lt (row_lt hj r), zero_mul]]; rfl
  dcq r := by
    show o9 _ = _
    rw [e9, pay1_apply, h.dcq r, sum_upto ha fun j hj => H.D_of_lt (row_lt hj r)]; rfl
  car := h.carry
  dk e j d := by
    have := h.carry.dk j d
    subst e
    show o10 _ = _
    rw [e10 rfl, pay2_apply, this]; rfl
  dv e j d := by
    have := h.carry.dv j d
    subst e
    show o11 _ = _
    rw [e11 rfl, pay3_apply, this]; rfl
  dck e j := by
    have := h.carry.dc j
    subst e
    show o12 _ = _
    rw [e12 rfl, pay4_apply, this]; rfl

/-- Before a head's first point nothing has been met. -/
theorem Held.of_zero {H : Head} {a : ℕ} (ha : a = 0) {y15 : Vec Ideal S1024x64 .f32} {y16 : Vec Ideal S1024x1 .f32} {y17 y18 : Vec Ideal S4096x64 .f32}
    {y19 : Vec Ideal S1x4096 .f32} (h : Held H a (a + 1) (fun _ _ => 0) (fun _ _ => 0) (fun _ => 0) y15 y16 y17 y18 y19) :
    Held H a (a + 1) (fun j d => ∑ i ∈ Finset.range (1024 * a), H.D i j * H.q i d)
      (fun j d => ∑ i ∈ Finset.range (1024 * a), H.p i j * H.g i d) (fun j => ∑ i ∈ Finset.range (1024 * a), H.D i j) y15 y16 y17 y18 y19 := by
  subst ha
  simpa only [Nat.mul_zero, Finset.range_zero, Finset.sum_empty] using h

theorem coords_1 : ∀ t : Fin cfg0.N, ((grid0.coords t) 1).val = t.val % 4 := by decide

variable (m : (ℓ : Loc nD τ sig) → Buf (Elt Ideal) ℓ) (c : Dev nD) (Hd : ℕ → Head)
  (hin : ∀ t : Fin cfg0.N, Inputs (Hd (t.val / 4)) (t.val % 4) (iblk m c 0 t) (iblk m c 3 t) (iblk m c 5 t) (iblk m c 6 t) (iblk m c 7 t))
  (hky : ∀ t : Fin cfg0.N, Keys (Hd (t.val / 4)) (iblk m c 1 t) (iblk m c 2 t) (iblk m c 4 t))

include hin hky

/-- The first point of a head. -/
theorem left_A (t : Fin cfg0.N) (h0 : t.val % 4 = 0) : Left (Hd (t.val / 4)) (t.val % 4) (outsAt0 m c t.val t.isLt) := by
  have h1 : ¬t.val % 4 = 3 := by omega
  have hI := hin t
  rw [← coords_1 t] at hI
  obtain ⟨y15, y16, h, e8, e9⟩ := caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) rfl rfl rfl ((hcond0_0 t).mpr h0) (fun h => h1 ((hcond0_1 t).mp h)) (Hd (t.val / 4)) hI (hky t)
  rw [outsAt0_A m c t h0 h1]
  rw [coords_1 t] at h
  exact left_of (by omega) (Held.of_zero h0 h) e8 e9 (fun e => absurd e h1) (fun e => absurd e h1) (fun e => absurd e h1)

/-- A point between. -/
theorem left_B (t : Fin cfg0.N) (h0 : ¬t.val % 4 = 0) (h1 : ¬t.val % 4 = 3)
    (hp : Carried (Hd (t.val / 4)) (t.val % 4) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) :
    Left (Hd (t.val / 4)) (t.val % 4) (outsAt0 m c t.val t.isLt) := by
  have hI := hin t
  rw [← coords_1 t] at hI
  obtain ⟨y15, y16, h, e8, e9⟩ := caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h1 ((hcond0_1 t).mp h)) (Hd (t.val / 4)) hI (hky t)
    (fun j d => ∑ i ∈ Finset.range (1024 * (t.val % 4)), (Hd (t.val / 4)).D i j * (Hd (t.val / 4)).q i d)
    (fun j d => ∑ i ∈ Finset.range (1024 * (t.val % 4)), (Hd (t.val / 4)).p i j * (Hd (t.val / 4)).g i d)
    (fun j => ∑ i ∈ Finset.range (1024 * (t.val % 4)), (Hd (t.val / 4)).D i j) hp.dk hp.dv hp.dc
  rw [outsAt0_B m c t h0 h1]
  rw [coords_1 t] at h
  exact left_of (by omega) h e8 e9 (fun e => absurd e h1) (fun e => absurd e h1) (fun e => absurd e h1)

/-- The last point of a head. -/
theorem left_C (t : Fin cfg0.N) (h0 : ¬t.val % 4 = 0) (h1 : t.val % 4 = 3)
    (hp : Carried (Hd (t.val / 4)) (t.val % 4) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) :
    Left (Hd (t.val / 4)) (t.val % 4) (outsAt0 m c t.val t.isLt) := by
  have hI := hin t
  rw [← coords_1 t] at hI
  obtain ⟨y15, y16, h, e8, e9⟩ := caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1) (Hd (t.val / 4)) hI (hky t)
    (fun j d => ∑ i ∈ Finset.range (1024 * (t.val % 4)), (Hd (t.val / 4)).D i j * (Hd (t.val / 4)).q i d)
    (fun j d => ∑ i ∈ Finset.range (1024 * (t.val % 4)), (Hd (t.val / 4)).p i j * (Hd (t.val / 4)).g i d)
    (fun j => ∑ i ∈ Finset.range (1024 * (t.val % 4)), (Hd (t.val / 4)).D i j) hp.dk hp.dv hp.dc
  rw [outsAt0_C m c t h0 h1]
  rw [coords_1 t] at h
  exact left_of (by omega) h e8 e9 (fun _ => outC_10 ..) (fun _ => outC_11 ..) (fun _ => outC_12 ..)

/-- Every point of the grid. -/
theorem left_all : ∀ (n : ℕ) (hn : n < cfg0.N), Left (Hd (n / 4)) (n % 4) (outsAt0 m c n hn) := by
  intro n
  induction n with
  | zero => intro hn; exact left_A m c Hd hin hky ⟨0, hn⟩ rfl
  | succ n ih =>
    intro hn
    by_cases h0 : (n + 1) % 4 = 0
    · exact left_A m c Hd hin hky ⟨n + 1, hn⟩ h0
    · have hp := (ih (Nat.lt_of_succ_lt hn)).car
      rw [show n / 4 = (n + 1) / 4 by omega, show n % 4 + 1 = (n + 1) % 4 by omega] at hp
      by_cases h1 : (n + 1) % 4 = 3
      · exact left_C m c Hd hin hky ⟨n + 1, hn⟩ h0 h1 hp
      · exact left_B m c Hd hin hky ⟨n + 1, hn⟩ h0 h1 hp

end Cert.KernelIdeal.Blocks
-- ==== Proof.Arrays.lean ====
/- WHAT THE ARRAYS HOLD when the kernel has run: each of its five results, read at an index, is the head's gradient. -/
module

public import proofs.«01_k».proof.Proof.Windows
public import proofs.«01_k».proof.Proof.Fold
public import proofs.«01_k».proof.Proof.Gen.KernelIdeal.Value

@[expose] public section

set_option maxRecDepth 8192

noncomputable section

namespace Cert.KernelIdeal.Blocks

open Idealize.ShloMosaic Idealize.ShloMosaic.TcCoe
open Idealize.SL.Sem
open Cert.KernelIdeal Cert.KernelIdeal.Gen Cert.KernelIdeal.Value Cert.Spec

variable (m : (ℓ : Loc nD τ sig) → Buf (Elt Ideal) ℓ) (c : Dev nD) {H : ℕ → Cert.Spec.Head}
  (R : Cert.RefValue.Args H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include R

/-- What every point of the grid leaves. -/
theorem left (n : ℕ) (hn : n < cfg0.N) : Left (H (n / 4)) (n % 4) (outsAt0 m c n hn) :=
  left_all m c H (inputs m c R) (keys m c R) n hn

/-- The gradient of the queries. -/
theorem G8_apply (i : S16x4096x64.Idx) : G8 m c i = ((H (i 0).val).dq (i 1).val (i 2) : EReal) := by
  have h0 : (i 0).val < 16 := (i 0).isLt
  have h1 : (i 1).val < 4096 := (i 1).isLt
  have h2 : (i 2).val < 64 := (i 2).isLt
  have hp : pt8Of i = 4 * (i 0).val + (i 1).val / 1024 := by
    show 4 * ((i 0).val / 1 - 0) + 1 * ((i 1).val / 1024 - 0) + 1 * ((i 2).val / 64 - 0) = _; omega
  have hlt : pt8Of i < cfg0.N := by rw [hp]; show _ < 64; omega
  have L := (left m c R (pt8Of i) hlt).dq ⟨(i 1).val % 1024, Nat.mod_lt _ (by decide)⟩ (i 2)
  have e : row (pt8Of i % 4) ⟨(i 1).val % 1024, Nat.mod_lt _ (by decide)⟩ = (i 1).val := by
    rw [hp]; simp only [row]; omega
  rw [e, show pt8Of i / 4 = (i 0).val from by rw [hp]; omega] at L
  unfold G8
  rw [dif_pos hlt, ← outsAt0_sweep m c _ hlt,
    show loc8Of i = ix3 0 ⟨(i 1).val % 1024, Nat.mod_lt _ (by decide)⟩ (i 2) from
      idx_ext (by show (i 0).val % 1 = 0; omega) rfl (by show (i 2).val % 64 = (i 2).val; omega)]
  exact L

/-- The gradient of the queries' cumulative gate. -/
theorem G9_apply (i : S16x4096x1.Idx) : G9 m c i = ((H (i 0).val).dcq (i 1).val : EReal) := by
  have h0 : (i 0).val < 16 := (i 0).isLt
  have h1 : (i 1).val < 4096 := (i 1).isLt
  have h2 : (i 2).val < 1 := (i 2).isLt
  have hp : pt9Of i = 4 * (i 0).val + (i 1).val / 1024 := by
    show 4 * ((i 0).val / 1 - 0) + 1 * ((i 1).val / 1024 - 0) + 1 * ((i 2).val / 1 - 0) = _; omega
  have hlt : pt9Of i < cfg0.N := by rw [hp]; show _ < 64; omega
  have L := (left m c R (pt9Of i) hlt).dcq ⟨(i 1).val % 1024, Nat.mod_lt _ (by decide)⟩
  have e : row (pt9Of i % 4) ⟨(i 1).val % 1024, Nat.mod_lt _ (by decide)⟩ = (i 1).val := by
    rw [hp]; simp only [row]; omega
  rw [e, show pt9Of i / 4 = (i 0).val from by rw [hp]; omega] at L
  unfold G9
  rw [dif_pos hlt, ← outsAt0_sweep m c _ hlt,
    show loc9Of i = ix3 0 ⟨(i 1).val % 1024, Nat.mod_lt _ (by decide)⟩ 0 from
      idx_ext (by show (i 0).val % 1 = 0; omega) rfl (by show (i 2).val % 1 = 0; omega)]
  exact L

/-- The gradient of the keys. -/
theorem G10_apply (i : S16x4096x64.Idx) : G10 m c i = ((H (i 0).val).dk (i 1).val (i 2) : EReal) := by
  have h0 : (i 0).val < 16 := (i 0).isLt
  have h1 : (i 1).val < 4096 := (i 1).isLt
  have h2 : (i 2).val < 64 := (i 2).isLt
  have hp : pt10Of i = 4 * (i 0).val + 3 := by
    show 4 * (1 * ((i 0).val / 1 - 0) + 1 * ((i 1).val / 4096 - 0) + 1 * ((i 2).val / 64 - 0)) + 3 = _; omega
  have hlt : pt10Of i < cfg0.N := by rw [hp]; show _ < 64; omega
  have L := (left m c R (pt10Of i) hlt).dk (by rw [hp]; omega) (i 1) (i 2)
  rw [show pt10Of i / 4 = (i 0).val from by rw [hp]; omega] at L
  unfold G10
  rw [dif_pos hlt, ← outsAt0_sweep m c _ hlt,
    show loc10Of i = ix3 0 (i 1) (i 2) from
      idx_ext (by show (i 0).val % 1 = 0; omega) (by show (i 1).val % 4096 = (i 1).val; omega) (by show (i 2).val % 64 = (i 2).val; omega)]
  exact L

/-- The gradient of the values. -/
theorem G11_apply (i : S16x4096x64.Idx) : G11 m c i = ((H (i 0).val).dv (i 1).val (i 2) : EReal) := by
  have h0 : (i 0).val < 16 := (i 0).isLt
  have h1 : (i 1).val < 4096 := (i 1).isLt
  have h2 : (i 2).val < 64 := (i 2).isLt
  have hp : pt11Of i = 4 * (i 0).val + 3 := by
    show 4 * (1 * ((i 0).val / 1 - 0) + 1 * ((i 1).val / 4096 - 0) + 1 * ((i 2).val / 64 - 0)) + 3 = _; omega
  have hlt : pt11Of i < cfg0.N := by rw [hp]; show _ < 64; omega
  have L := (left m c R (pt11Of i) hlt).dv (by rw [hp]; omega) (i 1) (i 2)
  rw [show pt11Of i / 4 = (i 0).val from by rw [hp]; omega] at L
  unfold G11
  rw [dif_pos hlt, ← outsAt0_sweep m c _ hlt,
    show loc11Of i = ix3 0 (i 1) (i 2) from
      idx_ext (by show (i 0).val % 1 = 0; omega) (by show (i 1).val % 4096 = (i 1).val; omega) (by show (i 2).val % 64 = (i 2).val; omega)]
  exact L

/-- The gradient of the keys' cumulative gate. -/
theorem G12_apply (i : S16x1x4096.Idx) : G12 m c i = ((H (i 0).val).dck (i 2).val : EReal) := by
  have h0 : (i 0).val < 16 := (i 0).isLt
  have h1 : (i 1).val < 1 := (i 1).isLt
  have h2 : (i 2).val < 4096 := (i 2).isLt
  have hp : pt12Of i = 4 * (i 0).val + 3 := by
    show 4 * (1 * ((i 0).val / 1 - 0) + 1 * ((i 1).val / 1 - 0) + 1 * ((i 2).val / 4096 - 0)) + 3 = _; omega
  have hlt : pt12Of i < cfg0.N := by rw [hp]; show _ < 64; omega
  have L := (left m c R (pt12Of i) hlt).dck (by rw [hp]; omega) (i 2)
  rw [show pt12Of i / 4 = (i 0).val from by rw [hp]; omega] at L
  unfold G12
  rw [dif_pos hlt, ← outsAt0_sweep m c _ hlt,
    show loc12Of i = ix3 0 0 (i 2) from
      idx_ext (by show (i 0).val % 1 = 0; omega) (by show (i 1).val % 1 = 0; omega) (by show (i 2).val % 4096 = (i 2).val; omega)]
  exact L

end Cert.KernelIdeal.Blocks
-- ==== Proof.Gradients.lean ====
/- WHAT THE REFERENCE COMPUTES, BACKWARD: each of its five results, read at an index, is the head's gradient. -/
module

public import proofs.«01_k».proof.Proof.Weights

@[expose] public section

noncomputable section

namespace Cert.RefValue

open Idealize.ShloMosaic Cert.ReferenceIdeal Cert.ReferenceIdeal.Gen Cert.ReferenceIdeal.Read Cert.Spec

variable {H : ℕ → Head} {x0 x1 x2 : (⟨S16x4096x64, .bf16⟩ : BufTy).Contents (Elt Ideal)}
  {x3 : (⟨S16x4096x1, .f32⟩ : BufTy).Contents (Elt Ideal)} {x4 : (⟨S16x1x4096, .f32⟩ : BufTy).Contents (Elt Ideal)}
  {x5 : (⟨S16x4096x64, .f32⟩ : BufTy).Contents (Elt Ideal)} (R : Args H x0 x1 x2 x3 x4 x5)
include R

/-- The gradient of the values. -/
theorem dv_apply (i : S16x4096x64.Idx) :
    val_main_v46 (F := Ideal) x0 x1 x3 x4 x5 i = ((H (i 0).val).dv (i 1).val (i 2) : EReal) := by
  rw [val_main_v46_apply, val_main_v45_apply]
  simp only [v40_apply R, R.g, ← EReal.coe_mul, ← coe_sum]
  refine congrArg _ ((sum_row fun n => (H (i 0).val).g n (i 2) * (H (i 0).val).p n (i 1).val).trans ?_)
  exact Finset.sum_congr rfl fun _ _ => mul_comm _ _

/-- The cotangents of the weights. -/
theorem dp_apply (i : S16x4096x4096.Idx) :
    val_main_v47 (F := Ideal) x2 x5 i = ((H (i 0).val).dp (i 1).val (i 2).val : EReal) := by
  rw [val_main_v47_apply]
  simp only [val_main_v2_apply, Ideal.extf_def, R.v, R.g, ← EReal.coe_mul, ← coe_sum]
  rfl

/-- One over the square of a row's sum. -/
theorem v43_apply (i : S16x4096x1.Idx) :
    val_main_v43 (F := Ideal) x0 x1 x3 x4 i
      = ((1 / (den H (top x0 x1 x3 x4 (idx_main_v38 i)) (i 0).val (i 1).val * den H (top x0 x1 x3 x4 (idx_main_v38 i)) (i 0).val (i 1).val) : ℝ) : EReal) := by
  rw [val_main_v43_apply, val_main_v41_apply, val_main_v42_apply, val_main_cst_9_apply, val_main_v38_apply, v37_apply R,
    Ideal.hostDivf_def, Ideal.mulf_def, ← EReal.coe_mul]
  show Ideal.div (Ideal.ofBits .f32 0x3F800000#32) _ = _
  rw [Ideal.ofBits_one_f32, ← EReal.coe_one]
  exact div_real 1 (mul_pos (den_pos _ _ _) (den_pos _ _ _)).ne'

/-- What a key adds to the cotangent of its row's sum, before the sign. -/
theorem v50_apply (i : S16x4096x4096.Idx) :
    val_main_v50 (F := Ideal) x0 x1 x2 x3 x4 x5 i
      = (((H (i 0).val).p (i 1).val (i 2).val * (H (i 0).val).dp (i 1).val (i 2).val
          / den H (top x0 x1 x3 x4 (rowOf i)) (i 0).val (i 1).val : ℝ) : EReal) := by
  rw [val_main_v50_apply, val_main_v49_apply, dp_apply R, val_main_v48_apply, v43_apply R, v36_eq R, Ideal.mulf_def, Ideal.mulf_def,
    ← EReal.coe_mul, ← EReal.coe_mul]
  have h := (den_pos (H := H) (top x0 x1 x3 x4 (rowOf i)) (i 0).val (i 1).val).ne'
  refine congrArg _ ?_
  show _ * (1 / (den H (top x0 x1 x3 x4 (rowOf i)) (i 0).val (i 1).val * den H (top x0 x1 x3 x4 (rowOf i)) (i 0).val (i 1).val)) * _ = _
  field_simp

/-- The cotangent of a row's sum, before the sign. -/
theorem v51_apply (i : S16x4096.Idx) :
    val_main_v51 (F := Ideal) x0 x1 x2 x3 x4 x5 i
      = (((H (i 0).val).delta (i 1).val / den H (top x0 x1 x3 x4 i) (i 0).val (i 1).val : ℝ) : EReal) := by
  rw [val_main_v51_apply, val_main_cst_10_apply]
  have e : ∀ k : Fin 4096, rowOf (idx_main_v51 i k) = i := fun k => funext fun a => by
    match a with | ⟨0, _⟩ => rfl | ⟨1, _⟩ => rfl
  simp only [v50_apply R, e, ← coe_sum]
  show Ideal.ofBits .f32 0x00000000#32 + _ = _
  rw [Ideal.ofBits_zero_f32, zero_add, (H (i 0).val).delta_eq, Finset.sum_div]
  exact congrArg _ (sum_row fun j => (H (i 0).val).p (i 1).val j * (H (i 0).val).dp (i 1).val j / den H (top x0 x1 x3 x4 i) (i 0).val (i 1).val)

/-- The cotangent of a row's sum. -/
theorem v56_apply (i : S16x4096.Idx) :
    val_main_v56 (F := Ideal) x0 x1 x2 x3 x4 x5 i
      = ((-((H (i 0).val).delta (i 1).val / den H (top x0 x1 x3 x4 i) (i 0).val (i 1).val) : ℝ) : EReal) := by
  rw [val_main_v56_apply, val_main_cst_11_apply, Fin.sum_univ_one, val_main_v53_apply, val_main_v52_apply]
  have e : idx_main_v52 (idx_main_v56 i 0) = i := funext fun a => Fin.ext (by
    have h0 : (i 0).val < 16 := (i 0).isLt
    have h1 : (i 1).val < 4096 := (i 1).isLt
    match a with
    | ⟨0, _⟩ => show (((i 0).val * 4096 + (i 1).val) * 1 + 0) / 4096 = (i 0).val; omega
    | ⟨1, _⟩ => show (((i 0).val * 4096 + (i 1).val) * 1 + 0) % 4096 = (i 1).val; omega)
  rw [e, v51_apply R, Ideal.hostNegf_def, Ideal.negf_def, ← EReal.coe_neg]
  show Ideal.ofBits .f32 0x00000000#32 + _ = _
  rw [Ideal.ofBits_zero_f32, zero_add]

/-- The gradients of the scores. -/
theorem D_apply (i : S16x4096x4096.Idx) :
    val_main_v60 (F := Ideal) x0 x1 x2 x3 x4 x5 i = ((H (i 0).val).D (i 1).val (i 2).val : EReal) := by
  rw [val_main_v60_apply, mask_apply]
  by_cases hc : (i 2).val ≤ (i 1).val
  · rw [decide_eq_true hc]
    show val_main_v59 (F := Ideal) x0 x1 x2 x3 x4 x5 i = _
    rw [val_main_v59_apply, val_main_v58_apply, val_main_v55_apply, val_main_v57_apply, val_main_v54_apply, val_main_v38_apply,
      dp_apply R, v37_apply R, v56_apply R, v36_eq R, Ideal.mulf_def, Ideal.addf_def, Ideal.hostDivf_def, div_real _ (den_pos _ _ _).ne',
      ← EReal.coe_add, ← EReal.coe_mul]
    have h := (den_pos (H := H) (top x0 x1 x3 x4 (rowOf i)) (i 0).val (i 1).val).ne'
    refine congrArg _ ?_
    show ((H (i 0).val).dp (i 1).val (i 2).val / den H (top x0 x1 x3 x4 (rowOf i)) (i 0).val (i 1).val
      + -((H (i 0).val).delta (i 1).val / den H (top x0 x1 x3 x4 (rowOf i)) (i 0).val (i 1).val))
      * ((H (i 0).val).p (i 1).val (i 2).val * den H (top x0 x1 x3 x4 (rowOf i)) (i 0).val (i 1).val) = _
    rw [Head.D]
    field_simp
    ring
  · rw [decide_eq_false hc, Head.D_of_lt _ (by omega)]
    show val_main_call1_v0 (F := Ideal) i = _
    rw [val_main_call1_v0_apply, val_main_call1_cst_apply]
    exact Ideal.ofBits_zero_f32

/-- The gradient of the queries. -/
theorem dq_apply (i : S16x4096x64.Idx) :
    val_main_v67 (F := Ideal) x0 x1 x2 x3 x4 x5 i = ((H (i 0).val).dq (i 1).val (i 2) : EReal) := by
  rw [val_main_v67_apply]
  simp only [D_apply R, val_main_v1_apply, Ideal.extf_def, R.k, ← EReal.coe_mul, ← coe_sum]
  exact congrArg _ (sum_row fun n => (H (i 0).val).D (i 1).val n * (H (i 0).val).k n (i 2))

/-- The gradient of the keys. -/
theorem dk_apply (i : S16x4096x64.Idx) :
    val_main_v66 (F := Ideal) x0 x1 x2 x3 x4 x5 i = ((H (i 0).val).dk (i 1).val (i 2) : EReal) := by
  rw [val_main_v66_apply]
  simp only [D_apply R, val_main_v0_apply, Ideal.extf_def, R.q, ← EReal.coe_mul, ← coe_sum]
  exact congrArg _ (sum_row fun n => (H (i 0).val).D n (i 1).val * (H (i 0).val).q n (i 2))

/-- The gradient of the queries' cumulative gate. -/
theorem dcq_apply (i : S16x4096x1.Idx) :
    val_main_v62 (F := Ideal) x0 x1 x2 x3 x4 x5 i = ((H (i 0).val).dcq (i 1).val : EReal) := by
  rw [val_main_v62_apply, val_main_v61_apply, val_main_cst_12_apply]
  have h0 : (i 0).val < 16 := (i 0).isLt
  have h1 : (i 1).val < 4096 := (i 1).isLt
  have h2 : (i 2).val < 1 := (i 2).isLt
  have e0 : (idx_main_v62 i 0).val = (i 0).val := by
    show (((i 0).val * 4096 + (i 1).val) * 1 + (i 2).val) / 4096 = (i 0).val; omega
  have e1 : (idx_main_v62 i 1).val = (i 1).val := by
    show (((i 0).val * 4096 + (i 1).val) * 1 + (i 2).val) % 4096 = (i 1).val; omega
  simp only [D_apply R, ← coe_sum]
  show Ideal.ofBits .f32 0x00000000#32 + ((∑ k : Fin 4096, (H (idx_main_v62 i 0).val).D (idx_main_v62 i 1).val k.val : ℝ) : EReal) = _
  rw [Ideal.ofBits_zero_f32, zero_add, e0, e1]
  exact congrArg _ (sum_row fun n => (H (i 0).val).D (i 1).val n)

/-- The gradient of the keys' cumulative gate, with the sign the kernel gives it. -/
theorem dck_apply (i : S16x1x4096.Idx) :
    val_main_v68 (F := Ideal) x0 x1 x2 x3 x4 x5 i = ((H (i 0).val).dck (i 2).val : EReal) := by
  rw [val_main_v68_apply, val_main_v65_apply, val_main_v64_apply, val_main_cst_13_apply]
  have h0 : (i 0).val < 16 := (i 0).isLt
  have h1 : (i 1).val < 1 := (i 1).isLt
  have h2 : (i 2).val < 4096 := (i 2).isLt
  have e0 : (idx_main_v65 i 0).val = (i 0).val := by
    show (((i 0).val * 1 + (i 1).val) * 4096 + (i 2).val) / 4096 = (i 0).val; omega
  have e1 : (idx_main_v65 i 1).val = (i 2).val := by
    show (((i 0).val * 1 + (i 1).val) * 4096 + (i 2).val) % 4096 = (i 2).val; omega
  simp only [val_main_v63_apply, D_apply R, Ideal.hostNegf_def, Ideal.negf_def, ← EReal.coe_neg, ← coe_sum]
  show -(Ideal.ofBits .f32 0x00000000#32 + ((∑ k : Fin 4096, -(H (idx_main_v65 i 0).val).D k.val (idx_main_v65 i 1).val : ℝ) : EReal)) = _
  rw [Ideal.ofBits_zero_f32, zero_add, e0, e1, ← EReal.coe_neg, Finset.sum_neg_distrib, neg_neg]
  exact congrArg _ (sum_row fun n => (H (i 0).val).D n (i 2).val)

end Cert.RefValue
-- ==== Proof.Equation.lean ====
/- THE EQUATION: on real arguments the kernel's five arrays are the reference's. -/
module

public import proofs.«01_k».proof.Proof.Arrays
public import proofs.«01_k».proof.Proof.Gradients

@[expose] public section

set_option maxRecDepth 8192

noncomputable section

namespace Cert.Equation

open Idealize.ShloMosaic Idealize.ShloMosaic.TcCoe
open Idealize.SL.Sem
open Cert.KernelIdeal Cert.KernelIdeal.Gen Cert.KernelIdeal.Value Cert.KernelIdeal.Blocks Cert.ReferenceIdeal.Read

variable (m : (ℓ : Loc nD τ sig) → Buf (Elt Ideal) ℓ) (c : Dev nD) {H : ℕ → Cert.Spec.Head}
  {x0 x1 x2 : FVec Ideal Cert.ReferenceIdeal.S16x4096x64 .bf16} {x3 : FVec Ideal Cert.ReferenceIdeal.S16x4096x1 .f32}
  {x4 : FVec Ideal Cert.ReferenceIdeal.S16x1x4096 .f32} {x5 : FVec Ideal Cert.ReferenceIdeal.S16x4096x64 .f32}
  (R : Cert.RefValue.Args H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
  (R' : Cert.RefValue.Args H x0 x1 x2 x3 x4 x5)
include R R'

/-- The gradients of the queries agree. -/
theorem dq : val_main_v67 (F := Ideal) x0 x1 x2 x3 x4 x5 = G8 m c := funext fun i =>
  (Cert.RefValue.dq_apply R' i).trans (G8_apply m c R i).symm

/-- The gradients of the queries' gates agree. -/
theorem dcq : val_main_v62 (F := Ideal) x0 x1 x2 x3 x4 x5 = G9 m c := funext fun i =>
  (Cert.RefValue.dcq_apply R' i).trans (G9_apply m c R i).symm

/-- The gradients of the keys agree. -/
theorem dk : val_main_v66 (F := Ideal) x0 x1 x2 x3 x4 x5 = G10 m c := funext fun i =>
  (Cert.RefValue.dk_apply R' i).trans (G10_apply m c R i).symm

/-- The gradients of the values agree. -/
theorem dv : val_main_v46 (F := Ideal) x0 x1 x3 x4 x5 = G11 m c := funext fun i =>
  (Cert.RefValue.dv_apply R' i).trans (G11_apply m c R i).symm

/-- The gradients of the keys' gates agree. -/
theorem dck : val_main_v68 (F := Ideal) x0 x1 x2 x3 x4 x5 = G12 m c := funext fun i =>
  (Cert.RefValue.dck_apply R' i).trans (G12_apply m c R i).symm

end Cert.Equation
-- ==== Proof.Finite.lean ====
/- WHAT THE PRECONDITION GIVES: every element of the six arguments is a real number, so the arguments are the heads' reals. -/
module

public import proofs.«01_k».proof.Defs
public import proofs.«01_k».proof.Proof.Windows

@[expose] public section

set_option maxRecDepth 8192

noncomputable section

namespace Cert.KernelIdeal.Finite

open Idealize.ShloMosaic Idealize.ShloMosaic.TcCoe
open Idealize.SL.Sem
open Cert.KernelIdeal Cert.KernelIdeal.Gen Cert.Spec

/-- The relations the precondition's operations take. -/
theorem facts : Cert.Pre_finite.Facts where
  bcast_S_S16x4096x64 := by decide
  bcast_S_S16x4096x1 := by decide
  bcast_S_S16x1x4096 := by decide

/-- A value whose absolute value is below plus infinity is a real number. -/
theorem real_of_abs_lt {x t : EReal} (h : Ideal.cmp .olt (max x (-x)) t = 1#1) : x = (x.toReal : EReal) := by
  have hlt : max x (-x) < t := by
    by_contra hc
    rw [show Ideal.cmp .olt (max x (-x)) t = BitVec.ofBool (decide (max x (-x) < t)) from rfl, decide_eq_false hc] at h
    exact absurd h (by decide)
  refine (EReal.coe_toReal ?_ ?_).symm
  · rintro rfl; exact not_top_lt (lt_of_le_of_lt (le_max_left _ _) hlt)
  · rintro rfl; exact not_top_lt (lt_of_le_of_lt (le_max_right _ _) hlt)

/-- The heads of six arrays: head, row and column numbers are read within the arrays. -/
def headOf (q k v : S16x4096x64.Idx → EReal) (cc : S16x4096x1.Idx → EReal) (cr : S16x1x4096.Idx → EReal)
    (g : S16x4096x64.Idx → EReal) (h : ℕ) : Cert.Spec.Head where
  q n d := (q (ix3 (Fin.ofNat 16 h) (Fin.ofNat 4096 n) d)).toReal
  k n d := (k (ix3 (Fin.ofNat 16 h) (Fin.ofNat 4096 n) d)).toReal
  v n d := (v (ix3 (Fin.ofNat 16 h) (Fin.ofNat 4096 n) d)).toReal
  cc n := (cc (ix3 (Fin.ofNat 16 h) (Fin.ofNat 4096 n) 0)).toReal
  cr n := (cr (ix3 (Fin.ofNat 16 h) 0 (Fin.ofNat 4096 n))).toReal
  g n d := (g (ix3 (Fin.ofNat 16 h) (Fin.ofNat 4096 n) d)).toReal

/-- An index of a 16 by 4096 by 64 array, from its components' numbers. -/
theorem ix_rows (i : S16x4096x64.Idx) : ix3 (Fin.ofNat 16 (i 0).val) (Fin.ofNat 4096 (i 1).val) (i 2) = i :=
  (Cert.KernelIdeal.Blocks.idx_ext (Nat.mod_eq_of_lt (i 0).isLt).symm (Nat.mod_eq_of_lt (i 1).isLt).symm rfl).symm

/-- An index of a column, from its components' numbers. -/
theorem ix_col (i : S16x4096x1.Idx) : ix3 (Fin.ofNat 16 (i 0).val) (Fin.ofNat 4096 (i 1).val) 0 = i :=
  (Cert.KernelIdeal.Blocks.idx_ext (Nat.mod_eq_of_lt (i 0).isLt).symm (Nat.mod_eq_of_lt (i 1).isLt).symm
    (Nat.lt_one_iff.1 (i 2).isLt)).symm

/-- An index of a row, from its components' numbers. -/
theorem ix_row (i : S16x1x4096.Idx) : ix3 (Fin.ofNat 16 (i 0).val) 0 (Fin.ofNat 4096 (i 2).val) = i :=
  (Cert.KernelIdeal.Blocks.idx_ext (Nat.mod_eq_of_lt (i 0).isLt).symm (Nat.lt_one_iff.1 (i 1).isLt)
    (Nat.mod_eq_of_lt (i 2).isLt).symm).symm

/-- Where the precondition holds of six arrays, they are the arrays of their heads. -/
theorem args [Cert.Pre_finite.Facts] (q k v : FVec Ideal S16x4096x64 .bf16) (cc : FVec Ideal S16x4096x1 .f32) (cr : FVec Ideal S16x1x4096 .f32)
    (g : FVec Ideal S16x4096x64 .f32)
    (h0 : (Cert.Pre_finite.fn (F := Ideal) q k v cc cr g).1 = (fun _ => 1#1))
    (h1 : (Cert.Pre_finite.fn (F := Ideal) q k v cc cr g).2.1 = (fun _ => 1#1))
    (h2 : (Cert.Pre_finite.fn (F := Ideal) q k v cc cr g).2.2.1 = (fun _ => 1#1))
    (h3 : (Cert.Pre_finite.fn (F := Ideal) q k v cc cr g).2.2.2.1 = (fun _ => 1#1))
    (h4 : (Cert.Pre_finite.fn (F := Ideal) q k v cc cr g).2.2.2.2.1 = (fun _ => 1#1))
    (h5 : (Cert.Pre_finite.fn (F := Ideal) q k v cc cr g).2.2.2.2.2 = (fun _ => 1#1)) :
    Cert.RefValue.Args (headOf q k v cc cr g) q k v cc cr g where
  q i := (real_of_abs_lt (congrFun h0 i)).trans (congrArg (fun j => ((q j).toReal : EReal)) (ix_rows i).symm)
  k i := (real_of_abs_lt (congrFun h1 i)).trans (congrArg (fun j => ((k j).toReal : EReal)) (ix_rows i).symm)
  v i := (real_of_abs_lt (congrFun h2 i)).trans (congrArg (fun j => ((v j).toReal : EReal)) (ix_rows i).symm)
  cc i := (real_of_abs_lt (congrFun h3 i)).trans (congrArg (fun j => ((cc j).toReal : EReal)) (ix_col i).symm)
  cr i := (real_of_abs_lt (congrFun h4 i)).trans (congrArg (fun j => ((cr j).toReal : EReal)) (ix_row i).symm)
  g i := (real_of_abs_lt (congrFun h5 i)).trans (congrArg (fun j => ((g j).toReal : EReal)) (ix_rows i).symm)

end Cert.KernelIdeal.Finite
-- ==== Proof.Tile.lean ====
/- TILES OF A PRODUCT: what the products' programs share. -/
module

public import Idealize.ShloMosaic.PureOps.Ideal
public import Idealize.ShloMosaic.Lib.VecWindow
public import Idealize.ShloMosaic.Lib.Pointwise
public import Idealize.ShloMosaic.Lib.Pipeline

@[expose] public section

set_option maxRecDepth 8192

noncomputable section

namespace Cert.Tile

open Idealize.ShloMosaic Idealize.ShloMosaic.TcCoe
open Idealize.SL.Sem

/-- An index of a table by the numbers of its row and its column. -/
theorem idx_ext {n0 n1 : ℕ} {i : (⟨2, ![n0, n1]⟩ : Shape).Idx} {a : Fin n0} {b : Fin n1}
    (h0 : (i 0).val = a.val) (h1 : (i 1).val = b.val) : i = ix2 a b :=
  funext fun x => Fin.ext (by match x with | ⟨0, _⟩ => exact h0 | ⟨1, _⟩ => exact h1)

/-- A load of a whole buffer held at `X` reads `X`. -/
theorem load_whole {sig : RefSig} {s : Shape} {e : EltTy} (arg : Memref sig .tc .vmem s e) (h : arg.IsWhole) (X : s.Idx → Elt Ideal e)
    {off : Fin s.rank → ℕ} (inb : ∀ a, off a + s.size a ≤ s.size a) :
    View.readAt (Elt Ideal) arg.view (Rect.unit off s.size inb).toLoadRect (h.unread X) = X :=
  (View.readAt_full _ _ _).trans (h.read_unread X)

/-- The product of the transpose of a table with a table: both are summed over their rows. -/
def tn {K M N : ℕ} (A : (⟨2, ![K, M]⟩ : Shape).Idx → EReal) (B : (⟨2, ![K, N]⟩ : Shape).Idx → EReal) (a : Fin M) (b : Fin N) : EReal :=
  ∑ k : Fin K, A (ix2 k a) * B (ix2 k b)

/-- The product of two tables. -/
def nn {K M N : ℕ} (A : (⟨2, ![M, K]⟩ : Shape).Idx → EReal) (B : (⟨2, ![K, N]⟩ : Shape).Idx → EReal) (a : Fin M) (b : Fin N) : EReal :=
  ∑ k : Fin K, A (ix2 a k) * B (ix2 k b)

/-- The product of a table with the transpose of a table: both are summed over their columns. -/
def nt {K M N : ℕ} (A : (⟨2, ![M, K]⟩ : Shape).Idx → EReal) (B : (⟨2, ![N, K]⟩ : Shape).Idx → EReal) (a : Fin M) (b : Fin N) : EReal :=
  ∑ k : Fin K, A (ix2 a k) * B (ix2 b k)

/-- A sum of products that runs down a column of each table. -/
theorem sum_tn {K M N : ℕ} {A : (⟨2, ![K, M]⟩ : Shape).Idx → EReal} {B : (⟨2, ![K, N]⟩ : Shape).Idx → EReal} {a : Fin M} {b : Fin N}
    {f g : Fin K → EReal} (hf : ∀ k, f k = A (ix2 k a)) (hg : ∀ k, g k = B (ix2 k b)) : ∑ k, f k * g k = tn A B a b :=
  Finset.sum_congr rfl fun k _ => congrArg₂ (· * ·) (hf k) (hg k)

/-- A sum of products that runs along a row of one table and down a column of the other. -/
theorem sum_nn {K M N : ℕ} {A : (⟨2, ![M, K]⟩ : Shape).Idx → EReal} {B : (⟨2, ![K, N]⟩ : Shape).Idx → EReal} {a : Fin M} {b : Fin N}
    {f g : Fin K → EReal} (hf : ∀ k, f k = A (ix2 a k)) (hg : ∀ k, g k = B (ix2 k b)) : ∑ k, f k * g k = nn A B a b :=
  Finset.sum_congr rfl fun k _ => congrArg₂ (· * ·) (hf k) (hg k)

/-- A sum of products that runs along a row of each table. -/
theorem sum_nt {K M N : ℕ} {A : (⟨2, ![M, K]⟩ : Shape).Idx → EReal} {B : (⟨2, ![N, K]⟩ : Shape).Idx → EReal} {a : Fin M} {b : Fin N}
    {f g : Fin K → EReal} (hf : ∀ k, f k = A (ix2 a k)) (hg : ∀ k, g k = B (ix2 b k)) : ∑ k, f k * g k = nt A B a b :=
  Finset.sum_congr rfl fun k _ => congrArg₂ (· * ·) (hf k) (hg k)

/-- A tile of the product is the product of the strips that hold its columns. -/
theorem tn_congr {K M N M' N' : ℕ} {A : (⟨2, ![K, M]⟩ : Shape).Idx → EReal} {B : (⟨2, ![K, N]⟩ : Shape).Idx → EReal}
    {A' : (⟨2, ![K, M']⟩ : Shape).Idx → EReal} {B' : (⟨2, ![K, N']⟩ : Shape).Idx → EReal} {a : Fin M} {b : Fin N} {a' : Fin M'} {b' : Fin N'}
    (hA : ∀ k, A (ix2 k a) = A' (ix2 k a')) (hB : ∀ k, B (ix2 k b) = B' (ix2 k b')) : tn A B a b = tn A' B' a' b' :=
  sum_tn hA hB

/-- A tile of the product is the product of the strips that hold its row and its column. -/
theorem nn_congr {K M N M' N' : ℕ} {A : (⟨2, ![M, K]⟩ : Shape).Idx → EReal} {B : (⟨2, ![K, N]⟩ : Shape).Idx → EReal}
    {A' : (⟨2, ![M', K]⟩ : Shape).Idx → EReal} {B' : (⟨2, ![K, N']⟩ : Shape).Idx → EReal} {a : Fin M} {b : Fin N} {a' : Fin M'} {b' : Fin N'}
    (hA : ∀ k, A (ix2 a k) = A' (ix2 a' k)) (hB : ∀ k, B (ix2 k b) = B' (ix2 k b')) : nn A B a b = nn A' B' a' b' :=
  sum_nn hA hB

/-- A tile of the product is the product of the strips that hold its rows. -/
theorem nt_congr {K M N M' N' : ℕ} {A : (⟨2, ![M, K]⟩ : Shape).Idx → EReal} {B : (⟨2, ![N, K]⟩ : Shape).Idx → EReal}
    {A' : (⟨2, ![M', K]⟩ : Shape).Idx → EReal} {B' : (⟨2, ![N', K]⟩ : Shape).Idx → EReal} {a : Fin M} {b : Fin N} {a' : Fin M'} {b' : Fin N'}
    (hA : ∀ k, A (ix2 a k) = A' (ix2 a' k)) (hB : ∀ k, B (ix2 b k) = B' (ix2 b' k)) : nt A B a b = nt A' B' a' b' :=
  sum_nt hA hB

/-- The order of the factors: the product with the two tables exchanged is the transpose. -/
theorem tn_comm {K M N : ℕ} (A : (⟨2, ![K, M]⟩ : Shape).Idx → EReal) (B : (⟨2, ![K, N]⟩ : Shape).Idx → EReal) (a : Fin M) (b : Fin N) :
    tn A B a b = tn B A b a :=
  Finset.sum_congr rfl fun _ _ => mul_comm _ _

/-- The tables `L t` are blocks of the table `A`: block `t` stands at the block row `row t` and the block column `col t`. -/
def Tiled {n R C r c : ℕ} {α : Type} (A : (⟨2, ![R, C]⟩ : Shape).Idx → α) (L : Fin n → (⟨2, ![r, c]⟩ : Shape).Idx → α)
    (row col : Fin n → ℕ) : Prop :=
  ∀ (t : Fin n) (i : Fin r) (j : Fin c) (i' : Fin R) (j' : Fin C), i'.val = row t * r + i.val → j'.val = col t * c + j.val →
    L t (ix2 i j) = A (ix2 i' j')

/-- What a window reads are blocks of its array, at the values of its index map. -/
theorem Tiled.of {n R C r c : ℕ} {α : Type} {A : (⟨2, ![R, C]⟩ : Shape).Idx → α} {L : Fin n → (⟨2, ![r, c]⟩ : Shape).Idx → α}
    {row col : Fin n → ℕ} (e : Fin n → (⟨2, ![r, c]⟩ : Shape).Idx → (⟨2, ![R, C]⟩ : Shape).Idx) (ix : Fin n → Fin 2 → ℕ)
    (hL : ∀ t y, L t y = A (e t y)) (h0 : ∀ t y, (e t y 0).val = ix t 0 * r + 1 * (y 0).val)
    (h1 : ∀ t y, (e t y 1).val = ix t 1 * c + 1 * (y 1).val) (hix : ∀ t, ix t 0 = row t ∧ ix t 1 = col t) : Tiled A L row col := by
  intro t i j i' j' hi hj
  refine (hL t _).trans (congrArg A (idx_ext ?_ ?_))
  · rw [h0, (hix t).1, hi, Nat.one_mul]; rfl
  · rw [h1, (hix t).2, hj, Nat.one_mul]; rfl

/-- Every entry of a table cut into `p` by `q` blocks lies in the block that a point of the `p` by `q` grid has. -/
theorem cover {n p q M N bm bn : ℕ} (hn : n = p * q) (hM : M = p * bm) (hN : N = q * bn) (a : Fin M) (b : Fin N) :
    ∃ (t : Fin n) (r : Fin bm) (s : Fin bn), a.val = t.val / q * bm + r.val ∧ b.val = t.val % q * bn + s.val := by
  have ha := a.isLt
  have hb := b.isLt
  have hbm : 0 < bm := Nat.pos_of_ne_zero fun h => by subst h; omega
  have hbn : 0 < bn := Nat.pos_of_ne_zero fun h => by subst h; omega
  have h1 : a.val / bm < p := (Nat.div_lt_iff_lt_mul hbm).2 (hM ▸ ha)
  have h2 : b.val / bn < q := (Nat.div_lt_iff_lt_mul hbn).2 (hN ▸ hb)
  have hq : 0 < q := Nat.lt_of_le_of_lt (Nat.zero_le _) h2
  refine ⟨⟨a.val / bm * q + b.val / bn, ?_⟩, ⟨a.val % bm, Nat.mod_lt _ hbm⟩, ⟨b.val % bn, Nat.mod_lt _ hbn⟩, ?_, ?_⟩
  · have h3 : (a.val / bm + 1) * q ≤ p * q := Nat.mul_le_mul_right q h1
    rw [Nat.add_mul, Nat.one_mul] at h3
    omega
  · show a.val = (a.val / bm * q + b.val / bn) / q * bm + a.val % bm
    rw [Nat.add_comm (a.val / bm * q), Nat.add_mul_div_right _ _ hq, Nat.div_eq_of_lt h2, Nat.zero_add]
    exact (Nat.div_add_mod' _ _).symm
  · show b.val = (a.val / bm * q + b.val / bn) % q * bn + b.val % bn
    rw [Nat.add_comm (a.val / bm * q), Nat.add_mul_mod_self_right, Nat.mod_eq_of_lt h2]
    exact (Nat.div_add_mod' _ _).symm

/-- Two tables with the same blocks over a whole grid are the same table. -/
theorem Tiled.eq {n p q M N bm bn : ℕ} {α : Type} {X Y : (⟨2, ![M, N]⟩ : Shape).Idx → α} {T : Fin n → (⟨2, ![bm, bn]⟩ : Shape).Idx → α}
    (hn : n = p * q) (hM : M = p * bm) (hN : N = q * bn) (hX : Tiled X T (fun t => t.val / q) (fun t => t.val % q))
    (hY : Tiled Y T (fun t => t.val / q) (fun t => t.val % q)) : X = Y := funext fun i => by
  obtain ⟨a, b, rfl⟩ : ∃ (a : Fin M) (b : Fin N), i = ix2 a b := ⟨i 0, i 1, idx_ext rfl rfl⟩
  obtain ⟨t, r, s, ha, hb⟩ := cover hn hM hN a b
  exact (hX t r s a b ha hb).symm.trans (hY t r s a b ha hb)

/-- The place of an entry along the axis that is not cut. -/
theorem at_zero {K : ℕ} (k : Fin K) : k.val = 0 * K + k.val := by rw [Nat.zero_mul, Nat.zero_add]

/-- The products of strips of columns are the blocks of the product. -/
theorem tn_tiled {n K M N bm bn : ℕ} {Y : (⟨2, ![M, N]⟩ : Shape).Idx → EReal} {A : (⟨2, ![K, M]⟩ : Shape).Idx → EReal}
    {B : (⟨2, ![K, N]⟩ : Shape).Idx → EReal} {L : Fin n → (⟨2, ![K, bm]⟩ : Shape).Idx → EReal}
    {R : Fin n → (⟨2, ![K, bn]⟩ : Shape).Idx → EReal} {T : Fin n → (⟨2, ![bm, bn]⟩ : Shape).Idx → EReal} {row col : Fin n → ℕ}
    (hY : ∀ a b, Y (ix2 a b) = tn A B a b) (hT : ∀ t r s, T t (ix2 r s) = tn (L t) (R t) r s)
    (hL : Tiled A L (fun _ => 0) row) (hR : Tiled B R (fun _ => 0) col) : Tiled Y T row col := fun t r s a b ha hb =>
  (hT t r s).trans ((tn_congr (fun k => hL t k r k a (at_zero k) ha) (fun k => hR t k s k b (at_zero k) hb)).trans (hY a b).symm)

/-- The products of strips of rows with strips of columns are the blocks of the product. -/
theorem nn_tiled {n K M N bm bn : ℕ} {Y : (⟨2, ![M, N]⟩ : Shape).Idx → EReal} {A : (⟨2, ![M, K]⟩ : Shape).Idx → EReal}
    {B : (⟨2, ![K, N]⟩ : Shape).Idx → EReal} {L : Fin n → (⟨2, ![bm, K]⟩ : Shape).Idx → EReal}
    {R : Fin n → (⟨2, ![K, bn]⟩ : Shape).Idx → EReal} {T : Fin n → (⟨2, ![bm, bn]⟩ : Shape).Idx → EReal} {row col : Fin n → ℕ}
    (hY : ∀ a b, Y (ix2 a b) = nn A B a b) (hT : ∀ t r s, T t (ix2 r s) = nn (L t) (R t) r s)
    (hL : Tiled A L row (fun _ => 0)) (hR : Tiled B R (fun _ => 0) col) : Tiled Y T row col := fun t r s a b ha hb =>
  (hT t r s).trans ((nn_congr (fun k => hL t r k a k ha (at_zero k)) (fun k => hR t k s k b (at_zero k) hb)).trans (hY a b).symm)

/-- The products of strips of rows are the blocks of the product. -/
theorem nt_tiled {n K M N bm bn : ℕ} {Y : (⟨2, ![M, N]⟩ : Shape).Idx → EReal} {A : (⟨2, ![M, K]⟩ : Shape).Idx → EReal}
    {B : (⟨2, ![N, K]⟩ : Shape).Idx → EReal} {L : Fin n → (⟨2, ![bm, K]⟩ : Shape).Idx → EReal}
    {R : Fin n → (⟨2, ![bn, K]⟩ : Shape).Idx → EReal} {T : Fin n → (⟨2, ![bm, bn]⟩ : Shape).Idx → EReal} {row col : Fin n → ℕ}
    (hY : ∀ a b, Y (ix2 a b) = nt A B a b) (hT : ∀ t r s, T t (ix2 r s) = nt (L t) (R t) r s)
    (hL : Tiled A L row (fun _ => 0)) (hR : Tiled B R col (fun _ => 0)) : Tiled Y T row col := fun t r s a b ha hb =>
  (hT t r s).trans ((nt_congr (fun k => hL t r k a k ha (at_zero k)) (fun k => hR t s k b k hb (at_zero k))).trans (hY a b).symm)

/-- A summand's blocks plus the products of strips of rows with strips of columns are the blocks of the summand plus the product. -/
theorem nn_add_tiled {n K M N bm bn : ℕ} {Y P C : (⟨2, ![M, N]⟩ : Shape).Idx → EReal} {A : (⟨2, ![M, K]⟩ : Shape).Idx → EReal}
    {B : (⟨2, ![K, N]⟩ : Shape).Idx → EReal} {L : Fin n → (⟨2, ![bm, K]⟩ : Shape).Idx → EReal}
    {R : Fin n → (⟨2, ![K, bn]⟩ : Shape).Idx → EReal} {T D : Fin n → (⟨2, ![bm, bn]⟩ : Shape).Idx → EReal} {row col : Fin n → ℕ}
    (hP : ∀ a b, P (ix2 a b) = nn A B a b) (hY : ∀ i, Y i = C i + P i)
    (hT : ∀ t r s, T t (ix2 r s) = nn (L t) (R t) r s + D t (ix2 r s))
    (hL : Tiled A L row (fun _ => 0)) (hR : Tiled B R (fun _ => 0) col) (hC : Tiled C D row col) : Tiled Y T row col := fun t r s a b ha hb => by
  rw [hT, hY, hC t r s a b ha hb, add_comm, hP]
  exact congrArg (C (ix2 a b) + ·) (nn_congr (fun k => hL t r k a k ha (at_zero k)) (fun k => hR t k s k b (at_zero k) hb))

/-- A summand's blocks plus the products of strips of rows are the blocks of the summand plus the product. -/
theorem nt_add_tiled {n K M N bm bn : ℕ} {Y P C : (⟨2, ![M, N]⟩ : Shape).Idx → EReal} {A : (⟨2, ![M, K]⟩ : Shape).Idx → EReal}
    {B : (⟨2, ![N, K]⟩ : Shape).Idx → EReal} {L : Fin n → (⟨2, ![bm, K]⟩ : Shape).Idx → EReal}
    {R : Fin n → (⟨2, ![bn, K]⟩ : Shape).Idx → EReal} {T D : Fin n → (⟨2, ![bm, bn]⟩ : Shape).Idx → EReal} {row col : Fin n → ℕ}
    (hP : ∀ a b, P (ix2 a b) = nt A B a b) (hY : ∀ i, Y i = C i + P i)
    (hT : ∀ t r s, T t (ix2 r s) = nt (L t) (R t) r s + D t (ix2 r s))
    (hL : Tiled A L row (fun _ => 0)) (hR : Tiled B R col (fun _ => 0)) (hC : Tiled C D row col) : Tiled Y T row col := fun t r s a b ha hb => by
  rw [hT, hY, hC t r s a b ha hb, add_comm, hP]
  exact congrArg (C (ix2 a b) + ·) (nt_congr (fun k => hL t r k a k ha (at_zero k)) (fun k => hR t s k b k hb (at_zero k)))

end Cert.Tile
-- ==== Proof.GradWeights.lean ====
/- THE GRADIENTS OF THE WEIGHTS: each call of the backward pass that forms one is a product over the tokens. -/
module

public import proofs.«01_k».proof.Defs
public import proofs.«01_k».proof.Proof.Tile
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read

@[expose] public section

set_option maxRecDepth 8192

noncomputable section

open Idealize.ShloMosaic Idealize.ShloMosaic.TcCoe
open Idealize.SL.Sem
open Cert.Tile

/-! ## The gradient of an up projection's weights (`gw_gate`, `gw_up`) -/

namespace Cert.Kernel2Ideal.Tiles

open Cert.Kernel2Ideal Cert.Kernel2Ideal.Gen Cert.Kernel2Ideal.Value

/-- The tile a point computes. -/
theorem pay_apply (x0 : Vec Ideal S4096x1024 .bf16) (x1 : Vec Ideal S4096x512 .bf16) (r : Fin 1024) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 11) (fun t => t.val % 11) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 11) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 11) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference2Ideal.S4096x2048 .bf16) (x1 : FVec Ideal Cert.Reference2Ideal.S4096x5632 .bf16)
    (a : Fin 2048) (b : Fin 5632) : (Cert.Reference2Ideal.Read.val_main_v6 (F := Ideal) x0 x1 (ix2 a b) : EReal) = tn x0 x1 a b := by
  rw [Cert.Reference2Ideal.Read.val_main_v6_apply, Cert.Reference2Ideal.Read.val_main_v5_apply, tn_comm]
  exact (Cert.Reference2Ideal.Read.val_main_v4_apply x0 x1 _).trans
    (sum_tn (fun k => congrArg x1 (idx_ext rfl rfl)) (fun k => congrArg x0 (idx_ext rfl rfl)))

/-- The reference's result is the kernel's. -/
theorem equation : Cert.Reference2Ideal.Read.val_main_v6 (F := Ideal) (m ((c : Thread nD τ).loc main_arg0)) (m ((c : Thread nD τ).loc main_arg1)) = (dats m 0 c).arrAt 2 cfg0.N :=
  Tiled.eq (p := 2) (q := 11) rfl rfl rfl
    (tn_tiled (reference_apply _ _) (fun t r s => (congrFun (outs_eq m c t) _).trans (pay_apply _ _ r s)) (lhs_tiled m c) (rhs_tiled m c)) (out_tiled m c)

instance : Cert.Kernel2.Facts := Cert.Kernel2.Gen.facts
instance : Cert.Kernel2Ideal.Facts := Cert.Kernel2Ideal.Gen.facts
instance : Cert.Reference2Ideal.Facts := Cert.Reference2Ideal.Gen.facts

/-- The call's body is the same in the two readings. -/
theorem body_eq : Cert.Kernel2.defs₀ (F := Bits) = defs₀ (F := Bits) :=
  congrArg Defs.onTc (funext fun l => funext fun x => match l, x with | 0, (_, _) => rfl)

/-- The compiled program runs and leaves its arguments unchanged. -/
theorem frame_bits : Cert.quiescent_Kernel2 := fun m ρ _ => by
  have e : Cert.Kernel2.defs (F := Bits) = defs (F := Bits) := congrArg (Pipeline.defs pcfgs) body_eq
  rw [e]
  exact Gen.frame (F := Bits) m ρ

/-- The reference runs and leaves its arguments unchanged. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The kernel and the reference end with equal results. -/
theorem algebraic : Cert.algebraic_Kernel2Ideal_Reference2Ideal := fun m g m' g' _ hargs =>
  ⟨_, run_blocks m g, (θ_run Cert.Reference2Ideal.defs _ _).mono (fun _ h c => ⟨(h c).1.trans (by
    rw [Cert.Reference2Ideal.Read.val_main_v6_eq, (hargs c).1, (hargs c).2]; exact equation m c), (h c).2⟩) (Cert.Reference2Ideal.Value.run (F := Ideal) m' g')⟩

end Cert.Kernel2Ideal.Tiles

/-! ## The gradient of the down projection's weights (`gw_down`) -/

namespace Cert.Kernel3Ideal.Tiles

open Cert.Kernel3Ideal Cert.Kernel3Ideal.Gen Cert.Kernel3Ideal.Value

/-- The tile a point computes. -/
theorem pay_apply (x0 : Vec Ideal S4096x512 .bf16) (x1 : Vec Ideal S4096x512 .f32) (r : Fin 512) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S512x512_S512x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 4) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference3Ideal.S4096x5632 .bf16) (x1 : FVec Ideal Cert.Reference3Ideal.S4096x2048 .f32)
    (a : Fin 5632) (b : Fin 2048) : (Cert.Reference3Ideal.Read.val_main_v5 (F := Ideal) x0 x1 (ix2 a b) : EReal) = tn x0 x1 a b := by
  rw [Cert.Reference3Ideal.Read.val_main_v5_apply, Cert.Reference3Ideal.Read.val_main_v4_apply, tn_comm]
  exact (Cert.Reference3Ideal.Read.val_main_v3_apply x0 x1 _).trans
    (sum_tn (fun k => congrArg x1 (idx_ext rfl rfl)) (fun k => congrArg x0 (idx_ext rfl rfl)))

/-- The reference's result is the kernel's. -/
theorem equation : Cert.Reference3Ideal.Read.val_main_v5 (F := Ideal) (m ((c : Thread nD τ).loc main_arg0)) (m ((c : Thread nD τ).loc main_arg1)) = (dats m 0 c).arrAt 2 cfg0.N :=
  Tiled.eq (p := 11) (q := 4) rfl rfl rfl
    (tn_tiled (reference_apply _ _) (fun t r s => (congrFun (outs_eq m c t) _).trans (pay_apply _ _ r s)) (lhs_tiled m c) (rhs_tiled m c)) (out_tiled m c)

instance : Cert.Kernel3.Facts := Cert.Kernel3.Gen.facts
instance : Cert.Kernel3Ideal.Facts := Cert.Kernel3Ideal.Gen.facts
instance : Cert.Reference3Ideal.Facts := Cert.Reference3Ideal.Gen.facts

/-- The call's body is the same in the two readings. -/
theorem body_eq : Cert.Kernel3.defs₀ (F := Bits) = defs₀ (F := Bits) :=
  congrArg Defs.onTc (funext fun l => funext fun x => match l, x with | 0, (_, _) => rfl)

/-- The compiled program runs and leaves its arguments unchanged. -/
theorem frame_bits : Cert.quiescent_Kernel3 := fun m ρ _ => by
  have e : Cert.Kernel3.defs (F := Bits) = defs (F := Bits) := congrArg (Pipeline.defs pcfgs) body_eq
  rw [e]
  exact Gen.frame (F := Bits) m ρ

/-- The reference runs and leaves its arguments unchanged. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The kernel and the reference end with equal results. -/
theorem algebraic : Cert.algebraic_Kernel3Ideal_Reference3Ideal := fun m g m' g' _ hargs =>
  ⟨_, run_blocks m g, (θ_run Cert.Reference3Ideal.defs _ _).mono (fun _ h c => ⟨(h c).1.trans (by
    rw [Cert.Reference3Ideal.Read.val_main_v5_eq, (hargs c).1, (hargs c).2]; exact equation m c), (h c).2⟩) (Cert.Reference3Ideal.Value.run (F := Ideal) m' g')⟩

end Cert.Kernel3Ideal.Tiles

/-! ## The gradient of the recurrent input weights (`gw_in_r`) -/

namespace Cert.Kernel7Ideal.Tiles

open Cert.Kernel7Ideal Cert.Kernel7Ideal.Gen Cert.Kernel7Ideal.Value

/-- The tile a point computes. -/
theorem pay_apply (x0 : Vec Ideal S4096x1024 .bf16) (x1 : Vec Ideal S4096x512 .bf16) (r : Fin 1024) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 7) (fun t => t.val % 7) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 7) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 7) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference7Ideal.S4096x2048 .bf16) (x1 : FVec Ideal Cert.Reference7Ideal.S4096x3584 .bf16)
    (a : Fin 2048) (b : Fin 3584) : (Cert.Reference7Ideal.Read.val_main_v6 (F := Ideal) x0 x1 (ix2 a b) : EReal) = tn x0 x1 a b := by
  rw [Cert.Reference7Ideal.Read.val_main_v6_apply, Cert.Reference7Ideal.Read.val_main_v5_apply, tn_comm]
  exact (Cert.Reference7Ideal.Read.val_main_v4_apply x0 x1 _).trans
    (sum_tn (fun k => congrArg x1 (idx_ext rfl rfl)) (fun k => congrArg x0 (idx_ext rfl rfl)))

/-- The reference's result is the kernel's. -/
theorem equation : Cert.Reference7Ideal.Read.val_main_v6 (F := Ideal) (m ((c : Thread nD τ).loc main_arg0)) (m ((c : Thread nD τ).loc main_arg1)) = (dats m 0 c).arrAt 2 cfg0.N :=
  Tiled.eq (p := 2) (q := 7) rfl rfl rfl
    (tn_tiled (reference_apply _ _) (fun t r s => (congrFun (outs_eq m c t) _).trans (pay_apply _ _ r s)) (lhs_tiled m c) (rhs_tiled m c)) (out_tiled m c)

instance : Cert.Kernel7.Facts := Cert.Kernel7.Gen.facts
instance : Cert.Kernel7Ideal.Facts := Cert.Kernel7Ideal.Gen.facts
instance : Cert.Reference7Ideal.Facts := Cert.Reference7Ideal.Gen.facts

/-- The call's body is the same in the two readings. -/
theorem body_eq : Cert.Kernel7.defs₀ (F := Bits) = defs₀ (F := Bits) :=
  congrArg Defs.onTc (funext fun l => funext fun x => match l, x with | 0, (_, _) => rfl)

/-- The compiled program runs and leaves its arguments unchanged. -/
theorem frame_bits : Cert.quiescent_Kernel7 := fun m ρ _ => by
  have e : Cert.Kernel7.defs (F := Bits) = defs (F := Bits) := congrArg (Pipeline.defs pcfgs) body_eq
  rw [e]
  exact Gen.frame (F := Bits) m ρ

/-- The reference runs and leaves its arguments unchanged. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- The kernel and the reference end with equal results. -/
theorem algebraic : Cert.algebraic_Kernel7Ideal_Reference7Ideal := fun m g m' g' _ hargs =>
  ⟨_, run_blocks m g, (θ_run Cert.Reference7Ideal.defs _ _).mono (fun _ h c => ⟨(h c).1.trans (by
    rw [Cert.Reference7Ideal.Read.val_main_v6_eq, (hargs c).1, (hargs c).2]; exact equation m c), (h c).2⟩) (Cert.Reference7Ideal.Value.run (F := Ideal) m' g')⟩

end Cert.Kernel7Ideal.Tiles

/-! ## The gradient of the other input weights (`gw_in_f`) -/

namespace Cert.Kernel8Ideal.Tiles

open Cert.Kernel8Ideal Cert.Kernel8Ideal.Gen Cert.Kernel8Ideal.Value

/-- The tile a point computes. -/
theorem pay_apply (x0 : Vec Ideal S4096x1024 .bf16) (x1 : Vec Ideal S4096x640 .bf16) (r : Fin 1024) (s : Fin 640) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x640_S1024x640_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 5) (fun t => t.val % 5) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 5) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 5) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference8Ideal.S4096x2048 .bf16) (x1 : FVec Ideal Cert.Reference8Ideal.S4096x3200 .bf16)
    (a : Fin 2048) (b : Fin 3200) : (Cert.Reference8Ideal.Read.val_main_v6 (F := Ideal) x0 x1 (ix2 a b) : EReal) = tn x0 x1 a b := by
  rw [Cert.Reference8Ideal.Read.val_main_v6_apply, Cert.Reference8Ideal.Read.val_main_v5_apply, tn_comm]
  exact (Cert.Reference8Ideal.Read.val_main_v4_apply x0 x1 _).trans
    (sum_tn (fun k => congrArg x1 (idx_ext rfl rfl)) (fun k => congrArg x0 (idx_ext rfl rfl)))

/-- The reference's result is the kernel's. -/
theorem equation : Cert.Reference8Ideal.Read.val_main_v6 (F := Ideal) (m ((c : Thread nD τ).loc main_arg0)) (m ((c : Thread nD τ).loc main_arg1)) = (dats m 0 c).arrAt 2 cfg0.N :=
  Tiled.eq (p := 2) (q := 5) rfl rfl rfl
    (tn_tiled (reference_apply _ _) (fun t r s => (congrFun (outs_eq m c t) _).trans (pay_apply _ _ r s)) (lhs_tiled m c) (rhs_tiled m c)) (out_tiled m c)

instance : Cert.Kernel8.Facts := Cert.Kernel8.Gen.facts
instance : Cert.Kernel8Ideal.Facts := Cert.Kernel8Ideal.Gen.facts
instance : Cert.Reference8Ideal.Facts := Cert.Reference8Ideal.Gen.facts

/-- The call's body is the same in the two readings. -/
theorem body_eq : Cert.Kernel8.defs₀ (F := Bits) = defs₀ (F := Bits) :=
  congrArg Defs.onTc (funext fun l => funext fun x => match l, x with | 0, (_, _) => rfl)

/-- The compiled program runs and leaves its arguments unchanged. -/
theorem frame_bits : Cert.quiescent_Kernel8 := fun m ρ _ => by
  have e : Cert.Kernel8.defs (F := Bits) = defs (F := Bits) := congrArg (Pipeline.defs pcfgs) body_eq
  rw [e]
  exact Gen.frame (F := Bits) m ρ

/-- The reference runs and leaves its arguments unchanged. -/
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- The kernel and the reference end with equal results. -/
theorem algebraic : Cert.algebraic_Kernel8Ideal_Reference8Ideal := fun m g m' g' _ hargs =>
  ⟨_, run_blocks m g, (θ_run Cert.Reference8Ideal.defs _ _).mono (fun _ h c => ⟨(h c).1.trans (by
    rw [Cert.Reference8Ideal.Read.val_main_v6_eq, (hargs c).1, (hargs c).2]; exact equation m c), (h c).2⟩) (Cert.Reference8Ideal.Value.run (F := Ideal) m' g')⟩

end Cert.Kernel8Ideal.Tiles

/-! ## The gradient of the output weights (`gw_out`) -/

namespace Cert.Kernel11Ideal.Tiles

open Cert.Kernel11Ideal Cert.Kernel11Ideal.Gen Cert.Kernel11Ideal.Value

/-- The tile a point computes. -/
theorem pay_apply (x0 : Vec Ideal S4096x1024 .bf16) (x1 : Vec Ideal S4096x512 .f32) (r : Fin 1024) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 4) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference11Ideal.S4096x2048 .bf16) (x1 : FVec Ideal Cert.Reference11Ideal.S4096x2048 .f32)
    (a : Fin 2048) (b : Fin 2048) : (Cert.Reference11Ideal.Read.val_main_v5 (F := Ideal) x0 x1 (ix2 a b) : EReal) = tn x0 x1 a b := by
  rw [Cert.Reference11Ideal.Read.val_main_v5_apply, Cert.Reference11Ideal.Read.val_main_v4_apply, tn_comm]
  exact (Cert.Reference11Ideal.Read.val_main_v3_apply x0 x1 _).trans
    (sum_tn (fun k => congrArg x1 (idx_ext rfl rfl)) (fun k => congrArg x0 (idx_ext rfl rfl)))

/-- The reference's result is the kernel's. -/
theorem equation : Cert.Reference11Ideal.Read.val_main_v5 (F := Ideal) (m ((c : Thread nD τ).loc main_arg0)) (m ((c : Thread nD τ).loc main_arg1)) = (dats m 0 c).arrAt 2 cfg0.N :=
  Tiled.eq (p := 2) (q := 4) rfl rfl rfl
    (tn_tiled (reference_apply _ _) (fun t r s => (congrFun (outs_eq m c t) _).trans (pay_apply _ _ r s)) (lhs_tiled m c) (rhs_tiled m c)) (out_tiled m c)

instance : Cert.Kernel11.Facts := Cert.Kernel11.Gen.facts
instance : Cert.Kernel11Ideal.Facts := Cert.Kernel11Ideal.Gen.facts
instance : Cert.Reference11Ideal.Facts := Cert.Reference11Ideal.Gen.facts

/-- The call's body is the same in the two readings. -/
theorem body_eq : Cert.Kernel11.defs₀ (F := Bits) = defs₀ (F := Bits) :=
  congrArg Defs.onTc (funext fun l => funext fun x => match l, x with | 0, (_, _) => rfl)

/-- The compiled program runs and leaves its arguments unchanged. -/
theorem frame_bits : Cert.quiescent_Kernel11 := fun m ρ _ => by
  have e : Cert.Kernel11.defs (F := Bits) = defs (F := Bits) := congrArg (Pipeline.defs pcfgs) body_eq
  rw [e]
  exact Gen.frame (F := Bits) m ρ

/-- The reference runs and leaves its arguments unchanged. -/
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- The kernel and the reference end with equal results. -/
theorem algebraic : Cert.algebraic_Kernel11Ideal_Reference11Ideal := fun m g m' g' _ hargs =>
  ⟨_, run_blocks m g, (θ_run Cert.Reference11Ideal.defs _ _).mono (fun _ h c => ⟨(h c).1.trans (by
    rw [Cert.Reference11Ideal.Read.val_main_v5_eq, (hargs c).1, (hargs c).2]; exact equation m c), (h c).2⟩) (Cert.Reference11Ideal.Value.run (F := Ideal) m' g')⟩

end Cert.Kernel11Ideal.Tiles

/-! ## The gradient of the gate's weights (`gw_pgate`) -/

namespace Cert.Kernel13Ideal.Tiles

open Cert.Kernel13Ideal Cert.Kernel13Ideal.Gen Cert.Kernel13Ideal.Value

/-- The tile a point computes. -/
theorem pay_apply (x0 : Vec Ideal S4096x1024 .bf16) (x1 : Vec Ideal S4096x512 .bf16) (r : Fin 1024) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 4) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference13Ideal.S4096x2048 .bf16) (x1 : FVec Ideal Cert.Reference13Ideal.S4096x2048 .bf16)
    (a : Fin 2048) (b : Fin 2048) : (Cert.Reference13Ideal.Read.val_main_v6 (F := Ideal) x0 x1 (ix2 a b) : EReal) = tn x0 x1 a b := by
  rw [Cert.Reference13Ideal.Read.val_main_v6_apply, Cert.Reference13Ideal.Read.val_main_v5_apply, tn_comm]
  exact (Cert.Reference13Ideal.Read.val_main_v4_apply x0 x1 _).trans
    (sum_tn (fun k => congrArg x1 (idx_ext rfl rfl)) (fun k => congrArg x0 (idx_ext rfl rfl)))

/-- The reference's result is the kernel's. -/
theorem equation : Cert.Reference13Ideal.Read.val_main_v6 (F := Ideal) (m ((c : Thread nD τ).loc main_arg0)) (m ((c : Thread nD τ).loc main_arg1)) = (dats m 0 c).arrAt 2 cfg0.N :=
  Tiled.eq (p := 2) (q := 4) rfl rfl rfl
    (tn_tiled (reference_apply _ _) (fun t r s => (congrFun (outs_eq m c t) _).trans (pay_apply _ _ r s)) (lhs_tiled m c) (rhs_tiled m c)) (out_tiled m c)

instance : Cert.Kernel13.Facts := Cert.Kernel13.Gen.facts
instance : Cert.Kernel13Ideal.Facts := Cert.Kernel13Ideal.Gen.facts
instance : Cert.Reference13Ideal.Facts := Cert.Reference13Ideal.Gen.facts

/-- The call's body is the same in the two readings. -/
theorem body_eq : Cert.Kernel13.defs₀ (F := Bits) = defs₀ (F := Bits) :=
  congrArg Defs.onTc (funext fun l => funext fun x => match l, x with | 0, (_, _) => rfl)

/-- The compiled program runs and leaves its arguments unchanged. -/
theorem frame_bits : Cert.quiescent_Kernel13 := fun m ρ _ => by
  have e : Cert.Kernel13.defs (F := Bits) = defs (F := Bits) := congrArg (Pipeline.defs pcfgs) body_eq
  rw [e]
  exact Gen.frame (F := Bits) m ρ

/-- The reference runs and leaves its arguments unchanged. -/
theorem frame_reference : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

/-- The kernel and the reference end with equal results. -/
theorem algebraic : Cert.algebraic_Kernel13Ideal_Reference13Ideal := fun m g m' g' _ hargs =>
  ⟨_, run_blocks m g, (θ_run Cert.Reference13Ideal.defs _ _).mono (fun _ h c => ⟨(h c).1.trans (by
    rw [Cert.Reference13Ideal.Read.val_main_v6_eq, (hargs c).1, (hargs c).2]; exact equation m c), (h c).2⟩) (Cert.Reference13Ideal.Value.run (F := Ideal) m' g')⟩

end Cert.Kernel13Ideal.Tiles

/-! ## The gradient of the per-layer embedding's weights (`gw_ple`) -/

namespace Cert.Kernel15Ideal.Tiles

open Cert.Kernel15Ideal Cert.Kernel15Ideal.Gen Cert.Kernel15Ideal.Value

/-- The tile a point computes. -/
theorem pay_apply (x0 : Vec Ideal S4096x256 .f32) (x1 : Vec Ideal S4096x512 .bf16) (r : Fin 256) (s : Fin 512) :
    k0_pay1 x0 x1 (ix2 r s) = tn x0 x1 r s := by
  unfold tn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S256x512_S256x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun _ => 0) (fun t => t.val / 4) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference15Ideal.S4096x256 .f32) (x1 : FVec Ideal Cert.Reference15Ideal.S4096x2048 .bf16)
    (a : Fin 256) (b : Fin 2048) : (Cert.Reference15Ideal.Read.val_main_v5 (F := Ideal) x0 x1 (ix2 a b) : EReal) = tn x0 x1 a b := by
  rw [Cert.Reference15Ideal.Read.val_main_v5_apply, Cert.Reference15Ideal.Read.val_main_v4_apply, tn_comm]
  exact (Cert.Reference15Ideal.Read.val_main_v3_apply x0 x1 _).trans
    (sum_tn (fun k => congrArg x1 (idx_ext rfl rfl)) (fun k => congrArg x0 (idx_ext rfl rfl)))

/-- The reference's result is the kernel's. -/
theorem equation : Cert.Reference15Ideal.Read.val_main_v5 (F := Ideal) (m ((c : Thread nD τ).loc main_arg0)) (m ((c : Thread nD τ).loc main_arg1)) = (dats m 0 c).arrAt 2 cfg0.N :=
  Tiled.eq (p := 1) (q := 4) rfl rfl rfl
    (tn_tiled (reference_apply _ _) (fun t r s => (congrFun (outs_eq m c t) _).trans (pay_apply _ _ r s)) (lhs_tiled m c) (rhs_tiled m c)) (out_tiled m c)

instance : Cert.Kernel15.Facts := Cert.Kernel15.Gen.facts
instance : Cert.Kernel15Ideal.Facts := Cert.Kernel15Ideal.Gen.facts
instance : Cert.Reference15Ideal.Facts := Cert.Reference15Ideal.Gen.facts

/-- The call's body is the same in the two readings. -/
theorem body_eq : Cert.Kernel15.defs₀ (F := Bits) = defs₀ (F := Bits) :=
  congrArg Defs.onTc (funext fun l => funext fun x => match l, x with | 0, (_, _) => rfl)

/-- The compiled program runs and leaves its arguments unchanged. -/
theorem frame_bits : Cert.quiescent_Kernel15 := fun m ρ _ => by
  have e : Cert.Kernel15.defs (F := Bits) = defs (F := Bits) := congrArg (Pipeline.defs pcfgs) body_eq
  rw [e]
  exact Gen.frame (F := Bits) m ρ

/-- The reference runs and leaves its arguments unchanged. -/
theorem frame_reference : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)

/-- The kernel and the reference end with equal results. -/
theorem algebraic : Cert.algebraic_Kernel15Ideal_Reference15Ideal := fun m g m' g' _ hargs =>
  ⟨_, run_blocks m g, (θ_run Cert.Reference15Ideal.defs _ _).mono (fun _ h c => ⟨(h c).1.trans (by
    rw [Cert.Reference15Ideal.Read.val_main_v5_eq, (hargs c).1, (hargs c).2]; exact equation m c), (h c).2⟩) (Cert.Reference15Ideal.Value.run (F := Ideal) m' g')⟩

end Cert.Kernel15Ideal.Tiles

end
-- ==== Proof.GradActivations.lean ====
/- THE COTANGENTS OF THE ACTIVATIONS: each call of the backward pass that forms one is a product with the transpose of the weights. -/
module

public import proofs.«01_k».proof.Defs
public import proofs.«01_k».proof.Proof.Tile
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read

@[expose] public section

set_option maxRecDepth 8192

noncomputable section

open Idealize.ShloMosaic Idealize.ShloMosaic.TcCoe
open Idealize.SL.Sem
open Cert.Tile

/-! ## The cotangent of the activations (`mmb_down`) -/

namespace Cert.Kernel4Ideal.Tiles

open Cert.Kernel4Ideal Cert.Kernel4Ideal.Gen Cert.Kernel4Ideal.Value

/-- The tile a point computes. -/
theorem pay_apply (x0 : Vec Ideal S1024x2048 .f32) (x1 : Vec Ideal S512x2048 .bf16) (r : Fin 1024) (s : Fin 512) :
    k0_pay1 x0 x1 (ix2 r s) = nt x0 x1 r s := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 11) (fun t => t.val % 11) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 11) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 11) (fun _ => 0) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference4Ideal.S4096x2048 .f32) (x1 : FVec Ideal Cert.Reference4Ideal.S5632x2048 .bf16)
    (a : Fin 4096) (b : Fin 5632) : (Cert.Reference4Ideal.Read.val_main_v3 (F := Ideal) x0 x1 (ix2 a b) : EReal) = nt x0 x1 a b :=
  (Cert.Reference4Ideal.Read.val_main_v3_apply x0 x1 _).trans
    (sum_nt (fun k => congrArg x0 (idx_ext rfl rfl)) (fun k => congrArg x1 (idx_ext rfl rfl)))

/-- The reference's result is the kernel's. -/
theorem equation : Cert.Reference4Ideal.Read.val_main_v3 (F := Ideal) (m ((c : Thread nD τ).loc main_arg0)) (m ((c : Thread nD τ).loc main_arg1)) = (dats m 0 c).arrAt 2 cfg0.N :=
  Tiled.eq (p := 4) (q := 11) rfl rfl rfl
    (nt_tiled (reference_apply _ _) (fun t r s => (congrFun (outs_eq m c t) _).trans (pay_apply _ _ r s)) (lhs_tiled m c) (rhs_tiled m c)) (out_tiled m c)

instance : Cert.Kernel4.Facts := Cert.Kernel4.Gen.facts
instance : Cert.Kernel4Ideal.Facts := Cert.Kernel4Ideal.Gen.facts
instance : Cert.Reference4Ideal.Facts := Cert.Reference4Ideal.Gen.facts

/-- The call's body is the same in the two readings. -/
theorem body_eq : Cert.Kernel4.defs₀ (F := Bits) = defs₀ (F := Bits) :=
  congrArg Defs.onTc (funext fun l => funext fun x => match l, x with | 0, (_, _) => rfl)

/-- The compiled program runs and leaves its arguments unchanged. -/
theorem frame_bits : Cert.quiescent_Kernel4 := fun m ρ _ => by
  have e : Cert.Kernel4.defs (F := Bits) = defs (F := Bits) := congrArg (Pipeline.defs pcfgs) body_eq
  rw [e]
  exact Gen.frame (F := Bits) m ρ

/-- The reference runs and leaves its arguments unchanged. -/
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The kernel and the reference end with equal results. -/
theorem algebraic : Cert.algebraic_Kernel4Ideal_Reference4Ideal := fun m g m' g' _ hargs =>
  ⟨_, run_blocks m g, (θ_run Cert.Reference4Ideal.defs _ _).mono (fun _ h c => ⟨(h c).1.trans (by
    rw [Cert.Reference4Ideal.Read.val_main_v3_eq, (hargs c).1, (hargs c).2]; exact equation m c), (h c).2⟩) (Cert.Reference4Ideal.Value.run (F := Ideal) m' g')⟩

end Cert.Kernel4Ideal.Tiles

/-! ## The cotangent of the normalised tokens through the gate projection (`mmb_gate`) -/

namespace Cert.Kernel5Ideal.Tiles

open Cert.Kernel5Ideal Cert.Kernel5Ideal.Gen Cert.Kernel5Ideal.Value

/-- The tile a point computes. -/
theorem pay_apply (x0 : Vec Ideal S512x5632 .bf16) (x1 : Vec Ideal S512x5632 .bf16) (r : Fin 512) (s : Fin 512) :
    k0_pay1 x0 x1 (ix2 r s) = nt x0 x1 r s := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S512x512_S512x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference5Ideal.S4096x5632 .bf16) (x1 : FVec Ideal Cert.Reference5Ideal.S2048x5632 .bf16)
    (a : Fin 4096) (b : Fin 2048) : (Cert.Reference5Ideal.Read.val_main_v4 (F := Ideal) x0 x1 (ix2 a b) : EReal) = nt x0 x1 a b :=
  (Cert.Reference5Ideal.Read.val_main_v4_apply x0 x1 _).trans
    (sum_nt (fun k => congrArg x0 (idx_ext rfl rfl)) (fun k => congrArg x1 (idx_ext rfl rfl)))

/-- The reference's result is the kernel's. -/
theorem equation : Cert.Reference5Ideal.Read.val_main_v4 (F := Ideal) (m ((c : Thread nD τ).loc main_arg0)) (m ((c : Thread nD τ).loc main_arg1)) = (dats m 0 c).arrAt 2 cfg0.N :=
  Tiled.eq (p := 8) (q := 4) rfl rfl rfl
    (nt_tiled (reference_apply _ _) (fun t r s => (congrFun (outs_eq m c t) _).trans (pay_apply _ _ r s)) (lhs_tiled m c) (rhs_tiled m c)) (out_tiled m c)

instance : Cert.Kernel5.Facts := Cert.Kernel5.Gen.facts
instance : Cert.Kernel5Ideal.Facts := Cert.Kernel5Ideal.Gen.facts
instance : Cert.Reference5Ideal.Facts := Cert.Reference5Ideal.Gen.facts

/-- The call's body is the same in the two readings. -/
theorem body_eq : Cert.Kernel5.defs₀ (F := Bits) = defs₀ (F := Bits) :=
  congrArg Defs.onTc (funext fun l => funext fun x => match l, x with | 0, (_, _) => rfl)

/-- The compiled program runs and leaves its arguments unchanged. -/
theorem frame_bits : Cert.quiescent_Kernel5 := fun m ρ _ => by
  have e : Cert.Kernel5.defs (F := Bits) = defs (F := Bits) := congrArg (Pipeline.defs pcfgs) body_eq
  rw [e]
  exact Gen.frame (F := Bits) m ρ

/-- The reference runs and leaves its arguments unchanged. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The kernel and the reference end with equal results. -/
theorem algebraic : Cert.algebraic_Kernel5Ideal_Reference5Ideal := fun m g m' g' _ hargs =>
  ⟨_, run_blocks m g, (θ_run Cert.Reference5Ideal.defs _ _).mono (fun _ h c => ⟨(h c).1.trans (by
    rw [Cert.Reference5Ideal.Read.val_main_v4_eq, (hargs c).1, (hargs c).2]; exact equation m c), (h c).2⟩) (Cert.Reference5Ideal.Value.run (F := Ideal) m' g')⟩

end Cert.Kernel5Ideal.Tiles

/-! ## The cotangent of the normalised tokens through the up projection, added to the gate's (`mmb_up`) -/

namespace Cert.Kernel6Ideal.Tiles

open Cert.Kernel6Ideal Cert.Kernel6Ideal.Gen Cert.Kernel6Ideal.Value

/-- The tile a point computes. -/
theorem pay_apply (x0 : Vec Ideal S512x5632 .bf16) (x1 : Vec Ideal S512x5632 .bf16) (x2 : Vec Ideal S512x512 .f32) (r : Fin 512) (s : Fin 512) :
    k0_pay1 x0 x1 x2 (ix2 r s) = nt x0 x1 r s + x2 (ix2 r s) := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) (iblk m c 2 t) := by
  unfold outsAt0 out0_A_3 kernelRun0_A
  dsimp only
  exact (View.read_writes_full (Val := Elt Ideal) VO0_3 _ inb_S512x512_S512x512_0_0 _ []).trans
    (congr (congrArg₂ k0_pay1 (load_whole _ _ _ _) (load_whole _ _ _ _)) (load_whole _ _ _ _))

/-- The result's blocks are what the points leave. -/
theorem out_tiled : Tiled ((dats m 0 c).arrAt 3 cfg0.N) (outsAt0 m c) (fun t => t.val / 4) (fun t => t.val % 4) :=
  .of (fun t => ((cfg0.win 3).blk t).view.emb) (fun t => win0_3.index t)
    (fun t y => (congrFun ((blocks3 m c t (flush0_3 t)).trans (flushed3 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- A point's block of the summand. -/
theorem add_tiled : Tiled (m ((c : Thread nD τ).loc main_arg2)) (iblk m c 2) (fun t => t.val / 4) (fun t => t.val % 4) :=
  .of (fun t => ((cfg0.win 2).blk t).view.emb) (fun t => win0_2.index t) (fun _ _ => rfl) (fun _ _ => rfl) (fun _ _ => rfl) (by decide +kernel)

/-- The reference's product. -/
theorem reference_apply (x0 : FVec Ideal Cert.Reference6Ideal.S4096x5632 .bf16) (x1 : FVec Ideal Cert.Reference6Ideal.S2048x5632 .bf16)
    (a : Fin 4096) (b : Fin 2048) : (Cert.Reference6Ideal.Read.val_main_v4 (F := Ideal) x0 x1 (ix2 a b) : EReal) = nt x0 x1 a b :=
  (Cert.Reference6Ideal.Read.val_main_v4_apply x0 x1 _).trans
    (sum_nt (fun k => congrArg x0 (idx_ext rfl rfl)) (fun k => congrArg x1 (idx_ext rfl rfl)))

/-- The reference's result is the kernel's. -/
theorem equation : Cert.Reference6Ideal.Read.val_main_v5 (F := Ideal) (m ((c : Thread nD τ).loc main_arg0)) (m ((c : Thread nD τ).loc main_arg1)) (m ((c : Thread nD τ).loc main_arg2)) = (dats m 0 c).arrAt 3 cfg0.N :=
  Tiled.eq (p := 8) (q := 4) rfl rfl rfl
    (nt_add_tiled (reference_apply _ _) (fun _ => rfl) (fun t r s => (congrFun (outs_eq m c t) _).trans (pay_apply _ _ _ r s))
      (lhs_tiled m c) (rhs_tiled m c) (add_tiled m c)) (out_tiled m c)

instance : Cert.Kernel6.Facts := Cert.Kernel6.Gen.facts
instance : Cert.Kernel6Ideal.Facts := Cert.Kernel6Ideal.Gen.facts
instance : Cert.Reference6Ideal.Facts := Cert.Reference6Ideal.Gen.facts

/-- The call's body is the same in the two readings. -/
theorem body_eq : Cert.Kernel6.defs₀ (F := Bits) = defs₀ (F := Bits) :=
  congrArg Defs.onTc (funext fun l => funext fun x => match l, x with | 0, (_, _) => rfl)

/-- The compiled program runs and leaves its arguments unchanged. -/
theorem frame_bits : Cert.quiescent_Kernel6 := fun m ρ _ => by
  have e : Cert.Kernel6.defs (F := Bits) = defs (F := Bits) := congrArg (Pipeline.defs pcfgs) body_eq
  rw [e]
  exact Gen.frame (F := Bits) m ρ

/-- The reference runs and leaves its arguments unchanged. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The kernel and the reference end with equal results. -/
theorem algebraic : Cert.algebraic_Kernel6Ideal_Reference6Ideal := fun m g m' g' _ hargs =>
  ⟨_, run_blocks m g, (θ_run Cert.Reference6Ideal.defs _ _).mono (fun _ h c => ⟨(h c).1.trans (by
    rw [Cert.Reference6Ideal.Read.val_main_v5_eq, (hargs c).1, (hargs c).2.1, (hargs c).2.2]; exact equation m c), (h c).2⟩) (Cert.Reference6Ideal.Value.run (F := Ideal) m' g')⟩

end Cert.Kernel6Ideal.Tiles

/-! ## The cotangent of the normalised tokens through the recurrent input weights (`mmb_in_r`) -/

namespace Cert.Kernel9Ideal.Tiles

open Cert.Kernel9Ideal Cert.Kernel9Ideal.Gen Cert.Kernel9Ideal.Value

/-- The tile a point computes. -/
theorem pay_apply (x0 : Vec Ideal S1024x3584 .bf16) (x1 : Vec Ideal S512x3584 .bf16) (r : Fin 1024) (s : Fin 512) :
    k0_pay1 x0 x1 (ix2 r s) = nt x0 x1 r s := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference9Ideal.S4096x3584 .bf16) (x1 : FVec Ideal Cert.Reference9Ideal.S2048x3584 .bf16)
    (a : Fin 4096) (b : Fin 2048) : (Cert.Reference9Ideal.Read.val_main_v4 (F := Ideal) x0 x1 (ix2 a b) : EReal) = nt x0 x1 a b :=
  (Cert.Reference9Ideal.Read.val_main_v4_apply x0 x1 _).trans
    (sum_nt (fun k => congrArg x0 (idx_ext rfl rfl)) (fun k => congrArg x1 (idx_ext rfl rfl)))

/-- The reference's result is the kernel's. -/
theorem equation : Cert.Reference9Ideal.Read.val_main_v4 (F := Ideal) (m ((c : Thread nD τ).loc main_arg0)) (m ((c : Thread nD τ).loc main_arg1)) = (dats m 0 c).arrAt 2 cfg0.N :=
  Tiled.eq (p := 4) (q := 4) rfl rfl rfl
    (nt_tiled (reference_apply _ _) (fun t r s => (congrFun (outs_eq m c t) _).trans (pay_apply _ _ r s)) (lhs_tiled m c) (rhs_tiled m c)) (out_tiled m c)

instance : Cert.Kernel9.Facts := Cert.Kernel9.Gen.facts
instance : Cert.Kernel9Ideal.Facts := Cert.Kernel9Ideal.Gen.facts
instance : Cert.Reference9Ideal.Facts := Cert.Reference9Ideal.Gen.facts

/-- The call's body is the same in the two readings. -/
theorem body_eq : Cert.Kernel9.defs₀ (F := Bits) = defs₀ (F := Bits) :=
  congrArg Defs.onTc (funext fun l => funext fun x => match l, x with | 0, (_, _) => rfl)

/-- The compiled program runs and leaves its arguments unchanged. -/
theorem frame_bits : Cert.quiescent_Kernel9 := fun m ρ _ => by
  have e : Cert.Kernel9.defs (F := Bits) = defs (F := Bits) := congrArg (Pipeline.defs pcfgs) body_eq
  rw [e]
  exact Gen.frame (F := Bits) m ρ

/-- The reference runs and leaves its arguments unchanged. -/
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The kernel and the reference end with equal results. -/
theorem algebraic : Cert.algebraic_Kernel9Ideal_Reference9Ideal := fun m g m' g' _ hargs =>
  ⟨_, run_blocks m g, (θ_run Cert.Reference9Ideal.defs _ _).mono (fun _ h c => ⟨(h c).1.trans (by
    rw [Cert.Reference9Ideal.Read.val_main_v4_eq, (hargs c).1, (hargs c).2]; exact equation m c), (h c).2⟩) (Cert.Reference9Ideal.Value.run (F := Ideal) m' g')⟩

end Cert.Kernel9Ideal.Tiles

/-! ## The cotangent of the normalised tokens through the other input weights, added to the first (`mmb_in_f`) -/

namespace Cert.Kernel10Ideal.Tiles

open Cert.Kernel10Ideal Cert.Kernel10Ideal.Gen Cert.Kernel10Ideal.Value

/-- The tile a point computes. -/
theorem pay_apply (x0 : Vec Ideal S1024x3200 .bf16) (x1 : Vec Ideal S512x3200 .bf16) (x2 : Vec Ideal S1024x512 .f32) (r : Fin 1024) (s : Fin 512) :
    k0_pay1 x0 x1 x2 (ix2 r s) = nt x0 x1 r s + x2 (ix2 r s) := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) (iblk m c 2 t) := by
  unfold outsAt0 out0_A_3 kernelRun0_A
  dsimp only
  exact (View.read_writes_full (Val := Elt Ideal) VO0_3 _ inb_S1024x512_S1024x512_0_0 _ []).trans
    (congr (congrArg₂ k0_pay1 (load_whole _ _ _ _) (load_whole _ _ _ _)) (load_whole _ _ _ _))

/-- The result's blocks are what the points leave. -/
theorem out_tiled : Tiled ((dats m 0 c).arrAt 3 cfg0.N) (outsAt0 m c) (fun t => t.val / 4) (fun t => t.val % 4) :=
  .of (fun t => ((cfg0.win 3).blk t).view.emb) (fun t => win0_3.index t)
    (fun t y => (congrFun ((blocks3 m c t (flush0_3 t)).trans (flushed3 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- A point's block of the summand. -/
theorem add_tiled : Tiled (m ((c : Thread nD τ).loc main_arg2)) (iblk m c 2) (fun t => t.val / 4) (fun t => t.val % 4) :=
  .of (fun t => ((cfg0.win 2).blk t).view.emb) (fun t => win0_2.index t) (fun _ _ => rfl) (fun _ _ => rfl) (fun _ _ => rfl) (by decide +kernel)

/-- The reference's product. -/
theorem reference_apply (x0 : FVec Ideal Cert.Reference10Ideal.S4096x3200 .bf16) (x1 : FVec Ideal Cert.Reference10Ideal.S2048x3200 .bf16)
    (a : Fin 4096) (b : Fin 2048) : (Cert.Reference10Ideal.Read.val_main_v4 (F := Ideal) x0 x1 (ix2 a b) : EReal) = nt x0 x1 a b :=
  (Cert.Reference10Ideal.Read.val_main_v4_apply x0 x1 _).trans
    (sum_nt (fun k => congrArg x0 (idx_ext rfl rfl)) (fun k => congrArg x1 (idx_ext rfl rfl)))

/-- The reference's result is the kernel's. -/
theorem equation : Cert.Reference10Ideal.Read.val_main_v5 (F := Ideal) (m ((c : Thread nD τ).loc main_arg0)) (m ((c : Thread nD τ).loc main_arg1)) (m ((c : Thread nD τ).loc main_arg2)) = (dats m 0 c).arrAt 3 cfg0.N :=
  Tiled.eq (p := 4) (q := 4) rfl rfl rfl
    (nt_add_tiled (reference_apply _ _) (fun _ => rfl) (fun t r s => (congrFun (outs_eq m c t) _).trans (pay_apply _ _ _ r s))
      (lhs_tiled m c) (rhs_tiled m c) (add_tiled m c)) (out_tiled m c)

instance : Cert.Kernel10.Facts := Cert.Kernel10.Gen.facts
instance : Cert.Kernel10Ideal.Facts := Cert.Kernel10Ideal.Gen.facts
instance : Cert.Reference10Ideal.Facts := Cert.Reference10Ideal.Gen.facts

/-- The call's body is the same in the two readings. -/
theorem body_eq : Cert.Kernel10.defs₀ (F := Bits) = defs₀ (F := Bits) :=
  congrArg Defs.onTc (funext fun l => funext fun x => match l, x with | 0, (_, _) => rfl)

/-- The compiled program runs and leaves its arguments unchanged. -/
theorem frame_bits : Cert.quiescent_Kernel10 := fun m ρ _ => by
  have e : Cert.Kernel10.defs (F := Bits) = defs (F := Bits) := congrArg (Pipeline.defs pcfgs) body_eq
  rw [e]
  exact Gen.frame (F := Bits) m ρ

/-- The reference runs and leaves its arguments unchanged. -/
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- The kernel and the reference end with equal results. -/
theorem algebraic : Cert.algebraic_Kernel10Ideal_Reference10Ideal := fun m g m' g' _ hargs =>
  ⟨_, run_blocks m g, (θ_run Cert.Reference10Ideal.defs _ _).mono (fun _ h c => ⟨(h c).1.trans (by
    rw [Cert.Reference10Ideal.Read.val_main_v5_eq, (hargs c).1, (hargs c).2.1, (hargs c).2.2]; exact equation m c), (h c).2⟩) (Cert.Reference10Ideal.Value.run (F := Ideal) m' g')⟩

end Cert.Kernel10Ideal.Tiles

/-! ## The cotangent of the attention's output (`mmb_out`) -/

namespace Cert.Kernel12Ideal.Tiles

open Cert.Kernel12Ideal Cert.Kernel12Ideal.Gen Cert.Kernel12Ideal.Value

/-- The tile a point computes. -/
theorem pay_apply (x0 : Vec Ideal S1024x2048 .f32) (x1 : Vec Ideal S512x2048 .bf16) (r : Fin 1024) (s : Fin 512) :
    k0_pay1 x0 x1 (ix2 r s) = nt x0 x1 r s := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference12Ideal.S4096x2048 .f32) (x1 : FVec Ideal Cert.Reference12Ideal.S2048x2048 .bf16)
    (a : Fin 4096) (b : Fin 2048) : (Cert.Reference12Ideal.Read.val_main_v3 (F := Ideal) x0 x1 (ix2 a b) : EReal) = nt x0 x1 a b :=
  (Cert.Reference12Ideal.Read.val_main_v3_apply x0 x1 _).trans
    (sum_nt (fun k => congrArg x0 (idx_ext rfl rfl)) (fun k => congrArg x1 (idx_ext rfl rfl)))

/-- The reference's result is the kernel's. -/
theorem equation : Cert.Reference12Ideal.Read.val_main_v3 (F := Ideal) (m ((c : Thread nD τ).loc main_arg0)) (m ((c : Thread nD τ).loc main_arg1)) = (dats m 0 c).arrAt 2 cfg0.N :=
  Tiled.eq (p := 4) (q := 4) rfl rfl rfl
    (nt_tiled (reference_apply _ _) (fun t r s => (congrFun (outs_eq m c t) _).trans (pay_apply _ _ r s)) (lhs_tiled m c) (rhs_tiled m c)) (out_tiled m c)

instance : Cert.Kernel12.Facts := Cert.Kernel12.Gen.facts
instance : Cert.Kernel12Ideal.Facts := Cert.Kernel12Ideal.Gen.facts
instance : Cert.Reference12Ideal.Facts := Cert.Reference12Ideal.Gen.facts

/-- The call's body is the same in the two readings. -/
theorem body_eq : Cert.Kernel12.defs₀ (F := Bits) = defs₀ (F := Bits) :=
  congrArg Defs.onTc (funext fun l => funext fun x => match l, x with | 0, (_, _) => rfl)

/-- The compiled program runs and leaves its arguments unchanged. -/
theorem frame_bits : Cert.quiescent_Kernel12 := fun m ρ _ => by
  have e : Cert.Kernel12.defs (F := Bits) = defs (F := Bits) := congrArg (Pipeline.defs pcfgs) body_eq
  rw [e]
  exact Gen.frame (F := Bits) m ρ

/-- The reference runs and leaves its arguments unchanged. -/
theorem frame_reference : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- The kernel and the reference end with equal results. -/
theorem algebraic : Cert.algebraic_Kernel12Ideal_Reference12Ideal := fun m g m' g' _ hargs =>
  ⟨_, run_blocks m g, (θ_run Cert.Reference12Ideal.defs _ _).mono (fun _ h c => ⟨(h c).1.trans (by
    rw [Cert.Reference12Ideal.Read.val_main_v3_eq, (hargs c).1, (hargs c).2]; exact equation m c), (h c).2⟩) (Cert.Reference12Ideal.Value.run (F := Ideal) m' g')⟩

end Cert.Kernel12Ideal.Tiles

/-! ## The cotangent of the gate's input (`mmb_pgate`) -/

namespace Cert.Kernel14Ideal.Tiles

open Cert.Kernel14Ideal Cert.Kernel14Ideal.Gen Cert.Kernel14Ideal.Value

/-- The tile a point computes. -/
theorem pay_apply (x0 : Vec Ideal S1024x2048 .bf16) (x1 : Vec Ideal S512x2048 .bf16) (r : Fin 1024) (s : Fin 512) :
    k0_pay1 x0 x1 (ix2 r s) = nt x0 x1 r s := by
  unfold nt
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun t => t.val % 4) (fun _ => 0) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference14Ideal.S4096x2048 .bf16) (x1 : FVec Ideal Cert.Reference14Ideal.S2048x2048 .bf16)
    (a : Fin 4096) (b : Fin 2048) : (Cert.Reference14Ideal.Read.val_main_v4 (F := Ideal) x0 x1 (ix2 a b) : EReal) = nt x0 x1 a b :=
  (Cert.Reference14Ideal.Read.val_main_v4_apply x0 x1 _).trans
    (sum_nt (fun k => congrArg x0 (idx_ext rfl rfl)) (fun k => congrArg x1 (idx_ext rfl rfl)))

/-- The reference's result is the kernel's. -/
theorem equation : Cert.Reference14Ideal.Read.val_main_v4 (F := Ideal) (m ((c : Thread nD τ).loc main_arg0)) (m ((c : Thread nD τ).loc main_arg1)) = (dats m 0 c).arrAt 2 cfg0.N :=
  Tiled.eq (p := 4) (q := 4) rfl rfl rfl
    (nt_tiled (reference_apply _ _) (fun t r s => (congrFun (outs_eq m c t) _).trans (pay_apply _ _ r s)) (lhs_tiled m c) (rhs_tiled m c)) (out_tiled m c)

instance : Cert.Kernel14.Facts := Cert.Kernel14.Gen.facts
instance : Cert.Kernel14Ideal.Facts := Cert.Kernel14Ideal.Gen.facts
instance : Cert.Reference14Ideal.Facts := Cert.Reference14Ideal.Gen.facts

/-- The call's body is the same in the two readings. -/
theorem body_eq : Cert.Kernel14.defs₀ (F := Bits) = defs₀ (F := Bits) :=
  congrArg Defs.onTc (funext fun l => funext fun x => match l, x with | 0, (_, _) => rfl)

/-- The compiled program runs and leaves its arguments unchanged. -/
theorem frame_bits : Cert.quiescent_Kernel14 := fun m ρ _ => by
  have e : Cert.Kernel14.defs (F := Bits) = defs (F := Bits) := congrArg (Pipeline.defs pcfgs) body_eq
  rw [e]
  exact Gen.frame (F := Bits) m ρ

/-- The reference runs and leaves its arguments unchanged. -/
theorem frame_reference : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

/-- The kernel and the reference end with equal results. -/
theorem algebraic : Cert.algebraic_Kernel14Ideal_Reference14Ideal := fun m g m' g' _ hargs =>
  ⟨_, run_blocks m g, (θ_run Cert.Reference14Ideal.defs _ _).mono (fun _ h c => ⟨(h c).1.trans (by
    rw [Cert.Reference14Ideal.Read.val_main_v4_eq, (hargs c).1, (hargs c).2]; exact equation m c), (h c).2⟩) (Cert.Reference14Ideal.Value.run (F := Ideal) m' g')⟩

end Cert.Kernel14Ideal.Tiles

end
-- ==== Proof.Vectors.lean ====
/- The optimiser's call on the packed vectors: the weights that are vectors, one after another, as rows of 128 numbers. A
   point takes eight rows; the summed gradient passes through, so this call's arrays are read block by block. -/
module

public import proofs.«01_k».proof.Defs
public import proofs.«01_k».proof.Proof.Tile
public import proofs.«01_k».proof.Proof.Gen.Kernel30
public import proofs.«01_k».proof.Proof.Gen.Kernel30Ideal.Value
public import proofs.«01_k».proof.Proof.Gen.Reference30Ideal.Run

@[expose] public section

set_option maxRecDepth 8192

noncomputable section

open Idealize.ShloMosaic Idealize.ShloMosaic.TcCoe
open Idealize.SL.Sem

namespace Cert.Tile

/-- Slabs of four arrays, taken number by number through one function, are the slabs of the four arrays so taken. -/
theorem Tiled.map {n R C r c : ℕ} {α : Type} {A₀ A₁ A₂ A₃ Y : (⟨2, ![R, C]⟩ : Shape).Idx → α} {L₀ L₁ L₂ L₃ T : Fin n → (⟨2, ![r, c]⟩ : Shape).Idx → α}
    {row col : Fin n → ℕ} (f : α → α → α → α → α) (h₀ : Tiled A₀ L₀ row col) (h₁ : Tiled A₁ L₁ row col) (h₂ : Tiled A₂ L₂ row col)
    (h₃ : Tiled A₃ L₃ row col) (hT : ∀ t y, T t y = f (L₀ t y) (L₁ t y) (L₂ t y) (L₃ t y)) (hY : ∀ i, Y i = f (A₀ i) (A₁ i) (A₂ i) (A₃ i)) :
    Tiled Y T row col := fun t i j i' j' hi hj => by
  rw [hT, hY, h₀ t i j i' j' hi hj, h₁ t i j i' j' hi hj, h₂ t i j i' j' hi hj, h₃ t i j i' j' hi hj]

end Cert.Tile

/-! ## The packed vectors, 168 × 128 -/

namespace Cert.Kernel30Ideal.Step

open Cert.Tile Cert.Kernel30Ideal Cert.Kernel30Ideal.Gen Cert.Kernel30Ideal.Value

instance : Cert.Kernel30.Facts := Cert.Kernel30.Gen.facts
instance : Cert.Kernel30Ideal.Facts := Cert.Kernel30Ideal.Gen.facts
instance : Cert.Reference30Ideal.Facts := Cert.Reference30Ideal.Gen.facts

/-- The call's body has the same text in the printed program and in its idealized one. -/
theorem body_eq : Cert.Kernel30.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel30 := fun m ρ _ => by
  have e : Cert.Kernel30.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference30Ideal := fun m ρ _ =>
  (θ_run Cert.Reference30Ideal.defs _ _).mono
    (fun r h => ⟨fun c => (h c).2.2.2.2, sem_eq_zero_of_no_sems (by decide) r.2⟩) (Cert.Reference30Ideal.Value.run (F := Ideal) m ρ)

variable (m : (ℓ : Loc nD τ sig) → Buf (Elt Ideal) ℓ) (c : Dev nD)

/-- A slab is read from its corner. -/
theorem zeros : (![0, 0] : Fin 2 → Nat) = fun _ => 0 := funext fun a => by fin_cases a <;> rfl

/-- The slabs of argument 0. -/
theorem slab0 : Tiled (m ((c : Thread nD τ).loc main_arg0)) (iblk m c 0) (fun t => t.val / 1) (fun t => t.val % 1) :=
  .of (fun t => ((cfg0.win 0).blk t).view.emb) (fun t => win0_0.index t) (fun _ _ => rfl) (fun _ _ => rfl) (fun _ _ => rfl) (by decide +kernel)

/-- The slabs of argument 1. -/
theorem slab1 : Tiled (m ((c : Thread nD τ).loc main_arg1)) (iblk m c 1) (fun t => t.val / 1) (fun t => t.val % 1) :=
  .of (fun t => ((cfg0.win 1).blk t).view.emb) (fun t => win0_1.index t) (fun _ _ => rfl) (fun _ _ => rfl) (fun _ _ => rfl) (by decide +kernel)

/-- The slabs of argument 2. -/
theorem slab2 : Tiled (m ((c : Thread nD τ).loc main_arg2)) (iblk m c 2) (fun t => t.val / 1) (fun t => t.val % 1) :=
  .of (fun t => ((cfg0.win 2).blk t).view.emb) (fun t => win0_2.index t) (fun _ _ => rfl) (fun _ _ => rfl) (fun _ _ => rfl) (by decide +kernel)

/-- The slabs of argument 3. -/
theorem slab3 : Tiled (m ((c : Thread nD τ).loc main_arg3)) (iblk m c 3) (fun t => t.val / 1) (fun t => t.val % 1) :=
  .of (fun t => ((cfg0.win 3).blk t).view.emb) (fun t => win0_3.index t) (fun _ _ => rfl) (fun _ _ => rfl) (fun _ _ => rfl) (by decide +kernel)

/-- The slabs of result 0. -/
theorem result0 : Tiled ((dats m 0 c).arrAt 4 cfg0.N) (fun t => iblk m c 3 t) (fun t => t.val / 1) (fun t => t.val % 1) :=
  .of (fun t => ((cfg0.win 4).blk t).view.emb) (fun t => win0_4.index t)
    (fun t y => Eq.trans (congrFun (by unfold out0_4; rw [View.canon_unit_zero zeros]; simp only [View.ld_unit_zero (S := S8x128) zeros]; rfl) y)
      ((congrFun ((blocks4 m c t (flush0_4 t)).trans (flushed4 m c t)) y).symm.trans ((View.read_apply _ _).trans (cast_eq _ _))))
    (fun _ _ => rfl) (fun _ _ => rfl) (by decide +kernel)

/-- The slabs of result 1. -/
theorem result1 : Tiled ((dats m 0 c).arrAt 5 cfg0.N) (fun t => k0_pay3 (iblk m c 0 t) (iblk m c 1 t) (iblk m c 2 t) (iblk m c 3 t)) (fun t => t.val / 1) (fun t => t.val % 1) :=
  .of (fun t => ((cfg0.win 5).blk t).view.emb) (fun t => win0_5.index t)
    (fun t y => Eq.trans (congrFun (by unfold out0_5; rw [View.canon_unit_zero zeros]; simp only [View.ld_unit_zero (S := S8x128) zeros]; rfl) y)
      ((congrFun ((blocks5 m c t (flush0_5 t)).trans (flushed5 m c t)) y).symm.trans ((View.read_apply _ _).trans (cast_eq _ _))))
    (fun _ _ => rfl) (fun _ _ => rfl) (by decide +kernel)

/-- The slabs of result 2. -/
theorem result2 : Tiled ((dats m 0 c).arrAt 6 cfg0.N) (fun t => k0_pay1 (iblk m c 1 t) (iblk m c 3 t)) (fun t => t.val / 1) (fun t => t.val % 1) :=
  .of (fun t => ((cfg0.win 6).blk t).view.emb) (fun t => win0_6.index t)
    (fun t y => Eq.trans (congrFun (by unfold out0_6; rw [View.canon_unit_zero zeros]; simp only [View.ld_unit_zero (S := S8x128) zeros]; rfl) y)
      ((congrFun ((blocks6 m c t (flush0_6 t)).trans (flushed6 m c t)) y).symm.trans ((View.read_apply _ _).trans (cast_eq _ _))))
    (fun _ _ => rfl) (fun _ _ => rfl) (by decide +kernel)

/-- The slabs of result 3. -/
theorem result3 : Tiled ((dats m 0 c).arrAt 7 cfg0.N) (fun t => k0_pay2 (iblk m c 2 t) (iblk m c 3 t)) (fun t => t.val / 1) (fun t => t.val % 1) :=
  .of (fun t => ((cfg0.win 7).blk t).view.emb) (fun t => win0_7.index t)
    (fun t y => Eq.trans (congrFun (by unfold out0_7; rw [View.canon_unit_zero zeros]; simp only [View.ld_unit_zero (S := S8x128) zeros]; rfl) y)
      ((congrFun ((blocks7 m c t (flush0_7 t)).trans (flushed7 m c t)) y).symm.trans ((View.read_apply _ _).trans (cast_eq _ _))))
    (fun _ _ => rfl) (fun _ _ => rfl) (by decide +kernel)

/-- The first moment of a gradient's number. -/
def first (a g : Ideal .f32) : Ideal .f32 :=
  FloatOps.addf (FloatOps.mulf (Scalar.ofBits .f32 0x3F666666#32) a) (FloatOps.mulf (Scalar.ofBits .f32 0x3DCCCCCD#32) g)

/-- The second moment of a gradient's number. -/
def second (b g : Ideal .f32) : Ideal .f32 :=
  FloatOps.addf (FloatOps.mulf (Scalar.ofBits .f32 0x3F7FBE77#32) b)
    (FloatOps.mulf (Scalar.ofBits .f32 0x3A83126F#32) (FloatOps.mulf g g))

/-- The step of a weight's number from its two moments. -/
def delta (w a b : Ideal .f32) : Ideal .f32 :=
  FloatOps.mulf (Scalar.ofBits .f32 0xBA83126F#32) (FloatOps.addf
    (FloatOps.divf (FloatOps.divf a (Scalar.ofBits .f32 0x3F26BD02#32))
      (FloatOps.addf (FloatOps.sqrt (FloatOps.divf b (Scalar.ofBits .f32 0x3C231ACC#32))) (Scalar.ofBits .f32 0x322BCC77#32)))
    (FloatOps.mulf (Scalar.ofBits .f32 0x3C23D70A#32) w))

/-- The call and the reference end with the same four arrays: the summed gradient, the step and the two moments. -/
theorem algebraic : Cert.algebraic_Kernel30Ideal_Reference30Ideal := fun m g m' g' _ hargs =>
  ⟨_, _, _, _, run_blocks m g, (θ_run Cert.Reference30Ideal.defs _ _).mono (fun r h c => by
    obtain ⟨e0, e1, e2, e3⟩ := hargs c
    obtain ⟨h0, h1, h2, h3, hk⟩ := h c
    refine ⟨h0.trans ?_, h1.trans ?_, h2.trans ?_, h3.trans ?_, hk⟩
    · rw [e3]
      exact Tiled.eq (p := 21) (q := 1) rfl rfl rfl (slab3 m c) (result0 m c)
    · rw [e0, e1, e2, e3]
      exact Tiled.eq (p := 21) (q := 1) rfl rfl rfl (.map (fun w a b g => delta w (first a g) (second b g)) (slab0 m c) (slab1 m c) (slab2 m c) (slab3 m c)
        (fun _ _ => rfl) (fun _ => rfl)) (result1 m c)
    · rw [e1, e3]
      exact Tiled.eq (p := 21) (q := 1) rfl rfl rfl (.map (fun _ a _ g => first a g) (slab0 m c) (slab1 m c) (slab2 m c) (slab3 m c)
        (fun _ _ => rfl) (fun _ => rfl)) (result2 m c)
    · rw [e2, e3]
      exact Tiled.eq (p := 21) (q := 1) rfl rfl rfl (.map (fun _ _ b g => second b g) (slab0 m c) (slab1 m c) (slab2 m c) (slab3 m c)
        (fun _ _ => rfl) (fun _ => rfl)) (result3 m c)) (Cert.Reference30Ideal.Value.run (F := Ideal) m' g')⟩

end Cert.Kernel30Ideal.Step

end
-- ==== Proof.Optimiser.lean ====
/- The optimiser's calls, one for each shape of a weight's shard. A call walks its weight's rows in slabs and, on every
   number, adds the two cores' gradients and takes one AdamW step; the generated values already read each of its four
   arrays number by number, and the reference does the same operations on whole arrays. -/
module

public import proofs.«01_k».proof.Defs
public import proofs.«01_k».proof.Proof.Gen.Kernel23
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24Ideal.Value
public import proofs.«01_k».proof.Proof.Gen.Reference24Ideal.Run
public import proofs.«01_k».proof.Proof.Gen.Kernel25
public import proofs.«01_k».proof.Proof.Gen.Kernel25Ideal.Value
public import proofs.«01_k».proof.Proof.Gen.Reference25Ideal.Run
public import proofs.«01_k».proof.Proof.Gen.Kernel26
public import proofs.«01_k».proof.Proof.Gen.Kernel26Ideal.Value
public import proofs.«01_k».proof.Proof.Gen.Reference26Ideal.Run
public import proofs.«01_k».proof.Proof.Gen.Kernel27
public import proofs.«01_k».proof.Proof.Gen.Kernel27Ideal.Value
public import proofs.«01_k».proof.Proof.Gen.Reference27Ideal.Run
public import proofs.«01_k».proof.Proof.Gen.Kernel28
public import proofs.«01_k».proof.Proof.Gen.Kernel28Ideal.Value
public import proofs.«01_k».proof.Proof.Gen.Reference28Ideal.Run
public import proofs.«01_k».proof.Proof.Gen.Kernel29
public import proofs.«01_k».proof.Proof.Gen.Kernel29Ideal.Value
public import proofs.«01_k».proof.Proof.Gen.Reference29Ideal.Run

@[expose] public section

set_option maxRecDepth 8192

noncomputable section

open Idealize.ShloMosaic Idealize.ShloMosaic.TcCoe
open Idealize.SL.Sem

/-! ## The input projection, 2048 × 1652 -/

namespace Cert.Kernel23Ideal.Step

open Cert.Kernel23Ideal Cert.Kernel23Ideal.Gen

instance : Cert.Kernel23.Facts := Cert.Kernel23.Gen.facts
instance : Cert.Kernel23Ideal.Facts := Cert.Kernel23Ideal.Gen.facts
instance : Cert.Reference23Ideal.Facts := Cert.Reference23Ideal.Gen.facts

/-- The call's body has the same text in the printed program and in its idealized one. -/
theorem body_eq : Cert.Kernel23.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel23 := fun m ρ _ => by
  have e : Cert.Kernel23.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference23Ideal := fun m ρ _ =>
  (θ_run Cert.Reference23Ideal.defs _ _).mono
    (fun r h => ⟨fun c => (h c).2.2.2.2, sem_eq_zero_of_no_sems (by decide) r.2⟩) (Cert.Reference23Ideal.Value.run (F := Ideal) m ρ)

/-- The call and the reference end with the same four arrays: the summed gradient, the step and the two moments. -/
theorem algebraic : Cert.algebraic_Kernel23Ideal_Reference23Ideal := fun m g m' g' _ hargs =>
  ⟨_, _, _, _, Value.run m g, (θ_run Cert.Reference23Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference23Ideal.Value.run (F := Ideal) m' g')⟩

end Cert.Kernel23Ideal.Step

/-! ## The low-rank maps of the decay and of the learning rate, 96 × 256 -/

namespace Cert.Kernel24Ideal.Step

open Cert.Kernel24Ideal Cert.Kernel24Ideal.Gen

instance : Cert.Kernel24.Facts := Cert.Kernel24.Gen.facts
instance : Cert.Kernel24Ideal.Facts := Cert.Kernel24Ideal.Gen.facts
instance : Cert.Reference24Ideal.Facts := Cert.Reference24Ideal.Gen.facts

/-- The call's body has the same text in the printed program and in its idealized one. -/
theorem body_eq : Cert.Kernel24.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel24 := fun m ρ _ => by
  have e : Cert.Kernel24.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference24Ideal := fun m ρ _ =>
  (θ_run Cert.Reference24Ideal.defs _ _).mono
    (fun r h => ⟨fun c => (h c).2.2.2.2, sem_eq_zero_of_no_sems (by decide) r.2⟩) (Cert.Reference24Ideal.Value.run (F := Ideal) m ρ)

/-- The call and the reference end with the same four arrays: the summed gradient, the step and the two moments. -/
theorem algebraic : Cert.algebraic_Kernel24Ideal_Reference24Ideal := fun m g m' g' _ hargs =>
  ⟨_, _, _, _, Value.run m g, (θ_run Cert.Reference24Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference24Ideal.Value.run (F := Ideal) m' g')⟩

end Cert.Kernel24Ideal.Step

/-! ## The low-rank map of the output gate, 256 × 256 -/

namespace Cert.Kernel25Ideal.Step

open Cert.Kernel25Ideal Cert.Kernel25Ideal.Gen

instance : Cert.Kernel25.Facts := Cert.Kernel25.Gen.facts
instance : Cert.Kernel25Ideal.Facts := Cert.Kernel25Ideal.Gen.facts
instance : Cert.Reference25Ideal.Facts := Cert.Reference25Ideal.Gen.facts

/-- The call's body has the same text in the printed program and in its idealized one. -/
theorem body_eq : Cert.Kernel25.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel25 := fun m ρ _ => by
  have e : Cert.Kernel25.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference25Ideal := fun m ρ _ =>
  (θ_run Cert.Reference25Ideal.defs _ _).mono
    (fun r h => ⟨fun c => (h c).2.2.2.2, sem_eq_zero_of_no_sems (by decide) r.2⟩) (Cert.Reference25Ideal.Value.run (F := Ideal) m ρ)

/-- The call and the reference end with the same four arrays: the summed gradient, the step and the two moments. -/
theorem algebraic : Cert.algebraic_Kernel25Ideal_Reference25Ideal := fun m g m' g' _ hargs =>
  ⟨_, _, _, _, Value.run m g, (θ_run Cert.Reference25Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference25Ideal.Value.run (F := Ideal) m' g')⟩

end Cert.Kernel25Ideal.Step

/-! ## The gate and up projections, 2048 × 1408 -/

namespace Cert.Kernel26Ideal.Step

open Cert.Kernel26Ideal Cert.Kernel26Ideal.Gen

instance : Cert.Kernel26.Facts := Cert.Kernel26.Gen.facts
instance : Cert.Kernel26Ideal.Facts := Cert.Kernel26Ideal.Gen.facts
instance : Cert.Reference26Ideal.Facts := Cert.Reference26Ideal.Gen.facts

/-- The call's body has the same text in the printed program and in its idealized one. -/
theorem body_eq : Cert.Kernel26.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel26 := fun m ρ _ => by
  have e : Cert.Kernel26.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference26Ideal := fun m ρ _ =>
  (θ_run Cert.Reference26Ideal.defs _ _).mono
    (fun r h => ⟨fun c => (h c).2.2.2.2, sem_eq_zero_of_no_sems (by decide) r.2⟩) (Cert.Reference26Ideal.Value.run (F := Ideal) m ρ)

/-- The call and the reference end with the same four arrays: the summed gradient, the step and the two moments. -/
theorem algebraic : Cert.algebraic_Kernel26Ideal_Reference26Ideal := fun m g m' g' _ hargs =>
  ⟨_, _, _, _, Value.run m g, (θ_run Cert.Reference26Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference26Ideal.Value.run (F := Ideal) m' g')⟩

end Cert.Kernel26Ideal.Step

/-! ## The projection of the per-layer embedding, 256 × 512 -/

namespace Cert.Kernel27Ideal.Step

open Cert.Kernel27Ideal Cert.Kernel27Ideal.Gen

instance : Cert.Kernel27.Facts := Cert.Kernel27.Gen.facts
instance : Cert.Kernel27Ideal.Facts := Cert.Kernel27Ideal.Gen.facts
instance : Cert.Reference27Ideal.Facts := Cert.Reference27Ideal.Gen.facts

/-- The call's body has the same text in the printed program and in its idealized one. -/
theorem body_eq : Cert.Kernel27.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel27 := fun m ρ _ => by
  have e : Cert.Kernel27.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference27Ideal := fun m ρ _ =>
  (θ_run Cert.Reference27Ideal.defs _ _).mono
    (fun r h => ⟨fun c => (h c).2.2.2.2, sem_eq_zero_of_no_sems (by decide) r.2⟩) (Cert.Reference27Ideal.Value.run (F := Ideal) m ρ)

/-- The call and the reference end with the same four arrays: the summed gradient, the step and the two moments. -/
theorem algebraic : Cert.algebraic_Kernel27Ideal_Reference27Ideal := fun m g m' g' _ hargs =>
  ⟨_, _, _, _, Value.run m g, (θ_run Cert.Reference27Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference27Ideal.Value.run (F := Ideal) m' g')⟩

end Cert.Kernel27Ideal.Step

/-! ## The output projection and the embedding's gate, 512 × 2048 -/

namespace Cert.Kernel28Ideal.Step

open Cert.Kernel28Ideal Cert.Kernel28Ideal.Gen

instance : Cert.Kernel28.Facts := Cert.Kernel28.Gen.facts
instance : Cert.Kernel28Ideal.Facts := Cert.Kernel28Ideal.Gen.facts
instance : Cert.Reference28Ideal.Facts := Cert.Reference28Ideal.Gen.facts

/-- The call's body has the same text in the printed program and in its idealized one. -/
theorem body_eq : Cert.Kernel28.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel28 := fun m ρ _ => by
  have e : Cert.Kernel28.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference28Ideal := fun m ρ _ =>
  (θ_run Cert.Reference28Ideal.defs _ _).mono
    (fun r h => ⟨fun c => (h c).2.2.2.2, sem_eq_zero_of_no_sems (by decide) r.2⟩) (Cert.Reference28Ideal.Value.run (F := Ideal) m ρ)

/-- The call and the reference end with the same four arrays: the summed gradient, the step and the two moments. -/
theorem algebraic : Cert.algebraic_Kernel28Ideal_Reference28Ideal := fun m g m' g' _ hargs =>
  ⟨_, _, _, _, Value.run m g, (θ_run Cert.Reference28Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference28Ideal.Value.run (F := Ideal) m' g')⟩

end Cert.Kernel28Ideal.Step

/-! ## The down projection, 1408 × 2048 -/

namespace Cert.Kernel29Ideal.Step

open Cert.Kernel29Ideal Cert.Kernel29Ideal.Gen

instance : Cert.Kernel29.Facts := Cert.Kernel29.Gen.facts
instance : Cert.Kernel29Ideal.Facts := Cert.Kernel29Ideal.Gen.facts
instance : Cert.Reference29Ideal.Facts := Cert.Reference29Ideal.Gen.facts

/-- The call's body has the same text in the printed program and in its idealized one. -/
theorem body_eq : Cert.Kernel29.defs₀ (F := Bits) = defs₀ (F := Bits) :=
  congrArg Defs.onTc (funext fun l => funext fun x => match l, x with | 0, (_, _) => rfl)

/-- The call ends, leaves its arguments as they were and every semaphore at zero. -/
theorem frame_bits : Cert.quiescent_Kernel29 := fun m ρ _ => by
  have e : Cert.Kernel29.defs (F := Bits) = defs (F := Bits) := congrArg (Pipeline.defs pcfgs) body_eq
  rw [e]; exact Gen.frame (F := Bits) m ρ

/-- The reference ends, leaves its arguments as they were and every semaphore at zero. -/
theorem frame_reference : Cert.quiescent_Reference29Ideal := fun m ρ _ =>
  (θ_run Cert.Reference29Ideal.defs _ _).mono
    (fun r h => ⟨fun c => (h c).2.2.2.2, sem_eq_zero_of_no_sems (by decide) r.2⟩) (Cert.Reference29Ideal.Value.run (F := Ideal) m ρ)

/-- The call and the reference end with the same four arrays: the summed gradient, the step and the two moments. -/
theorem algebraic : Cert.algebraic_Kernel29Ideal_Reference29Ideal := fun m g m' g' _ hargs =>
  ⟨_, _, _, _, Value.run m g, (θ_run Cert.Reference29Ideal.defs _ _).mono (fun r h c => by
    obtain ⟨e0, e1, e2, e3, e4⟩ := hargs c
    obtain ⟨h0, h1, h2, h3, hk⟩ := h c
    refine ⟨h0.trans ?_, h1.trans ?_, h2.trans ?_, h3.trans ?_, hk⟩
    · rw [e3, e4]; rfl
    · rw [e0, e1, e2, e3, e4]; rfl
    · rw [e1, e3, e4]; rfl
    · rw [e2, e3, e4]; rfl) (Cert.Reference29Ideal.Value.run (F := Ideal) m' g')⟩

end Cert.Kernel29Ideal.Step

end
-- ==== Proof.Rows.lean ====
/- ROWS: what the calls that run down the rows of a table share. A point of their grid holds a band of rows; what it computes of a
   row depends on that row alone, and what it adds up over the rows of its band is carried from point to point. -/
module

public import proofs.«01_k».proof.Proof.Tile

@[expose] public section

set_option maxRecDepth 8192

noncomputable section

namespace Cert.Rows

open Idealize.ShloMosaic Idealize.ShloMosaic.TcCoe
open Idealize.SL.Sem
open Cert.Tile

/-- The mean of a row's squares and the constant added to it before the root. -/
def square (x : Fin 2048 → EReal) : EReal :=
  Ideal.div (∑ k, x k * x k) (Ideal.ofBits FTy.f32 0x45000000#32) + Ideal.ofBits FTy.f32 0x358637BD#32

/-- The factor a row is normalised with. -/
def scale (x : Fin 2048 → EReal) : EReal := Ideal.rsqrt (square x)

/-- The gradient of the mean of a row's squares, for the gradient `d` of the scaled row. -/
def spread (x d : Fin 2048 → EReal) : EReal :=
  ∑ _k : Fin 1, Ideal.div ((∑ k, x k * d k) * (Ideal.ofBits FTy.f32 0xBF000000#32 * Ideal.div (scale x) (square x)))
    (Ideal.ofBits FTy.f32 0x45000000#32)

/-- The gradient of a row that was normalised, for the gradient `d` of the scaled row. -/
def back (x d : Fin 2048 → EReal) (j : Fin 2048) : EReal := d j * scale x + x j * spread x d + spread x d * x j

/-- A row of a table. -/
def row {R C : ℕ} (A : (⟨2, ![R, C]⟩ : Shape).Idx → EReal) (a : Fin R) : Fin C → EReal := fun k => A (ix2 a k)

/-- The rows of a band are rows of the table. -/
theorem row_eq {n R r C : ℕ} {A : (⟨2, ![R, C]⟩ : Shape).Idx → EReal} {L : Fin n → (⟨2, ![r, C]⟩ : Shape).Idx → EReal} {at' : Fin n → ℕ}
    (h : Tiled A L at' (fun _ => 0)) {t : Fin n} {i : Fin r} {a : Fin R} (e : a.val = at' t * r + i.val) : row (L t) i = row A a :=
  funext fun k => h t i k a k e (at_zero k)

/-- A table all of whose points hold it whole. -/
theorem whole_eq {n C : ℕ} {A : (⟨2, ![1, C]⟩ : Shape).Idx → EReal} {L : Fin n → (⟨2, ![1, C]⟩ : Shape).Idx → EReal}
    (h : Tiled A L (fun _ => 0) (fun _ => 0)) (t : Fin n) : row (L t) 0 = row A 0 :=
  row_eq h (by rfl)

/-- A number carried over `n` points, started at the first one and increased at each by a sum over that point's band, ends as the
    sum over all the rows. -/
theorem carried {n b R : ℕ} (hR : R = n * b) (f : Fin R → EReal) (v : Fin n → Fin b → EReal) (S : Fin n → EReal)
    (hv : ∀ (t : Fin n) (i : Fin b) (r : Fin R), r.val = t.val * b + i.val → v t i = f r)
    (h0 : ∀ t : Fin n, t.val = 0 → S t = ∑ i, v t i)
    (hs : ∀ t u : Fin n, t.val = u.val + 1 → S t = S u + ∑ i, v t i) (t : Fin n) (ht : t.val + 1 = n) : S t = ∑ r, f r := by
  let g : ℕ → EReal := fun k => if h : k < R then f ⟨k, h⟩ else 0
  have hg : ∀ r : Fin R, g r.val = f r := fun r => dif_pos r.isLt
  have hb : ∀ t : Fin n, ∑ i, v t i = ∑ i : Fin b, g (t.val * b + i.val) := fun t =>
    Finset.sum_congr rfl fun i _ => by
      have hlt : t.val * b + i.val < R := by
        have h1 : (t.val + 1) * b ≤ n * b := Nat.mul_le_mul_right b t.isLt
        rw [Nat.add_mul, Nat.one_mul] at h1
        have := i.isLt
        omega
      exact (hv t i ⟨_, hlt⟩ rfl).trans (hg ⟨_, hlt⟩).symm
  have key : ∀ (k : ℕ) (h : k < n), S ⟨k, h⟩ = ∑ j ∈ Finset.range ((k + 1) * b), g j := by
    intro k
    induction k with
    | zero => intro h; rw [h0 ⟨0, h⟩ rfl, hb, Nat.zero_add, Nat.one_mul, Finset.sum_range]; simp only [Nat.zero_mul, Nat.zero_add]
    | succ k ih =>
      intro h
      rw [hs ⟨k + 1, h⟩ ⟨k, Nat.lt_of_succ_lt h⟩ rfl, ih, hb, Nat.add_mul (k + 1) 1 b, Nat.one_mul, Finset.sum_range_add, Finset.sum_range (n := b)]
  rw [show t = ⟨t.val, t.isLt⟩ from rfl, key t.val t.isLt, ht, ← hR, Finset.sum_range]
  exact Finset.sum_congr rfl fun r _ => hg r

end Cert.Rows

end
-- ==== Proof.Norm.lean ====
/- THE BACKWARD PASS OF A NORMALISATION: program 31, the call that gives the gradient of the residual stream and of the
   normalisation's gain. -/
module

public import proofs.«01_k».proof.Defs
public import proofs.«01_k».proof.Proof.Rows
public import proofs.«01_k».proof.Proof.Gen.Kernel31
public import proofs.«01_k».proof.Proof.Gen.Kernel31Ideal.Value
public import proofs.«01_k».proof.Proof.Gen.Reference31Ideal.Read

@[expose] public section

set_option maxRecDepth 8192

noncomputable section

open Idealize.ShloMosaic Idealize.ShloMosaic.TcCoe
open Idealize.SL.Sem

namespace Cert.Kernel31Ideal.Norm

open Cert.Kernel31Ideal Cert.Kernel31Ideal.Gen Cert.Kernel31Ideal.Value Cert.Tile Cert.Rows

instance : Cert.Kernel31.Facts := Cert.Kernel31.Gen.facts
instance : Cert.Kernel31Ideal.Facts := Cert.Kernel31Ideal.Gen.facts
instance : Cert.Reference31Ideal.Facts := Cert.Reference31Ideal.Gen.facts

/-- The gradient of the scaled row. -/
def scaled (d g : Fin 2048 → EReal) : Fin 2048 → EReal := fun k => d k * g k

/-- The gradient of a row's entry: the residual's and what comes back through the normalisation. -/
def entry (x r d g : Fin 2048 → EReal) (j : Fin 2048) : EReal := r j + back x (scaled d g) j

/-- What a band computes of its rows. -/
theorem rows_apply (x0 x1 x2 : Vec Ideal S256x2048 .f32) (x3 : Vec Ideal S1x2048 .f32) (i : Fin 256) (j : Fin 2048) :
    k0_pay6 x0 x1 x2 x3 (ix2 i j) = entry (row x0 i) (row x1 i) (row x2 i) (row x3 0) j := by
  pointwise [k0_pay6, k0_pay4, k0_pay3]
  rfl

/-- What a band adds to the gradient of the gain. -/
theorem gain_apply (x0 x2 : Vec Ideal S256x2048 .f32) (j : Fin 2048) :
    k0_pay5 x0 x2 (ix2 0 j) = ∑ i : Fin 256, row x0 i j * scale (row x0 i) * row x2 i j := by
  pointwise [k0_pay5, k0_pay4, k0_pay3]
  rfl

/-- The gradient of the gain is increased by what a band adds. -/
theorem add_apply (y z : Vec Ideal S1x2048 .f32) (j : Fin 2048) : k0_pay2 y z (ix2 0 j) = z (ix2 0 j) + y (ix2 0 j) := by
  pointwise [k0_pay2]

/-- It starts at nothing. -/
theorem start_apply (j : Fin 2048) : (k0_pay1 (F := Ideal)) (ix2 0 j) = 0 := by
  pointwise [k0_pay1]

open Cert.Reference31Ideal.Read in
/-- The reference's first result, row by row. -/
theorem reference_rows (x0 x1 x2 : Vec Ideal S4096x2048 .f32) (x3 : Vec Ideal S1x2048 .f32) (a : Fin 4096) (j : Fin 2048) :
    val_main_v34 (F := Ideal) x0 x1 x2 x3 (ix2 a j) = entry (row x0 a) (row x1 a) (row x2 a) (row x3 0) j := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v10, val_main_v9,
    val_main_v8, val_main_v7, val_main_v6, val_main_v5, val_main_v4, val_main_v3, val_main_v2, val_main_v1, val_main_v0, val_main_cst,
    val_main_cst_0, val_main_cst_1, val_main_cst_2, val_main_cst_4, val_main_cst_5, val_main_cst_6]
  simp only [add_assoc]
  unfold entry back
  rw [add_assoc]
  rfl

open Cert.Reference31Ideal.Read in
/-- The reference's second result, a sum over all the rows. -/
theorem reference_gain (x0 x2 : Vec Ideal S4096x2048 .f32) (j : Fin 2048) :
    val_main_v17 (F := Ideal) x0 x2 (ix2 0 j) = ∑ a : Fin 4096, row x0 a j * scale (row x0 a) * row x2 a j := by
  pointwise [val_main_v17, val_main_v16, val_main_v15, val_main_v12, val_main_v11, val_main_v7, val_main_v6, val_main_v5, val_main_v4,
    val_main_v3, val_main_v2, val_main_v1, val_main_v0, val_main_cst, val_main_cst_0, val_main_cst_1, val_main_cst_3]
  rfl

variable (m : (ℓ : Loc nD τ sig) → Buf (Elt Ideal) ℓ) (c : Dev nD)

/-- What the first point leaves in the two results' buffers. -/
theorem outs_first (t : Fin cfg0.N) (h0 : t.val % 16 = 0) : outsAt0 m c t.val t.isLt
    = (k0_pay6 (iblk m c 0 t) (iblk m c 1 t) (iblk m c 2 t) (iblk m c 3 t),
      k0_pay2 (k0_pay5 (iblk m c 0 t) (iblk m c 2 t)) (k0_pay1 (F := Ideal))) := by
  rw [outsAt0_A m c t h0]
  unfold out0_A_4 out0_A_5 kernelRun0_A
  dsimp only
  refine congrArg₂ Prod.mk ?_ ?_
  · refine (View.read_writes_full (Val := Elt Ideal) VO0_4 _ inb_S256x2048_S256x2048_0_0 _ []).trans ?_
    congr 1 <;> exact load_whole _ _ _ _
  · exact (View.read_writes_full (Val := Elt Ideal) VO0_5 _ inb_S1x2048_S1x2048_0_0 _ _).trans
      (congrArg₂ k0_pay2 (congrArg₂ k0_pay5 (load_whole _ _ _ _) (load_whole _ _ _ _))
        (View.readCov_full _ inb_S1x2048_S1x2048_0_0 inb_S1x2048_S1x2048_0_0 _ _))

/-- What a later point leaves in the two results' buffers. -/
theorem outs_later (t : Fin cfg0.N) (h0 : ¬ t.val % 16 = 0) : outsAt0 m c t.val t.isLt
    = (k0_pay6 (iblk m c 0 t) (iblk m c 1 t) (iblk m c 2 t) (iblk m c 3 t),
      k0_pay2 (k0_pay5 (iblk m c 0 t) (iblk m c 2 t)) (outsAt0 m c (t.val - 1) (Nat.lt_of_le_of_lt (Nat.sub_le _ _) t.isLt)).2) := by
  rw [outsAt0_B m c t h0]
  unfold out0_B_4 out0_B_5 kernelRun0_B
  dsimp only
  refine congrArg₂ Prod.mk ?_ ?_
  · refine (View.read_writes_full (Val := Elt Ideal) VO0_4 _ inb_S256x2048_S256x2048_0_0 _ []).trans ?_
    congr 1 <;> exact load_whole _ _ _ _
  · exact (View.read_writes_full (Val := Elt Ideal) VO0_5 _ inb_S1x2048_S1x2048_0_0 _ []).trans
      (congrArg₂ k0_pay2 (congrArg₂ k0_pay5 (load_whole _ _ _ _) (load_whole _ _ _ _)) (load_whole _ _ _ _))

/-- What a point leaves depends on its number only. -/
theorem outs_at {a b : ℕ} (e : a = b) (ha : a < cfg0.N) (hb : b < cfg0.N) : outsAt0 m c a ha = outsAt0 m c b hb := by
  subst e; rfl

/-- What any point leaves in the first result's buffer. -/
theorem outs_rows (t : Fin cfg0.N) :
    (outsAt0 m c t.val t.isLt).1 = k0_pay6 (iblk m c 0 t) (iblk m c 1 t) (iblk m c 2 t) (iblk m c 3 t) := by
  by_cases h : t.val % 16 = 0
  · rw [outs_first m c t h]
  · rw [outs_later m c t h]

/-- The bands of argument 0. -/
theorem band0 : Tiled (m ((c : Thread nD τ).loc main_arg0)) (iblk m c 0) (fun t => t.val / 1) (fun _ => 0) :=
  .of (fun t => ((cfg0.win 0).blk t).view.emb) (fun t => win0_0.index t) (fun _ _ => rfl) (fun _ _ => rfl) (fun _ _ => rfl) (by decide +kernel)

/-- The bands of argument 1. -/
theorem band1 : Tiled (m ((c : Thread nD τ).loc main_arg1)) (iblk m c 1) (fun t => t.val / 1) (fun _ => 0) :=
  .of (fun t => ((cfg0.win 1).blk t).view.emb) (fun t => win0_1.index t) (fun _ _ => rfl) (fun _ _ => rfl) (fun _ _ => rfl) (by decide +kernel)

/-- The bands of argument 2. -/
theorem band2 : Tiled (m ((c : Thread nD τ).loc main_arg2)) (iblk m c 2) (fun t => t.val / 1) (fun _ => 0) :=
  .of (fun t => ((cfg0.win 2).blk t).view.emb) (fun t => win0_2.index t) (fun _ _ => rfl) (fun _ _ => rfl) (fun _ _ => rfl) (by decide +kernel)

/-- The gain, whole at every point. -/
theorem gain : Tiled (m ((c : Thread nD τ).loc main_arg3)) (iblk m c 3) (fun _ => 0) (fun _ => 0) :=
  .of (fun t => ((cfg0.win 3).blk t).view.emb) (fun t => win0_3.index t) (fun _ _ => rfl) (fun _ _ => rfl) (fun _ _ => rfl) (by decide +kernel)

/-- The bands of the first result. -/
theorem result0 : Tiled ((dats m 0 c).arrAt 4 cfg0.N) (fun t => (outsAt0 m c t.val t.isLt).1) (fun t => t.val / 1) (fun t => t.val % 1) :=
  .of (fun t => ((cfg0.win 4).blk t).view.emb) (fun t => win0_4.index t)
    (fun t y => (congrFun ((blocks4 m c t (flush0_4 t)).trans (flushed4 m c t)) y).symm.trans ((View.read_apply _ _).trans (cast_eq _ _)))
    (fun _ _ => rfl) (fun _ _ => rfl) (by decide +kernel)

/-- The point that writes the second result back: the last one. -/
theorem flush_last : ∀ t : Fin cfg0.N, (cfg0.win 5).flush t = true → t.val = 15 :=
  (by decide +kernel : ∀ t : Fin grid0.N, win0_5.flush t = true → t.val = 15)

/-- The last point. -/
abbrev last : Fin cfg0.N := ⟨15, by decide⟩

/-- The second result is what the last point leaves. -/
theorem result1 : Tiled ((dats m 0 c).arrAt 5 cfg0.N) (fun _ : Fin 1 => (outsAt0 m c last.val last.isLt).2) (fun t => t.val / 1) (fun t => t.val % 1) :=
  .of (fun _ => ((cfg0.win 5).blk last).view.emb) (fun _ => win0_5.index last)
    (fun _ y => (congrFun (((dats m 0 c).read_blk_arrAt_eq_flushed 5
        (fun t t' h h' hne => absurd (Fin.ext ((flush_last t h).trans (flush_last t' h').symm)) hne) cfg0.N last last.isLt (by decide +kernel)).trans
        (flushed5 m c last)) y).symm.trans ((View.read_apply _ _).trans (cast_eq _ _)))
    (fun _ _ => rfl) (fun _ _ => rfl) (by decide +kernel)

/-- What the last point leaves of the gain's gradient: a sum over all the rows. -/
theorem gain_total (j : Fin 2048) : (outsAt0 m c last.val last.isLt).2 (ix2 0 j)
    = ∑ a : Fin 4096, row (m ((c : Thread nD τ).loc main_arg0)) a j * scale (row (m ((c : Thread nD τ).loc main_arg0)) a)
        * row (m ((c : Thread nD τ).loc main_arg2)) a j := by
  refine carried (n := cfg0.N) (b := 256) rfl _ (fun t i => row (iblk m c 0 t) i j * scale (row (iblk m c 0 t) i) * row (iblk m c 2 t) i j)
    (fun t => (outsAt0 m c t.val t.isLt).2 (ix2 0 j)) ?_ ?_ ?_ last rfl
  · intro t i r hr
    rw [row_eq (band0 m c) (t := t) (i := i) (a := r) (by rw [Nat.div_one]; exact hr),
      row_eq (band2 m c) (t := t) (i := i) (a := r) (by rw [Nat.div_one]; exact hr)]
  · intro t ht
    refine (congrFun (congrArg Prod.snd (outs_first m c t (by rw [ht]))) (ix2 0 j)).trans ?_
    dsimp only
    rw [add_apply, start_apply, zero_add, gain_apply]
  · intro t u htu
    have hu : u.val < 15 := by have h : t.val < 16 := t.isLt; omega
    refine (congrFun (congrArg Prod.snd (outs_later m c t (by omega))) (ix2 0 j)).trans ?_
    dsimp only
    rw [add_apply, gain_apply]
    exact congrArg (· + _) (congrFun (congrArg Prod.snd (outs_at m c (show t.val - 1 = u.val by omega) _ _)) (ix2 0 j))

/-- What the points leave of the first result are the bands of the reference's. -/
theorem reference0 : Tiled (Cert.Reference31Ideal.Read.val_main_v34 (F := Ideal) (m ((c : Thread nD τ).loc main_arg0))
      (m ((c : Thread nD τ).loc main_arg1)) (m ((c : Thread nD τ).loc main_arg2)) (m ((c : Thread nD τ).loc main_arg3)))
    (fun t : Fin cfg0.N => (outsAt0 m c t.val t.isLt).1) (fun t => t.val / 1) (fun t => t.val % 1) := by
  intro t i j a b ha hb
  obtain rfl : b = j := Fin.ext (by omega)
  dsimp only
  rw [outs_rows, rows_apply, reference_rows, row_eq (band0 m c) ha, row_eq (band1 m c) ha, row_eq (band2 m c) ha, whole_eq (gain m c)]

/-- What the last point leaves of the second result is the reference's. -/
theorem reference1 : Tiled (Cert.Reference31Ideal.Read.val_main_v17 (F := Ideal) (m ((c : Thread nD τ).loc main_arg0))
      (m ((c : Thread nD τ).loc main_arg2)))
    (fun _ : Fin 1 => (outsAt0 m c last.val last.isLt).2) (fun t => t.val / 1) (fun t => t.val % 1) := by
  intro t i j a b ha hb
  obtain rfl : b = j := Fin.ext (by omega)
  obtain rfl : i = 0 := Fin.ext (by omega)
  obtain rfl : a = 0 := Fin.ext (by omega)
  exact (gain_total m c b).trans (reference_gain _ _ b).symm

/-- The call as printed and the call as idealized have the same text. -/
theorem body_eq : Cert.Kernel31.defs₀ (F := Bits) = defs₀ (F := Bits) :=
  congrArg Defs.onTc (funext fun l => funext fun x => match l, x with | 0, (_, _) => rfl)

/-- The call as printed runs to the end. -/
theorem frame_bits : Cert.quiescent_Kernel31 := fun m ρ _ => by
  have e : Cert.Kernel31.defs (F := Bits) = defs (F := Bits) := congrArg (Pipeline.defs pcfgs) body_eq
  rw [e]; exact Gen.frame (F := Bits) m ρ

/-- The reference runs to the end. -/
theorem frame_reference : Cert.quiescent_Reference31Ideal := fun m ρ _ =>
  (θ_run Cert.Reference31Ideal.defs _ _).mono
    (fun r h => ⟨fun c => (h c).2.2, sem_eq_zero_of_no_sems (by decide) r.2⟩) (Cert.Reference31Ideal.Value.run (F := Ideal) m ρ)

/-- The call and the reference end with the same two arrays: the gradient of the residual stream and the gradient of the gain. -/
theorem algebraic : Cert.algebraic_Kernel31Ideal_Reference31Ideal := fun m g m' g' _ hargs =>
  ⟨_, _, run_blocks m g, (θ_run Cert.Reference31Ideal.defs _ _).mono (fun r h c => by
    obtain ⟨e0, e1, e2, e3⟩ := hargs c
    obtain ⟨h0, h1, hk⟩ := h c
    refine ⟨h0.trans ?_, h1.trans ?_, hk⟩
    · rw [Cert.Reference31Ideal.Read.val_main_v34_eq, e0, e1, e2, e3]
      exact Tiled.eq (p := 16) (q := 1) rfl rfl rfl (reference0 m c) (result0 m c)
    · rw [Cert.Reference31Ideal.Read.val_main_v17_eq, e0, e2]
      exact Tiled.eq (p := 1) (q := 1) rfl rfl rfl (reference1 m c) (result1 m c)) (Cert.Reference31Ideal.Value.run (F := Ideal) m' g')⟩

end Cert.Kernel31Ideal.Norm

end
-- ==== Proof.Tail.lean ====
/- THE END OF THE LAYER: program 32, the call that gives the loss and the gradients of the arrays the last lines read. -/
module

public import proofs.«01_k».proof.Defs
public import proofs.«01_k».proof.Proof.Rows
public import proofs.«01_k».proof.Proof.Gen.Kernel32
public import proofs.«01_k».proof.Proof.Gen.Kernel32Ideal.Value
public import proofs.«01_k».proof.Proof.Gen.Reference32Ideal.Read

@[expose] public section

set_option maxRecDepth 8192

noncomputable section

open Idealize.ShloMosaic Idealize.ShloMosaic.TcCoe
open Idealize.SL.Sem

namespace Cert.Kernel32Ideal.Tail

open Cert.Kernel32Ideal Cert.Kernel32Ideal.Gen Cert.Kernel32Ideal.Value Cert.Tile Cert.Rows

instance : Cert.Kernel32.Facts := Cert.Kernel32.Gen.facts
instance : Cert.Kernel32Ideal.Facts := Cert.Kernel32Ideal.Gen.facts
instance : Cert.Reference32Ideal.Facts := Cert.Reference32Ideal.Gen.facts

/-! ### Numbers -/

/-- The constant 2048. -/
theorem ofBits_width : Ideal.ofBits FTy.f32 1157627904#32 = ((2048 : ℝ) : EReal) := by
  simp [Ideal.ofBits, Ideal.ieee, -EReal.coe_mul]; norm_num

/-- The constant 1/2048. -/
theorem ofBits_share : Ideal.ofBits FTy.f32 973078528#32 = ((1 / 2048 : ℝ) : EReal) := by
  simp [Ideal.ofBits, Ideal.ieee, -EReal.coe_mul]; norm_num

/-- The constant 1/2. -/
theorem ofBits_half : Ideal.ofBits FTy.f32 1056964608#32 = ((1 / 2 : ℝ) : EReal) := by
  simp [Ideal.ofBits, Ideal.ieee, -EReal.coe_mul]; norm_num

/-- The constant 2. -/
theorem ofBits_two : Ideal.ofBits FTy.f32 1073741824#32 = ((2 : ℝ) : EReal) := by
  simp [Ideal.ofBits, Ideal.ieee, -EReal.coe_mul]; norm_num

/-- Dividing by 2048 is multiplying by 1/2048. -/
theorem div_width (x : EReal) : Ideal.div x (Ideal.ofBits FTy.f32 1157627904#32) = x * Ideal.ofBits FTy.f32 973078528#32 := by
  rw [ofBits_width, ofBits_share, Ideal.div_coe (by norm_num)]

/-- Half of a square's gradient, shared out over 2048 places. -/
theorem share_twice (x : EReal) : Ideal.div (Ideal.ofBits FTy.f32 1056964608#32) (Ideal.ofBits FTy.f32 1157627904#32)
    * (Ideal.ofBits FTy.f32 1073741824#32 * x) = x * Ideal.ofBits FTy.f32 973078528#32 := by
  rw [div_width, ofBits_half, ofBits_share, ofBits_two, ← mul_assoc, ← EReal.coe_mul, ← EReal.coe_mul, mul_comm]
  norm_num

/-- The logistic function. -/
def gate (u : EReal) : EReal := Ideal.div 1 (1 + Ideal.exp (-u))

/-- Its derivative, written with its value. -/
def slope (u : EReal) : EReal := gate u * (1 - gate u)

/-- Its derivative, written as that of a quotient. -/
theorem slope_eq (u : EReal) : Ideal.div 1 ((1 + Ideal.exp (-u)) * (1 + Ideal.exp (-u))) * Ideal.exp (-u) = slope u := by
  unfold slope gate
  induction u with
  | bot =>
    rw [EReal.neg_bot, Ideal.exp_top]
    have h : (1 : EReal) + ⊤ = ⊤ := rfl
    rw [h, EReal.top_mul_top]
    have h' : Ideal.div 1 ⊤ = 0 := by simp [Ideal.div]
    rw [h', zero_mul, zero_mul]
  | top =>
    rw [EReal.neg_top, Ideal.exp_bot, mul_zero, add_zero]
    have h' : Ideal.div 1 1 = 1 := by simp [Ideal.div]
    rw [h', one_mul]
    exact (EReal.sub_self (by decide) (by decide)).symm
  | coe r =>
    rw [← EReal.coe_neg, Ideal.exp_coe, ← EReal.coe_one, ← EReal.coe_add, ← EReal.coe_mul]
    have hp : (0 : ℝ) < 1 + Real.exp (-r) := by positivity
    rw [Ideal.div_coe hp.ne', Ideal.div_coe (by positivity), ← EReal.coe_mul, ← EReal.coe_mul, ← EReal.coe_mul, ← EReal.coe_sub,
      ← EReal.coe_mul]
    congr 1
    field_simp
    ring

/-- What comes back through the logistic function, with the signs of a quotient's derivative. -/
theorem slope_back (d u : EReal) :
    0 - (0 - d * Ideal.div 1 ((1 + Ideal.exp (-u)) * (1 + Ideal.exp (-u)))) * Ideal.exp (-u) = d * slope u := by
  rw [zero_sub, zero_sub, EReal.neg_mul, neg_neg, mul_assoc, slope_eq]

/-- Half of a sum is the sum of the halves. -/
theorem half_sum {n : ℕ} (f : Fin n → EReal) : Ideal.ofBits FTy.f32 1056964608#32 * ∑ i, f i = ∑ i, Ideal.ofBits FTy.f32 1056964608#32 * f i := by
  rw [ofBits_half]
  refine Finset.induction_on (Finset.univ : Finset (Fin n)) (by simp) fun a s ha ih => ?_
  rw [Finset.sum_insert ha, Finset.sum_insert ha,
    EReal.left_distrib_of_nonneg_of_ne_top (by exact_mod_cast (by norm_num : (0 : ℝ) ≤ 1 / 2)) (EReal.coe_ne_top _), ih]

/-! ### A row -/

/-- A row that was normalised. -/
def normal (x g : Fin 2048 → EReal) (k : Fin 2048) : EReal := x k * scale x * g k

/-- How far a row is from its target. -/
def miss (h x z t g b : Fin 2048 → EReal) (k : Fin 2048) : EReal := h k + gate (z k + b k) * normal x g k - t k

/-- The gradient of the row the loss is taken of. -/
def down (h x z t g b : Fin 2048 → EReal) (k : Fin 2048) : EReal := miss h x z t g b k * Ideal.ofBits FTy.f32 973078528#32

/-- The gradient of the row that was normalised. -/
def through (h x z t g b : Fin 2048 → EReal) (k : Fin 2048) : EReal := gate (z k + b k) * down h x z t g b k

/-- The gradient of the row before it is normalised. -/
def inward (h x z t g b : Fin 2048 → EReal) (j : Fin 2048) : EReal := back x (fun k => through h x z t g b k * g k) j

/-- The gradient of the gate's argument. -/
def aside (h x z t g b : Fin 2048 → EReal) (j : Fin 2048) : EReal := down h x z t g b j * normal x g j * slope (z j + b j)

/-- What a row adds to the gradient of the gain. -/
def gains (h x z t g b : Fin 2048 → EReal) (j : Fin 2048) : EReal := x j * scale x * through h x z t g b j

/-- What a row adds to the loss. -/
def cost (h x z t g b : Fin 2048 → EReal) : EReal := Ideal.ofBits FTy.f32 1056964608#32
  * ((∑ k, miss h x z t g b k * miss h x z t g b k) * Ideal.ofBits FTy.f32 973078528#32)

/-! ### What a band computes -/

section Band

variable (x0 x1 x2 x3 : Vec Ideal S256x2048 .f32) (x4 x5 : Vec Ideal S1x2048 .f32)

/-- The band of the first result. -/
abbrev band0 : Vec Ideal S256x2048 .f32 := k0_pay18 x0 x1 x2 x3 x4 x5

/-- The band of the second result. -/
abbrev band1 : Vec Ideal S256x2048 .bf16 := k0_pay24 x1 x4 (k0_pay10 x2 x5) (k0_pay13 x1) (k0_pay14 x1) (k0_pay18 x0 x1 x2 x3 x4 x5)

/-- The band of the third result. -/
abbrev band2 : Vec Ideal S256x2048 .bf16 := k0_pay1 (k0_pay21 (k0_pay8 x2 x5) (k0_pay11 x2 x5) (k0_pay16 x1 x4) (k0_pay18 x0 x1 x2 x3 x4 x5))

/-- What a band adds to the loss. -/
abbrev step3 : Vec Ideal S1x128 .f32 := k0_pay23 (k0_pay17 x0 x1 x2 x3 x4 x5)

/-- What a band adds to the gradient of the gain. -/
abbrev step4 : Vec Ideal S1x2048 .f32 := k0_pay20 (k0_pay10 x2 x5) (k0_pay15 x1) (k0_pay18 x0 x1 x2 x3 x4 x5)

/-- What a band adds to the gradient of the gate's shift. -/
abbrev step5 : Vec Ideal S1x2048 .f32 := k0_pay22 (k0_pay8 x2 x5) (k0_pay11 x2 x5) (k0_pay16 x1 x4) (k0_pay18 x0 x1 x2 x3 x4 x5)

variable (i : Fin 256) (j : Fin 2048)

theorem normal_apply : k0_pay16 x1 x4 (ix2 i j) = normal (row x1 i) (row x4 0) j := by
  pointwise [k0_pay16, k0_pay15, k0_pay13, k0_pay12]
  rfl

theorem gate_apply : k0_pay10 x2 x5 (ix2 i j) = gate (row x2 i j + row x5 0 j) := by
  pointwise [k0_pay10, k0_pay9, k0_pay8]
  rw [zero_sub]
  rfl

theorem miss_apply : k0_pay17 x0 x1 x2 x3 x4 x5 (ix2 i j) = miss (row x0 i) (row x1 i) (row x2 i) (row x3 i) (row x4 0) (row x5 0) j := by
  pointwise [k0_pay17]
  rw [gate_apply, normal_apply]
  rfl

theorem down_apply : band0 x0 x1 x2 x3 x4 x5 (ix2 i j) = down (row x0 i) (row x1 i) (row x2 i) (row x3 i) (row x4 0) (row x5 0) j := by
  pointwise [band0, k0_pay18]
  rw [miss_apply]
  rfl

theorem inward_apply : band1 x0 x1 x2 x3 x4 x5 (ix2 i j) = inward (row x0 i) (row x1 i) (row x2 i) (row x3 i) (row x4 0) (row x5 0) j := by
  have hd : ∀ k, k0_pay18 x0 x1 x2 x3 x4 x5 (ix2 i k) = _ := down_apply x0 x1 x2 x3 x4 x5 i
  pointwise [band1, k0_pay24, k0_pay19, k0_pay14, k0_pay13, k0_pay12]
  simp only [gate_apply, hd]
  rfl

theorem aside_apply' : k0_pay21 (k0_pay8 x2 x5) (k0_pay11 x2 x5) (k0_pay16 x1 x4) (k0_pay18 x0 x1 x2 x3 x4 x5) (ix2 i j)
    = aside (row x0 i) (row x1 i) (row x2 i) (row x3 i) (row x4 0) (row x5 0) j := by
  have hd : ∀ k, k0_pay18 x0 x1 x2 x3 x4 x5 (ix2 i k) = _ := down_apply x0 x1 x2 x3 x4 x5 i
  pointwise [k0_pay21, k0_pay11, k0_pay9, k0_pay8]
  rw [hd, normal_apply, zero_sub (x2 (ix2 i j) + x5 (ix2 0 j))]
  exact slope_back _ _

theorem aside_apply : band2 x0 x1 x2 x3 x4 x5 (ix2 i j) = aside (row x0 i) (row x1 i) (row x2 i) (row x3 i) (row x4 0) (row x5 0) j := by
  pointwise [band2, k0_pay1]
  exact aside_apply' ..

theorem cost_apply (j : Fin 128) : step3 x0 x1 x2 x3 x4 x5 (ix2 0 j)
    = ∑ i, cost (row x0 i) (row x1 i) (row x2 i) (row x3 i) (row x4 0) (row x5 0) := by
  pointwise [step3, k0_pay23]
  simp only [miss_apply]
  exact half_sum _

theorem gains_apply : step4 x0 x1 x2 x3 x4 x5 (ix2 0 j)
    = ∑ i, gains (row x0 i) (row x1 i) (row x2 i) (row x3 i) (row x4 0) (row x5 0) j := by
  have hd : ∀ i k, k0_pay18 x0 x1 x2 x3 x4 x5 (ix2 i k) = _ := down_apply x0 x1 x2 x3 x4 x5
  pointwise [step4, k0_pay20, k0_pay19, k0_pay15, k0_pay13, k0_pay12]
  simp only [gate_apply, hd]
  rfl

theorem shift_apply : step5 x0 x1 x2 x3 x4 x5 (ix2 0 j)
    = ∑ i, aside (row x0 i) (row x1 i) (row x2 i) (row x3 i) (row x4 0) (row x5 0) j := by
  pointwise [step5, k0_pay22]
  exact Finset.sum_congr rfl fun i _ => aside_apply' ..

end Band

/-! ### What the reference computes -/

section Ref

open Cert.Reference32Ideal.Read

variable (x0 x1 x2 x3 : Vec Ideal S4096x2048 .f32) (x4 x5 : Vec Ideal S1x2048 .f32) (a : Fin 4096) (j : Fin 2048)

theorem reference_normal : val_main_v14 (F := Ideal) x1 x4 (ix2 a j) = normal (row x1 a) (row x4 0) j := by
  pointwise [val_main_v14, val_main_v13, val_main_v12, val_main_v11, val_main_v7, val_main_v6, val_main_v5, val_main_v4, val_main_v3,
    val_main_v2, val_main_v1, val_main_v0, val_main_cst, val_main_cst_0, val_main_cst_1]
  rfl

theorem reference_gate : val_main_v22 (F := Ideal) x2 x5 (ix2 a j) = gate (row x2 a j + row x5 0 j) := by
  pointwise [val_main_v22, val_main_v21, val_main_v20, val_main_v19, val_main_v18, val_main_v17, val_main_v16, val_main_v15,
    val_main_cst_3, val_main_cst_4]
  rfl

theorem reference_miss : val_main_v28 (F := Ideal) x0 x1 x2 x3 x4 x5 (ix2 a j)
    = miss (row x0 a) (row x1 a) (row x2 a) (row x3 a) (row x4 0) (row x5 0) j := by
  pointwise [val_main_v28, val_main_v27, val_main_v26]
  rw [reference_gate, reference_normal]
  rfl

theorem reference_down : val_main_v42 (F := Ideal) x0 x1 x2 x3 x4 x5 (ix2 a j)
    = down (row x0 a) (row x1 a) (row x2 a) (row x3 a) (row x4 0) (row x5 0) j := by
  pointwise [val_main_v42, val_main_v41, val_main_v40, val_main_v39, val_main_v38, val_main_v37, val_main_v31, val_main_v30,
    val_main_cst_6, val_main_cst_11, val_main_cst_12, val_main_cst_13]
  rw [reference_miss]
  exact share_twice _

theorem reference_through : val_main_v43 (F := Ideal) x0 x1 x2 x3 x4 x5 (ix2 a j)
    = through (row x0 a) (row x1 a) (row x2 a) (row x3 a) (row x4 0) (row x5 0) j := by
  pointwise [val_main_v43]
  rw [reference_gate, reference_down]
  rfl

theorem reference_inward : val_main_v67 (F := Ideal) x0 x1 x2 x3 x4 x5 (ix2 a j)
    = inward (row x0 a) (row x1 a) (row x2 a) (row x3 a) (row x4 0) (row x5 0) j := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v10, val_main_v9,
    val_main_v8, val_main_v7, val_main_v6, val_main_v5, val_main_v4, val_main_v3, val_main_v2, val_main_v1, val_main_v0, val_main_cst,
    val_main_cst_0, val_main_cst_1, val_main_cst_2, val_main_cst_16, val_main_cst_17, val_main_cst_18]
  simp only [reference_through]
  rfl

theorem reference_aside' : val_main_v45 (F := Ideal) x0 x1 x2 x3 x4 x5 (ix2 a j)
    = aside (row x0 a) (row x1 a) (row x2 a) (row x3 a) (row x4 0) (row x5 0) j := by
  pointwise [val_main_v45, val_main_v44, val_main_v25, val_main_v24, val_main_v23, val_main_cst_5]
  rw [reference_gate, reference_down, reference_normal]
  rfl

theorem reference_aside : val_main_v68 (F := Ideal) x0 x1 x2 x3 x4 x5 (ix2 a j)
    = aside (row x0 a) (row x1 a) (row x2 a) (row x3 a) (row x4 0) (row x5 0) j := by
  pointwise [val_main_v68]
  exact reference_aside' ..

theorem reference_cost (j : Fin 128) : val_main_v69 (F := Ideal) x0 x1 x2 x3 x4 x5 (ix2 0 j)
    = ∑ a, cost (row x0 a) (row x1 a) (row x2 a) (row x3 a) (row x4 0) (row x5 0) := by
  pointwise [val_main_v69, val_main_v36, val_main_v35, val_main_v34, val_main_v33, val_main_v32, val_main_v29, val_main_cst_7, val_main_cst_8,
    val_main_cst_9, val_main_cst_10]
  simp only [reference_miss, div_width]
  exact half_sum _

theorem reference_gains : val_main_v50 (F := Ideal) x0 x1 x2 x3 x4 x5 (ix2 0 j)
    = ∑ a, gains (row x0 a) (row x1 a) (row x2 a) (row x3 a) (row x4 0) (row x5 0) j := by
  pointwise [val_main_v50, val_main_v49, val_main_v48, val_main_v12, val_main_v11, val_main_v7, val_main_v6, val_main_v5, val_main_v4,
    val_main_v3, val_main_v2, val_main_v1, val_main_v0, val_main_cst, val_main_cst_0, val_main_cst_1, val_main_cst_15]
  simp only [reference_through]
  rfl

theorem reference_shift : val_main_v47 (F := Ideal) x0 x1 x2 x3 x4 x5 (ix2 0 j)
    = ∑ a, aside (row x0 a) (row x1 a) (row x2 a) (row x3 a) (row x4 0) (row x5 0) j := by
  pointwise [val_main_v47, val_main_v46, val_main_cst_14]
  exact Finset.sum_congr rfl fun a _ => reference_aside' ..

end Ref

/-! ### What the points leave -/

/-- A function of six arrays, at six that are the same. -/
theorem six {α β γ : Type} (f : α → α → α → α → β → β → γ) {a a' b b' c c' d d' : α} {e e' g g' : β} (ha : a = a') (hb : b = b')
    (hc : c = c') (hd : d = d') (he : e = e') (hg : g = g') : f a b c d e g = f a' b' c' d' e' g' := by
  subst ha; subst hb; subst hc; subst hd; subst he; subst hg; rfl

variable (m : (ℓ : Loc nD τ sig) → Buf (Elt Ideal) ℓ) (c : Dev nD)

/-- A function of the blocks a point holds. -/
abbrev at' {γ : Type} (f : Vec Ideal S256x2048 .f32 → Vec Ideal S256x2048 .f32 → Vec Ideal S256x2048 .f32 → Vec Ideal S256x2048 .f32
    → Vec Ideal S1x2048 .f32 → Vec Ideal S1x2048 .f32 → γ) (t : Fin cfg0.N) : γ :=
  f (iblk m c 0 t) (iblk m c 1 t) (iblk m c 2 t) (iblk m c 3 t) (iblk m c 4 t) (iblk m c 5 t)

/-- What the first point leaves in the six results' buffers. -/
theorem outs_first (t : Fin cfg0.N) (h0 : t.val % 16 = 0) : outsAt0 m c t.val t.isLt
    = (at' m c band0 t, at' m c band1 t, at' m c band2 t, k0_pay5 (F := Ideal) (at' m c step3 t) (k0_pay2 (F := Ideal)),
      k0_pay6 (F := Ideal) (at' m c step4 t) (k0_pay3 (F := Ideal)), k0_pay7 (F := Ideal) (at' m c step5 t) (k0_pay4 (F := Ideal))) := by
  rw [outsAt0_A m c t h0]
  unfold out0_A_6 out0_A_7 out0_A_8 out0_A_9 out0_A_10 out0_A_11 kernelRun0_A
  dsimp only
  refine congrArg₂ Prod.mk ?_ (congrArg₂ Prod.mk ?_ (congrArg₂ Prod.mk ?_ (congrArg₂ Prod.mk ?_ (congrArg₂ Prod.mk ?_ ?_))))
  · exact (View.read_writes_full (Val := Elt Ideal) VO0_6 _ inb_S256x2048_S256x2048_0_0 _ []).trans
      (six band0 (load_whole _ _ _ _) (load_whole _ _ _ _) (load_whole _ _ _ _) (load_whole _ _ _ _) (load_whole _ _ _ _) (load_whole _ _ _ _))
  · exact (View.read_writes_full (Val := Elt Ideal) VO0_7 _ inb_S256x2048_S256x2048_0_0 _ []).trans
      (six band1 (load_whole _ _ _ _) (load_whole _ _ _ _) (load_whole _ _ _ _) (load_whole _ _ _ _) (load_whole _ _ _ _) (load_whole _ _ _ _))
  · exact (View.read_writes_full (Val := Elt Ideal) VO0_8 _ inb_S256x2048_S256x2048_0_0 _ []).trans
      (six band2 (load_whole _ _ _ _) (load_whole _ _ _ _) (load_whole _ _ _ _) (load_whole _ _ _ _) (load_whole _ _ _ _) (load_whole _ _ _ _))
  · exact (View.read_writes_full (Val := Elt Ideal) VO0_9 _ inb_S1x128_S1x128_0_0 _ _).trans (congrArg₂ (k0_pay5 (F := Ideal))
      (six step3 (load_whole _ _ _ _) (load_whole _ _ _ _) (load_whole _ _ _ _) (load_whole _ _ _ _) (load_whole _ _ _ _) (load_whole _ _ _ _))
      (View.readCov_full _ inb_S1x128_S1x128_0_0 inb_S1x128_S1x128_0_0 _ _))
  · exact (View.read_writes_full (Val := Elt Ideal) VO0_10 _ inb_S1x2048_S1x2048_0_0 _ _).trans (congrArg₂ (k0_pay6 (F := Ideal))
      (six step4 (load_whole _ _ _ _) (load_whole _ _ _ _) (load_whole _ _ _ _) (load_whole _ _ _ _) (load_whole _ _ _ _) (load_whole _ _ _ _))
      (View.readCov_full _ inb_S1x2048_S1x2048_0_0 inb_S1x2048_S1x2048_0_0 _ _))
  · exact (View.read_writes_full (Val := Elt Ideal) VO0_11 _ inb_S1x2048_S1x2048_0_0 _ _).trans (congrArg₂ (k0_pay7 (F := Ideal))
      (six step5 (load_whole _ _ _ _) (load_whole _ _ _ _) (load_whole _ _ _ _) (load_whole _ _ _ _) (load_whole _ _ _ _) (load_whole _ _ _ _))
      (View.readCov_full _ inb_S1x2048_S1x2048_0_0 inb_S1x2048_S1x2048_0_0 _ _))

/-- What the point before a point leaves in the six results' buffers. -/
abbrev before (t : Fin cfg0.N) := outsAt0 m c (t.val - 1) (Nat.lt_of_le_of_lt (Nat.sub_le _ _) t.isLt)

/-- What a later point leaves in the six results' buffers. -/
theorem outs_later (t : Fin cfg0.N) (h0 : ¬ t.val % 16 = 0) : outsAt0 m c t.val t.isLt
    = (at' m c band0 t, at' m c band1 t, at' m c band2 t, k0_pay5 (F := Ideal) (at' m c step3 t) (before m c t).2.2.2.1,
      k0_pay6 (F := Ideal) (at' m c step4 t) (before m c t).2.2.2.2.1, k0_pay7 (F := Ideal) (at' m c step5 t) (before m c t).2.2.2.2.2) := by
  rw [outsAt0_B m c t h0]
  unfold out0_B_6 out0_B_7 out0_B_8 out0_B_9 out0_B_10 out0_B_11 kernelRun0_B
  dsimp only
  refine congrArg₂ Prod.mk ?_ (congrArg₂ Prod.mk ?_ (congrArg₂ Prod.mk ?_ (congrArg₂ Prod.mk ?_ (congrArg₂ Prod.mk ?_ ?_))))
  · exact (View.read_writes_full (Val := Elt Ideal) VO0_6 _ inb_S256x2048_S256x2048_0_0 _ []).trans
      (six band0 (load_whole _ _ _ _) (load_whole _ _ _ _) (load_whole _ _ _ _) (load_whole _ _ _ _) (load_whole _ _ _ _) (load_whole _ _ _ _))
  · exact (View.read_writes_full (Val := Elt Ideal) VO0_7 _ inb_S256x2048_S256x2048_0_0 _ []).trans
      (six band1 (load_whole _ _ _ _) (load_whole _ _ _ _) (load_whole _ _ _ _) (load_whole _ _ _ _) (load_whole _ _ _ _) (load_whole _ _ _ _))
  · exact (View.read_writes_full (Val := Elt Ideal) VO0_8 _ inb_S256x2048_S256x2048_0_0 _ []).trans
      (six band2 (load_whole _ _ _ _) (load_whole _ _ _ _) (load_whole _ _ _ _) (load_whole _ _ _ _) (load_whole _ _ _ _) (load_whole _ _ _ _))
  · exact (View.read_writes_full (Val := Elt Ideal) VO0_9 _ inb_S1x128_S1x128_0_0 _ []).trans (congrArg₂ (k0_pay5 (F := Ideal))
      (six step3 (load_whole _ _ _ _) (load_whole _ _ _ _) (load_whole _ _ _ _) (load_whole _ _ _ _) (load_whole _ _ _ _) (load_whole _ _ _ _))
      (load_whole _ _ _ _))
  · exact (View.read_writes_full (Val := Elt Ideal) VO0_10 _ inb_S1x2048_S1x2048_0_0 _ []).trans (congrArg₂ (k0_pay6 (F := Ideal))
      (six step4 (load_whole _ _ _ _) (load_whole _ _ _ _) (load_whole _ _ _ _) (load_whole _ _ _ _) (load_whole _ _ _ _) (load_whole _ _ _ _))
      (load_whole _ _ _ _))
  · exact (View.read_writes_full (Val := Elt Ideal) VO0_11 _ inb_S1x2048_S1x2048_0_0 _ []).trans (congrArg₂ (k0_pay7 (F := Ideal))
      (six step5 (load_whole _ _ _ _) (load_whole _ _ _ _) (load_whole _ _ _ _) (load_whole _ _ _ _) (load_whole _ _ _ _) (load_whole _ _ _ _))
      (load_whole _ _ _ _))

/-- What a point leaves depends on its number only. -/
theorem outs_same {a b : ℕ} (e : a = b) (ha : a < cfg0.N) (hb : b < cfg0.N) : outsAt0 m c a ha = outsAt0 m c b hb := by
  subst e; rfl

/-- What any point leaves in the buffers of the results that are not added up. -/
theorem outs_rows (t : Fin cfg0.N) : (outsAt0 m c t.val t.isLt).1 = at' m c band0 t ∧ (outsAt0 m c t.val t.isLt).2.1 = at' m c band1 t
    ∧ (outsAt0 m c t.val t.isLt).2.2.1 = at' m c band2 t := by
  by_cases h : t.val % 16 = 0
  · rw [outs_first m c t h]; exact ⟨rfl, rfl, rfl⟩
  · rw [outs_later m c t h]; exact ⟨rfl, rfl, rfl⟩

/-- The loss is increased by what a band adds. -/
theorem add3 (y : FVec Ideal S1x128 .f32) (z : Vec Ideal S1x128 .f32) (j : Fin 128) : k0_pay5 y z (ix2 0 j) = z (ix2 0 j) + y (ix2 0 j) := by
  pointwise [k0_pay5]

/-- The gradient of the gain is increased by what a band adds. -/
theorem add4 (y : FVec Ideal S1x2048 .f32) (z : Vec Ideal S1x2048 .f32) (j : Fin 2048) : k0_pay6 y z (ix2 0 j) = z (ix2 0 j) + y (ix2 0 j) := by
  pointwise [k0_pay6]

/-- The gradient of the shift is increased by what a band adds. -/
theorem add5 (y : FVec Ideal S1x2048 .f32) (z : Vec Ideal S1x2048 .f32) (j : Fin 2048) : k0_pay7 y z (ix2 0 j) = z (ix2 0 j) + y (ix2 0 j) := by
  pointwise [k0_pay7]

/-- The loss starts at nothing. -/
theorem start3 (j : Fin 128) : (k0_pay2 (F := Ideal)) (ix2 0 j) = 0 := by
  pointwise [k0_pay2]

/-- The gradient of the gain starts at nothing. -/
theorem start4 (j : Fin 2048) : (k0_pay3 (F := Ideal)) (ix2 0 j) = 0 := by
  pointwise [k0_pay3]

/-- The gradient of the shift starts at nothing. -/
theorem start5 (j : Fin 2048) : (k0_pay4 (F := Ideal)) (ix2 0 j) = 0 := by
  pointwise [k0_pay4]

/-! ### The arguments and the results, band by band -/

/-- The bands of argument 0. -/
theorem held0 : Tiled (m ((c : Thread nD τ).loc main_arg0)) (iblk m c 0) (fun t => t.val / 1) (fun _ => 0) :=
  .of (fun t => ((cfg0.win 0).blk t).view.emb) (fun t => win0_0.index t) (fun _ _ => rfl) (fun _ _ => rfl) (fun _ _ => rfl) (by decide +kernel)

/-- The bands of argument 1. -/
theorem held1 : Tiled (m ((c : Thread nD τ).loc main_arg1)) (iblk m c 1) (fun t => t.val / 1) (fun _ => 0) :=
  .of (fun t => ((cfg0.win 1).blk t).view.emb) (fun t => win0_1.index t) (fun _ _ => rfl) (fun _ _ => rfl) (fun _ _ => rfl) (by decide +kernel)

/-- The bands of argument 2. -/
theorem held2 : Tiled (m ((c : Thread nD τ).loc main_arg2)) (iblk m c 2) (fun t => t.val / 1) (fun _ => 0) :=
  .of (fun t => ((cfg0.win 2).blk t).view.emb) (fun t => win0_2.index t) (fun _ _ => rfl) (fun _ _ => rfl) (fun _ _ => rfl) (by decide +kernel)

/-- The bands of argument 3. -/
theorem held3 : Tiled (m ((c : Thread nD τ).loc main_arg3)) (iblk m c 3) (fun t => t.val / 1) (fun _ => 0) :=
  .of (fun t => ((cfg0.win 3).blk t).view.emb) (fun t => win0_3.index t) (fun _ _ => rfl) (fun _ _ => rfl) (fun _ _ => rfl) (by decide +kernel)

/-- Argument 4, whole at every point. -/
theorem held4 : Tiled (m ((c : Thread nD τ).loc main_arg4)) (iblk m c 4) (fun _ => 0) (fun _ => 0) :=
  .of (fun t => ((cfg0.win 4).blk t).view.emb) (fun t => win0_4.index t) (fun _ _ => rfl) (fun _ _ => rfl) (fun _ _ => rfl) (by decide +kernel)

/-- Argument 5, whole at every point. -/
theorem held5 : Tiled (m ((c : Thread nD τ).loc main_arg5)) (iblk m c 5) (fun _ => 0) (fun _ => 0) :=
  .of (fun t => ((cfg0.win 5).blk t).view.emb) (fun t => win0_5.index t) (fun _ _ => rfl) (fun _ _ => rfl) (fun _ _ => rfl) (by decide +kernel)

/-- The bands of the first result. -/
theorem result0 : Tiled ((dats m 0 c).arrAt 6 cfg0.N) (fun t => (outsAt0 m c t.val t.isLt).1) (fun t => t.val / 1) (fun t => t.val % 1) :=
  .of (fun t => ((cfg0.win 6).blk t).view.emb) (fun t => win0_6.index t)
    (fun t y => (congrFun ((blocks6 m c t (flush0_6 t)).trans (flushed6 m c t)) y).symm.trans ((View.read_apply _ _).trans (cast_eq _ _)))
    (fun _ _ => rfl) (fun _ _ => rfl) (by decide +kernel)

/-- The bands of the second result. -/
theorem result1 : Tiled ((dats m 0 c).arrAt 7 cfg0.N) (fun t => (outsAt0 m c t.val t.isLt).2.1) (fun t => t.val / 1) (fun t => t.val % 1) :=
  .of (fun t => ((cfg0.win 7).blk t).view.emb) (fun t => win0_7.index t)
    (fun t y => (congrFun ((blocks7 m c t (flush0_7 t)).trans (flushed7 m c t)) y).symm.trans ((View.read_apply _ _).trans (cast_eq _ _)))
    (fun _ _ => rfl) (fun _ _ => rfl) (by decide +kernel)

/-- The bands of the third result. -/
theorem result2 : Tiled ((dats m 0 c).arrAt 8 cfg0.N) (fun t => (outsAt0 m c t.val t.isLt).2.2.1) (fun t => t.val / 1) (fun t => t.val % 1) :=
  .of (fun t => ((cfg0.win 8).blk t).view.emb) (fun t => win0_8.index t)
    (fun t y => (congrFun ((blocks8 m c t (flush0_8 t)).trans (flushed8 m c t)) y).symm.trans ((View.read_apply _ _).trans (cast_eq _ _)))
    (fun _ _ => rfl) (fun _ _ => rfl) (by decide +kernel)

/-- The last point. -/
abbrev last : Fin cfg0.N := ⟨15, by decide⟩

/-- The point that writes the loss back: the last one. -/
theorem flush_last3 : ∀ t : Fin cfg0.N, (cfg0.win 9).flush t = true → t.val = 15 :=
  (by decide +kernel : ∀ t : Fin grid0.N, win0_9.flush t = true → t.val = 15)

/-- The point that writes the gradient of the gain back: the last one. -/
theorem flush_last4 : ∀ t : Fin cfg0.N, (cfg0.win 10).flush t = true → t.val = 15 :=
  (by decide +kernel : ∀ t : Fin grid0.N, win0_10.flush t = true → t.val = 15)

/-- The point that writes the gradient of the shift back: the last one. -/
theorem flush_last5 : ∀ t : Fin cfg0.N, (cfg0.win 11).flush t = true → t.val = 15 :=
  (by decide +kernel : ∀ t : Fin grid0.N, win0_11.flush t = true → t.val = 15)

/-- The loss is what the last point leaves. -/
theorem result3 : Tiled ((dats m 0 c).arrAt 9 cfg0.N) (fun _ : Fin 1 => (outsAt0 m c last.val last.isLt).2.2.2.1) (fun t => t.val / 1) (fun t => t.val % 1) :=
  .of (fun _ => ((cfg0.win 9).blk last).view.emb) (fun _ => win0_9.index last)
    (fun _ y => (congrFun (((dats m 0 c).read_blk_arrAt_eq_flushed 9
        (fun t t' h h' hne => absurd (Fin.ext ((flush_last3 t h).trans (flush_last3 t' h').symm)) hne) cfg0.N last last.isLt (by decide +kernel)).trans
        (flushed9 m c last)) y).symm.trans ((View.read_apply _ _).trans (cast_eq _ _)))
    (fun _ _ => rfl) (fun _ _ => rfl) (by decide +kernel)

/-- The gradient of the gain is what the last point leaves. -/
theorem result4 : Tiled ((dats m 0 c).arrAt 10 cfg0.N) (fun _ : Fin 1 => (outsAt0 m c last.val last.isLt).2.2.2.2.1) (fun t => t.val / 1) (fun t => t.val % 1) :=
  .of (fun _ => ((cfg0.win 10).blk last).view.emb) (fun _ => win0_10.index last)
    (fun _ y => (congrFun (((dats m 0 c).read_blk_arrAt_eq_flushed 10
        (fun t t' h h' hne => absurd (Fin.ext ((flush_last4 t h).trans (flush_last4 t' h').symm)) hne) cfg0.N last last.isLt (by decide +kernel)).trans
        (flushed10 m c last)) y).symm.trans ((View.read_apply _ _).trans (cast_eq _ _)))
    (fun _ _ => rfl) (fun _ _ => rfl) (by decide +kernel)

/-- The gradient of the shift is what the last point leaves. -/
theorem result5 : Tiled ((dats m 0 c).arrAt 11 cfg0.N) (fun _ : Fin 1 => (outsAt0 m c last.val last.isLt).2.2.2.2.2) (fun t => t.val / 1) (fun t => t.val % 1) :=
  .of (fun _ => ((cfg0.win 11).blk last).view.emb) (fun _ => win0_11.index last)
    (fun _ y => (congrFun (((dats m 0 c).read_blk_arrAt_eq_flushed 11
        (fun t t' h h' hne => absurd (Fin.ext ((flush_last5 t h).trans (flush_last5 t' h').symm)) hne) cfg0.N last last.isLt (by decide +kernel)).trans
        (flushed11 m c last)) y).symm.trans ((View.read_apply _ _).trans (cast_eq _ _)))
    (fun _ _ => rfl) (fun _ _ => rfl) (by decide +kernel)

/-! ### The bands are the arrays' -/

/-- What is made of a row of each of the four tables and of the two parameters. -/
abbrev OfRows := (Fin 2048 → EReal) → (Fin 2048 → EReal) → (Fin 2048 → EReal) → (Fin 2048 → EReal) → (Fin 2048 → EReal) → (Fin 2048 → EReal) → EReal

/-- What is made of the rows `i` a point holds. -/
abbrev here (f : OfRows) (t : Fin cfg0.N) (i : Fin 256) : EReal :=
  f (row (iblk m c 0 t) i) (row (iblk m c 1 t) i) (row (iblk m c 2 t) i) (row (iblk m c 3 t) i) (row (iblk m c 4 t) 0) (row (iblk m c 5 t) 0)

/-- What is made of the rows `a` of the arguments. -/
abbrev there (f : OfRows) (a : Fin 4096) : EReal :=
  f (row (m ((c : Thread nD τ).loc main_arg0)) a) (row (m ((c : Thread nD τ).loc main_arg1)) a) (row (m ((c : Thread nD τ).loc main_arg2)) a)
    (row (m ((c : Thread nD τ).loc main_arg3)) a) (row (m ((c : Thread nD τ).loc main_arg4)) 0) (row (m ((c : Thread nD τ).loc main_arg5)) 0)

/-- The rows a point holds are rows of the arguments. -/
theorem here_eq (f : OfRows) {t : Fin cfg0.N} {i : Fin 256} {a : Fin 4096} (ha : a.val = t.val / 1 * 256 + i.val) : here m c f t i = there m c f a :=
  six f (row_eq (held0 m c) ha) (row_eq (held1 m c) ha) (row_eq (held2 m c) ha) (row_eq (held3 m c) ha) (whole_eq (held4 m c) t)
    (whole_eq (held5 m c) t)

/-- A number carried over the points, increased at each by what is made of that point's rows, ends as the sum over all the rows. -/
theorem total (f : OfRows) (S : Fin cfg0.N → EReal) (h0 : ∀ t : Fin cfg0.N, t.val % 16 = 0 → S t = ∑ i, here m c f t i)
    (hs : ∀ t u : Fin cfg0.N, ¬ t.val % 16 = 0 → u.val = t.val - 1 → S t = S u + ∑ i, here m c f t i) : S last = ∑ a, there m c f a := by
  refine carried (n := cfg0.N) (b := 256) rfl _ (here m c f) S ?_ ?_ ?_ last rfl
  · intro t i r hr
    exact here_eq m c f (by rw [Nat.div_one]; exact hr)
  · intro t ht
    exact h0 t (by rw [ht])
  · intro t u htu
    have ht : t.val < 16 := t.isLt
    exact hs t u (by omega) (by omega)

/-- The loss is the sum of what the rows add to it. -/
theorem total3 (j : Fin 128) : (outsAt0 m c last.val last.isLt).2.2.2.1 (ix2 0 j) = ∑ a, there m c cost a := by
  refine total m c cost (fun t => (outsAt0 m c t.val t.isLt).2.2.2.1 (ix2 0 j)) (fun t ht => ?_) fun t u ht hu => ?_
  · rw [outs_first m c t ht]
    dsimp only
    rw [add3, start3, zero_add]
    exact cost_apply ..
  · rw [outs_later m c t ht, outs_same m c hu u.isLt (Nat.lt_of_le_of_lt (Nat.sub_le _ _) t.isLt)]
    dsimp only
    rw [add3]
    exact congrArg (_ + ·) (cost_apply ..)

/-- The gradient of the gain is the sum of what the rows add to it. -/
theorem total4 (j : Fin 2048) : (outsAt0 m c last.val last.isLt).2.2.2.2.1 (ix2 0 j)
    = ∑ a, there m c (fun h x z t g b => gains h x z t g b j) a := by
  refine total m c (fun h x z t g b => gains h x z t g b j) (fun t => (outsAt0 m c t.val t.isLt).2.2.2.2.1 (ix2 0 j)) (fun t ht => ?_)
    fun t u ht hu => ?_
  · rw [outs_first m c t ht]
    dsimp only
    rw [add4, start4, zero_add]
    exact gains_apply ..
  · rw [outs_later m c t ht, outs_same m c hu u.isLt (Nat.lt_of_le_of_lt (Nat.sub_le _ _) t.isLt)]
    dsimp only
    rw [add4]
    exact congrArg (_ + ·) (gains_apply ..)

/-- The gradient of the shift is the sum of what the rows add to it. -/
theorem total5 (j : Fin 2048) : (outsAt0 m c last.val last.isLt).2.2.2.2.2 (ix2 0 j)
    = ∑ a, there m c (fun h x z t g b => aside h x z t g b j) a := by
  refine total m c (fun h x z t g b => aside h x z t g b j) (fun t => (outsAt0 m c t.val t.isLt).2.2.2.2.2 (ix2 0 j)) (fun t ht => ?_)
    fun t u ht hu => ?_
  · rw [outs_first m c t ht]
    dsimp only
    rw [add5, start5, zero_add]
    exact shift_apply ..
  · rw [outs_later m c t ht, outs_same m c hu u.isLt (Nat.lt_of_le_of_lt (Nat.sub_le _ _) t.isLt)]
    dsimp only
    rw [add5]
    exact congrArg (_ + ·) (shift_apply ..)

/-- A reference's array of the arguments. -/
abbrev ref {γ : Type} (f : Vec Ideal S4096x2048 .f32 → Vec Ideal S4096x2048 .f32 → Vec Ideal S4096x2048 .f32 → Vec Ideal S4096x2048 .f32
    → Vec Ideal S1x2048 .f32 → Vec Ideal S1x2048 .f32 → γ) : γ :=
  f (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

open Cert.Reference32Ideal.Read in
/-- What the points leave of the first result are the bands of the reference's. -/
theorem reference0 : Tiled (ref m c (val_main_v42 (F := Ideal))) (fun t : Fin cfg0.N => (outsAt0 m c t.val t.isLt).1) (fun t => t.val / 1)
    (fun t => t.val % 1) := by
  intro t i j a b ha hb
  obtain rfl : b = j := Fin.ext (by omega)
  dsimp only
  rw [(outs_rows m c t).1]
  exact (down_apply ..).trans ((here_eq m c (fun h x z t g p => down h x z t g p b) ha).trans (reference_down ..).symm)

open Cert.Reference32Ideal.Read in
/-- What the points leave of the second result are the bands of the reference's. -/
theorem reference1 : Tiled (ref m c (val_main_v67 (F := Ideal))) (fun t : Fin cfg0.N => (outsAt0 m c t.val t.isLt).2.1) (fun t => t.val / 1)
    (fun t => t.val % 1) := by
  intro t i j a b ha hb
  obtain rfl : b = j := Fin.ext (by omega)
  dsimp only
  rw [(outs_rows m c t).2.1]
  exact (inward_apply ..).trans ((here_eq m c (fun h x z t g p => inward h x z t g p b) ha).trans (reference_inward ..).symm)

open Cert.Reference32Ideal.Read in
/-- What the points leave of the third result are the bands of the reference's. -/
theorem reference2 : Tiled (ref m c (val_main_v68 (F := Ideal))) (fun t : Fin cfg0.N => (outsAt0 m c t.val t.isLt).2.2.1) (fun t => t.val / 1)
    (fun t => t.val % 1) := by
  intro t i j a b ha hb
  obtain rfl : b = j := Fin.ext (by omega)
  dsimp only
  rw [(outs_rows m c t).2.2]
  exact (aside_apply ..).trans ((here_eq m c (fun h x z t g p => aside h x z t g p b) ha).trans (reference_aside ..).symm)

open Cert.Reference32Ideal.Read in
/-- What the last point leaves of the loss is the reference's. -/
theorem reference3 : Tiled (ref m c (val_main_v69 (F := Ideal))) (fun _ : Fin 1 => (outsAt0 m c last.val last.isLt).2.2.2.1) (fun t => t.val / 1)
    (fun t => t.val % 1) := by
  intro t i j a b ha hb
  obtain rfl : b = j := Fin.ext (by omega)
  obtain rfl : i = 0 := Fin.ext (by omega)
  obtain rfl : a = 0 := Fin.ext (by omega)
  exact (total3 m c b).trans (reference_cost ..).symm

open Cert.Reference32Ideal.Read in
/-- What the last point leaves of the gradient of the gain is the reference's. -/
theorem reference4 : Tiled (ref m c (val_main_v50 (F := Ideal))) (fun _ : Fin 1 => (outsAt0 m c last.val last.isLt).2.2.2.2.1) (fun t => t.val / 1)
    (fun t => t.val % 1) := by
  intro t i j a b ha hb
  obtain rfl : b = j := Fin.ext (by omega)
  obtain rfl : i = 0 := Fin.ext (by omega)
  obtain rfl : a = 0 := Fin.ext (by omega)
  exact (total4 m c b).trans (reference_gains ..).symm

open Cert.Reference32Ideal.Read in
/-- What the last point leaves of the gradient of the shift is the reference's. -/
theorem reference5 : Tiled (ref m c (val_main_v47 (F := Ideal))) (fun _ : Fin 1 => (outsAt0 m c last.val last.isLt).2.2.2.2.2) (fun t => t.val / 1)
    (fun t => t.val % 1) := by
  intro t i j a b ha hb
  obtain rfl : b = j := Fin.ext (by omega)
  obtain rfl : i = 0 := Fin.ext (by omega)
  obtain rfl : a = 0 := Fin.ext (by omega)
  exact (total5 m c b).trans (reference_shift ..).symm

/-! ### The claims -/

/-- The call as printed and the call as idealized have the same text. -/
theorem body_eq : Cert.Kernel32.defs₀ (F := Bits) = defs₀ (F := Bits) :=
  congrArg Defs.onTc (funext fun l => funext fun x => match l, x with | 0, (_, _) => rfl)

/-- The call as printed runs to the end. -/
theorem frame_bits : Cert.quiescent_Kernel32 := fun m ρ _ => by
  have e : Cert.Kernel32.defs (F := Bits) = defs (F := Bits) := congrArg (Pipeline.defs pcfgs) body_eq
  rw [e]; exact Gen.frame (F := Bits) m ρ

/-- The reference runs to the end. -/
theorem frame_reference : Cert.quiescent_Reference32Ideal := fun m ρ _ =>
  (θ_run Cert.Reference32Ideal.defs _ _).mono
    (fun r h => ⟨fun c => (h c).2.2.2.2.2.2, sem_eq_zero_of_no_sems (by decide) r.2⟩) (Cert.Reference32Ideal.Value.run (F := Ideal) m ρ)

/-- The call and the reference end with the same six arrays: the gradients of the residual stream, of the embeddings and of the gate's
    argument, the loss, and the gradients of the gain and of the gate's shift. -/
theorem algebraic : Cert.algebraic_Kernel32Ideal_Reference32Ideal := fun m g m' g' _ hargs =>
  ⟨_, _, _, _, _, _, run_blocks m g, (θ_run Cert.Reference32Ideal.defs _ _).mono (fun r h c => by
    obtain ⟨e0, e1, e2, e3, e4, e5⟩ := hargs c
    obtain ⟨h0, h1, h2, h3, h4, h5, hk⟩ := h c
    refine ⟨h0.trans ?_, h1.trans ?_, h2.trans ?_, h3.trans ?_, h4.trans ?_, h5.trans ?_, hk⟩
    · rw [Cert.Reference32Ideal.Read.val_main_v42_eq, e0, e1, e2, e3, e4, e5]
      exact Tiled.eq (p := 16) (q := 1) rfl rfl rfl (reference0 m c) (result0 m c)
    · rw [Cert.Reference32Ideal.Read.val_main_v67_eq, e0, e1, e2, e3, e4, e5]
      exact Tiled.eq (p := 16) (q := 1) rfl rfl rfl (reference1 m c) (result1 m c)
    · rw [Cert.Reference32Ideal.Read.val_main_v68_eq, e0, e1, e2, e3, e4, e5]
      exact Tiled.eq (p := 16) (q := 1) rfl rfl rfl (reference2 m c) (result2 m c)
    · rw [Cert.Reference32Ideal.Read.val_main_v69_eq, e0, e1, e2, e3, e4, e5]
      exact Tiled.eq (p := 1) (q := 1) rfl rfl rfl (reference3 m c) (result3 m c)
    · rw [Cert.Reference32Ideal.Read.val_main_v50_eq, e0, e1, e2, e3, e4, e5]
      exact Tiled.eq (p := 1) (q := 1) rfl rfl rfl (reference4 m c) (result4 m c)
    · rw [Cert.Reference32Ideal.Read.val_main_v47_eq, e0, e1, e2, e3, e4, e5]
      exact Tiled.eq (p := 1) (q := 1) rfl rfl rfl (reference5 m c) (result5 m c)) (Cert.Reference32Ideal.Value.run (F := Ideal) m' g')⟩

end Cert.Kernel32Ideal.Tail

end
-- ==== Proof.Forward.lean ====
/- THE FORWARD PRODUCTS: each call is a product with the weights. -/
module

public import proofs.«01_k».proof.Defs
public import proofs.«01_k».proof.Proof.Tile
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal.Value
public import proofs.«01_k».proof.Proof.Gen.Reference22Ideal.Run
public import proofs.«01_k».proof.Proof.Gen.Reference22Ideal.Read

@[expose] public section

set_option maxRecDepth 8192

noncomputable section

open Idealize.ShloMosaic Idealize.ShloMosaic.TcCoe
open Idealize.SL.Sem
open Cert.Tile

/-! ## An up projection (`mm_gate`, `mm_up`) -/

namespace Cert.Kernel16Ideal.Tiles

open Cert.Kernel16Ideal Cert.Kernel16Ideal.Gen Cert.Kernel16Ideal.Value

/-- The tile a point computes. -/
theorem pay_apply (x0 : Vec Ideal S1024x2048 .bf16) (x1 : Vec Ideal S2048x512 .bf16) (r : Fin 1024) (s : Fin 512) :
    k0_pay1 x0 x1 (ix2 r s) = nn x0 x1 r s := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 11) (fun t => t.val % 11) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 11) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 11) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference16Ideal.S4096x2048 .bf16) (x1 : FVec Ideal Cert.Reference16Ideal.S2048x5632 .bf16)
    (a : Fin 4096) (b : Fin 5632) : (Cert.Reference16Ideal.Read.val_main_v2 (F := Ideal) x0 x1 (ix2 a b) : EReal) = nn x0 x1 a b :=
  (Cert.Reference16Ideal.Read.val_main_v2_apply x0 x1 _).trans
    (sum_nn (fun k => congrArg x0 (idx_ext rfl rfl)) (fun k => congrArg x1 (idx_ext rfl rfl)))

/-- The reference's result is the kernel's. -/
theorem equation : Cert.Reference16Ideal.Read.val_main_v2 (F := Ideal) (m ((c : Thread nD τ).loc main_arg0)) (m ((c : Thread nD τ).loc main_arg1)) = (dats m 0 c).arrAt 2 cfg0.N :=
  Tiled.eq (p := 4) (q := 11) rfl rfl rfl
    (nn_tiled (reference_apply _ _) (fun t r s => (congrFun (outs_eq m c t) _).trans (pay_apply _ _ r s)) (lhs_tiled m c) (rhs_tiled m c)) (out_tiled m c)

instance : Cert.Kernel16.Facts := Cert.Kernel16.Gen.facts
instance : Cert.Kernel16Ideal.Facts := Cert.Kernel16Ideal.Gen.facts
instance : Cert.Reference16Ideal.Facts := Cert.Reference16Ideal.Gen.facts

/-- The call's body is the same in the two readings. -/
theorem body_eq : Cert.Kernel16.defs₀ (F := Bits) = defs₀ (F := Bits) :=
  congrArg Defs.onTc (funext fun l => funext fun x => match l, x with | 0, (_, _) => rfl)

/-- The compiled program runs and leaves its arguments unchanged. -/
theorem frame_bits : Cert.quiescent_Kernel16 := fun m ρ _ => by
  have e : Cert.Kernel16.defs (F := Bits) = defs (F := Bits) := congrArg (Pipeline.defs pcfgs) body_eq
  rw [e]
  exact Gen.frame (F := Bits) m ρ

/-- The reference runs and leaves its arguments unchanged. -/
theorem frame_reference : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

/-- The kernel and the reference end with equal results. -/
theorem algebraic : Cert.algebraic_Kernel16Ideal_Reference16Ideal := fun m g m' g' _ hargs =>
  ⟨_, run_blocks m g, (θ_run Cert.Reference16Ideal.defs _ _).mono (fun _ h c => ⟨(h c).1.trans (by
    rw [Cert.Reference16Ideal.Read.val_main_v2_eq, (hargs c).1, (hargs c).2]; exact equation m c), (h c).2⟩) (Cert.Reference16Ideal.Value.run (F := Ideal) m' g')⟩

end Cert.Kernel16Ideal.Tiles

/-! ## The down projection, added to the residual (`mm_down`) -/

namespace Cert.Kernel17Ideal.Tiles

open Cert.Kernel17Ideal Cert.Kernel17Ideal.Gen Cert.Kernel17Ideal.Value

/-- The tile a point computes. -/
theorem pay_apply (x0 : Vec Ideal S512x5632 .bf16) (x1 : Vec Ideal S5632x512 .bf16) (x2 : Vec Ideal S512x512 .f32) (r : Fin 512) (s : Fin 512) :
    k0_pay1 x0 x1 x2 (ix2 r s) = nn x0 x1 r s + x2 (ix2 r s) := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) (iblk m c 2 t) := by
  unfold outsAt0 out0_A_3 kernelRun0_A
  dsimp only
  exact (View.read_writes_full (Val := Elt Ideal) VO0_3 _ inb_S512x512_S512x512_0_0 _ []).trans
    (congr (congrArg₂ k0_pay1 (load_whole _ _ _ _) (load_whole _ _ _ _)) (load_whole _ _ _ _))

/-- The result's blocks are what the points leave. -/
theorem out_tiled : Tiled ((dats m 0 c).arrAt 3 cfg0.N) (outsAt0 m c) (fun t => t.val / 4) (fun t => t.val % 4) :=
  .of (fun t => ((cfg0.win 3).blk t).view.emb) (fun t => win0_3.index t)
    (fun t y => (congrFun ((blocks3 m c t (flush0_3 t)).trans (flushed3 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- A point's block of the summand. -/
theorem add_tiled : Tiled (m ((c : Thread nD τ).loc main_arg2)) (iblk m c 2) (fun t => t.val / 4) (fun t => t.val % 4) :=
  .of (fun t => ((cfg0.win 2).blk t).view.emb) (fun t => win0_2.index t) (fun _ _ => rfl) (fun _ _ => rfl) (fun _ _ => rfl) (by decide +kernel)

/-- The reference's product. -/
theorem reference_apply (x0 : FVec Ideal Cert.Reference17Ideal.S4096x5632 .bf16) (x1 : FVec Ideal Cert.Reference17Ideal.S5632x2048 .bf16)
    (a : Fin 4096) (b : Fin 2048) : (Cert.Reference17Ideal.Read.val_main_v2 (F := Ideal) x0 x1 (ix2 a b) : EReal) = nn x0 x1 a b :=
  (Cert.Reference17Ideal.Read.val_main_v2_apply x0 x1 _).trans
    (sum_nn (fun k => congrArg x0 (idx_ext rfl rfl)) (fun k => congrArg x1 (idx_ext rfl rfl)))

/-- The reference's result is the kernel's. -/
theorem equation : Cert.Reference17Ideal.Read.val_main_v3 (F := Ideal) (m ((c : Thread nD τ).loc main_arg0)) (m ((c : Thread nD τ).loc main_arg1)) (m ((c : Thread nD τ).loc main_arg2)) = (dats m 0 c).arrAt 3 cfg0.N :=
  Tiled.eq (p := 8) (q := 4) rfl rfl rfl
    (nn_add_tiled (reference_apply _ _) (fun _ => rfl) (fun t r s => (congrFun (outs_eq m c t) _).trans (pay_apply _ _ _ r s))
      (lhs_tiled m c) (rhs_tiled m c) (add_tiled m c)) (out_tiled m c)

instance : Cert.Kernel17.Facts := Cert.Kernel17.Gen.facts
instance : Cert.Kernel17Ideal.Facts := Cert.Kernel17Ideal.Gen.facts
instance : Cert.Reference17Ideal.Facts := Cert.Reference17Ideal.Gen.facts

/-- The call's body is the same in the two readings. -/
theorem body_eq : Cert.Kernel17.defs₀ (F := Bits) = defs₀ (F := Bits) :=
  congrArg Defs.onTc (funext fun l => funext fun x => match l, x with | 0, (_, _) => rfl)

/-- The compiled program runs and leaves its arguments unchanged. -/
theorem frame_bits : Cert.quiescent_Kernel17 := fun m ρ _ => by
  have e : Cert.Kernel17.defs (F := Bits) = defs (F := Bits) := congrArg (Pipeline.defs pcfgs) body_eq
  rw [e]
  exact Gen.frame (F := Bits) m ρ

/-- The reference runs and leaves its arguments unchanged. -/
theorem frame_reference : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)

/-- The kernel and the reference end with equal results. -/
theorem algebraic : Cert.algebraic_Kernel17Ideal_Reference17Ideal := fun m g m' g' _ hargs =>
  ⟨_, run_blocks m g, (θ_run Cert.Reference17Ideal.defs _ _).mono (fun _ h c => ⟨(h c).1.trans (by
    rw [Cert.Reference17Ideal.Read.val_main_v3_eq, (hargs c).1, (hargs c).2.1, (hargs c).2.2]; exact equation m c), (h c).2⟩) (Cert.Reference17Ideal.Value.run (F := Ideal) m' g')⟩

end Cert.Kernel17Ideal.Tiles

/-! ## The recurrent input projection (`mm_in_r`) -/

namespace Cert.Kernel18Ideal.Tiles

open Cert.Kernel18Ideal Cert.Kernel18Ideal.Gen Cert.Kernel18Ideal.Value

/-- The tile a point computes. -/
theorem pay_apply (x0 : Vec Ideal S1024x2048 .bf16) (x1 : Vec Ideal S2048x512 .bf16) (r : Fin 1024) (s : Fin 512) :
    k0_pay1 x0 x1 (ix2 r s) = nn x0 x1 r s := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 7) (fun t => t.val % 7) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 7) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 7) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference18Ideal.S4096x2048 .bf16) (x1 : FVec Ideal Cert.Reference18Ideal.S2048x3584 .bf16)
    (a : Fin 4096) (b : Fin 3584) : (Cert.Reference18Ideal.Read.val_main_v2 (F := Ideal) x0 x1 (ix2 a b) : EReal) = nn x0 x1 a b :=
  (Cert.Reference18Ideal.Read.val_main_v2_apply x0 x1 _).trans
    (sum_nn (fun k => congrArg x0 (idx_ext rfl rfl)) (fun k => congrArg x1 (idx_ext rfl rfl)))

/-- The reference's result is the kernel's. -/
theorem equation : Cert.Reference18Ideal.Read.val_main_v2 (F := Ideal) (m ((c : Thread nD τ).loc main_arg0)) (m ((c : Thread nD τ).loc main_arg1)) = (dats m 0 c).arrAt 2 cfg0.N :=
  Tiled.eq (p := 4) (q := 7) rfl rfl rfl
    (nn_tiled (reference_apply _ _) (fun t r s => (congrFun (outs_eq m c t) _).trans (pay_apply _ _ r s)) (lhs_tiled m c) (rhs_tiled m c)) (out_tiled m c)

instance : Cert.Kernel18.Facts := Cert.Kernel18.Gen.facts
instance : Cert.Kernel18Ideal.Facts := Cert.Kernel18Ideal.Gen.facts
instance : Cert.Reference18Ideal.Facts := Cert.Reference18Ideal.Gen.facts

/-- The call's body is the same in the two readings. -/
theorem body_eq : Cert.Kernel18.defs₀ (F := Bits) = defs₀ (F := Bits) :=
  congrArg Defs.onTc (funext fun l => funext fun x => match l, x with | 0, (_, _) => rfl)

/-- The compiled program runs and leaves its arguments unchanged. -/
theorem frame_bits : Cert.quiescent_Kernel18 := fun m ρ _ => by
  have e : Cert.Kernel18.defs (F := Bits) = defs (F := Bits) := congrArg (Pipeline.defs pcfgs) body_eq
  rw [e]
  exact Gen.frame (F := Bits) m ρ

/-- The reference runs and leaves its arguments unchanged. -/
theorem frame_reference : Cert.quiescent_Reference18Ideal := fun m ρ _ =>
  (θ_run Cert.Reference18Ideal.defs _ _).mono (fun r h => ⟨fun c => (h c).2, sem_eq_zero_of_no_sems (by decide) r.2⟩) (Cert.Reference18Ideal.Value.run (F := Ideal) m ρ)

/-- The kernel and the reference end with equal results. -/
theorem algebraic : Cert.algebraic_Kernel18Ideal_Reference18Ideal := fun m g m' g' _ hargs =>
  ⟨_, run_blocks m g, (θ_run Cert.Reference18Ideal.defs _ _).mono (fun _ h c => ⟨(h c).1.trans (by
    rw [Cert.Reference18Ideal.Read.val_main_v2_eq, (hargs c).1, (hargs c).2]; exact equation m c), (h c).2⟩) (Cert.Reference18Ideal.Value.run (F := Ideal) m' g')⟩

end Cert.Kernel18Ideal.Tiles

/-! ## The other input projection (`mm_in_f`) -/

namespace Cert.Kernel19Ideal.Tiles

open Cert.Kernel19Ideal Cert.Kernel19Ideal.Gen Cert.Kernel19Ideal.Value

/-- The tile a point computes. -/
theorem pay_apply (x0 : Vec Ideal S1024x2048 .bf16) (x1 : Vec Ideal S2048x640 .bf16) (r : Fin 1024) (s : Fin 640) :
    k0_pay1 x0 x1 (ix2 r s) = nn x0 x1 r s := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x640_S1024x640_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 5) (fun t => t.val % 5) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 5) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 5) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference19Ideal.S4096x2048 .bf16) (x1 : FVec Ideal Cert.Reference19Ideal.S2048x3200 .bf16)
    (a : Fin 4096) (b : Fin 3200) : (Cert.Reference19Ideal.Read.val_main_v2 (F := Ideal) x0 x1 (ix2 a b) : EReal) = nn x0 x1 a b :=
  (Cert.Reference19Ideal.Read.val_main_v2_apply x0 x1 _).trans
    (sum_nn (fun k => congrArg x0 (idx_ext rfl rfl)) (fun k => congrArg x1 (idx_ext rfl rfl)))

/-- The reference's result is the kernel's. -/
theorem equation : Cert.Reference19Ideal.Read.val_main_v2 (F := Ideal) (m ((c : Thread nD τ).loc main_arg0)) (m ((c : Thread nD τ).loc main_arg1)) = (dats m 0 c).arrAt 2 cfg0.N :=
  Tiled.eq (p := 4) (q := 5) rfl rfl rfl
    (nn_tiled (reference_apply _ _) (fun t r s => (congrFun (outs_eq m c t) _).trans (pay_apply _ _ r s)) (lhs_tiled m c) (rhs_tiled m c)) (out_tiled m c)

instance : Cert.Kernel19.Facts := Cert.Kernel19.Gen.facts
instance : Cert.Kernel19Ideal.Facts := Cert.Kernel19Ideal.Gen.facts
instance : Cert.Reference19Ideal.Facts := Cert.Reference19Ideal.Gen.facts

/-- The call's body is the same in the two readings. -/
theorem body_eq : Cert.Kernel19.defs₀ (F := Bits) = defs₀ (F := Bits) :=
  congrArg Defs.onTc (funext fun l => funext fun x => match l, x with | 0, (_, _) => rfl)

/-- The compiled program runs and leaves its arguments unchanged. -/
theorem frame_bits : Cert.quiescent_Kernel19 := fun m ρ _ => by
  have e : Cert.Kernel19.defs (F := Bits) = defs (F := Bits) := congrArg (Pipeline.defs pcfgs) body_eq
  rw [e]
  exact Gen.frame (F := Bits) m ρ

/-- The reference runs and leaves its arguments unchanged. -/
theorem frame_reference : Cert.quiescent_Reference19Ideal := fun m ρ _ =>
  (θ_run Cert.Reference19Ideal.defs _ _).mono (fun r h => ⟨fun c => (h c).2, sem_eq_zero_of_no_sems (by decide) r.2⟩) (Cert.Reference19Ideal.Value.run (F := Ideal) m ρ)

/-- The kernel and the reference end with equal results. -/
theorem algebraic : Cert.algebraic_Kernel19Ideal_Reference19Ideal := fun m g m' g' _ hargs =>
  ⟨_, run_blocks m g, (θ_run Cert.Reference19Ideal.defs _ _).mono (fun _ h c => ⟨(h c).1.trans (by
    rw [Cert.Reference19Ideal.Read.val_main_v2_eq, (hargs c).1, (hargs c).2]; exact equation m c), (h c).2⟩) (Cert.Reference19Ideal.Value.run (F := Ideal) m' g')⟩

end Cert.Kernel19Ideal.Tiles

/-! ## The output projection, added to the residual (`mm_out`) -/

namespace Cert.Kernel20Ideal.Tiles

open Cert.Kernel20Ideal Cert.Kernel20Ideal.Gen Cert.Kernel20Ideal.Value

/-- The tile a point computes. -/
theorem pay_apply (x0 : Vec Ideal S1024x2048 .bf16) (x1 : Vec Ideal S2048x512 .bf16) (x2 : Vec Ideal S1024x512 .f32) (r : Fin 1024) (s : Fin 512) :
    k0_pay1 x0 x1 x2 (ix2 r s) = nn x0 x1 r s + x2 (ix2 r s) := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) (iblk m c 2 t) := by
  unfold outsAt0 out0_A_3 kernelRun0_A
  dsimp only
  exact (View.read_writes_full (Val := Elt Ideal) VO0_3 _ inb_S1024x512_S1024x512_0_0 _ []).trans
    (congr (congrArg₂ k0_pay1 (load_whole _ _ _ _) (load_whole _ _ _ _)) (load_whole _ _ _ _))

/-- The result's blocks are what the points leave. -/
theorem out_tiled : Tiled ((dats m 0 c).arrAt 3 cfg0.N) (outsAt0 m c) (fun t => t.val / 4) (fun t => t.val % 4) :=
  .of (fun t => ((cfg0.win 3).blk t).view.emb) (fun t => win0_3.index t)
    (fun t y => (congrFun ((blocks3 m c t (flush0_3 t)).trans (flushed3 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- A point's block of the summand. -/
theorem add_tiled : Tiled (m ((c : Thread nD τ).loc main_arg2)) (iblk m c 2) (fun t => t.val / 4) (fun t => t.val % 4) :=
  .of (fun t => ((cfg0.win 2).blk t).view.emb) (fun t => win0_2.index t) (fun _ _ => rfl) (fun _ _ => rfl) (fun _ _ => rfl) (by decide +kernel)

/-- The reference's product. -/
theorem reference_apply (x0 : FVec Ideal Cert.Reference20Ideal.S4096x2048 .bf16) (x1 : FVec Ideal Cert.Reference20Ideal.S2048x2048 .bf16)
    (a : Fin 4096) (b : Fin 2048) : (Cert.Reference20Ideal.Read.val_main_v2 (F := Ideal) x0 x1 (ix2 a b) : EReal) = nn x0 x1 a b :=
  (Cert.Reference20Ideal.Read.val_main_v2_apply x0 x1 _).trans
    (sum_nn (fun k => congrArg x0 (idx_ext rfl rfl)) (fun k => congrArg x1 (idx_ext rfl rfl)))

/-- The reference's result is the kernel's. -/
theorem equation : Cert.Reference20Ideal.Read.val_main_v3 (F := Ideal) (m ((c : Thread nD τ).loc main_arg0)) (m ((c : Thread nD τ).loc main_arg1)) (m ((c : Thread nD τ).loc main_arg2)) = (dats m 0 c).arrAt 3 cfg0.N :=
  Tiled.eq (p := 4) (q := 4) rfl rfl rfl
    (nn_add_tiled (reference_apply _ _) (fun _ => rfl) (fun t r s => (congrFun (outs_eq m c t) _).trans (pay_apply _ _ _ r s))
      (lhs_tiled m c) (rhs_tiled m c) (add_tiled m c)) (out_tiled m c)

instance : Cert.Kernel20.Facts := Cert.Kernel20.Gen.facts
instance : Cert.Kernel20Ideal.Facts := Cert.Kernel20Ideal.Gen.facts
instance : Cert.Reference20Ideal.Facts := Cert.Reference20Ideal.Gen.facts

/-- The call's body is the same in the two readings. -/
theorem body_eq : Cert.Kernel20.defs₀ (F := Bits) = defs₀ (F := Bits) :=
  congrArg Defs.onTc (funext fun l => funext fun x => match l, x with | 0, (_, _) => rfl)

/-- The compiled program runs and leaves its arguments unchanged. -/
theorem frame_bits : Cert.quiescent_Kernel20 := fun m ρ _ => by
  have e : Cert.Kernel20.defs (F := Bits) = defs (F := Bits) := congrArg (Pipeline.defs pcfgs) body_eq
  rw [e]
  exact Gen.frame (F := Bits) m ρ

/-- The reference runs and leaves its arguments unchanged. -/
theorem frame_reference : Cert.quiescent_Reference20Ideal := fun m ρ _ =>
  (θ_run Cert.Reference20Ideal.defs _ _).mono (fun r h => ⟨fun c => (h c).2, sem_eq_zero_of_no_sems (by decide) r.2⟩) (Cert.Reference20Ideal.Value.run (F := Ideal) m ρ)

/-- The kernel and the reference end with equal results. -/
theorem algebraic : Cert.algebraic_Kernel20Ideal_Reference20Ideal := fun m g m' g' _ hargs =>
  ⟨_, run_blocks m g, (θ_run Cert.Reference20Ideal.defs _ _).mono (fun _ h c => ⟨(h c).1.trans (by
    rw [Cert.Reference20Ideal.Read.val_main_v3_eq, (hargs c).1, (hargs c).2.1, (hargs c).2.2]; exact equation m c), (h c).2⟩) (Cert.Reference20Ideal.Value.run (F := Ideal) m' g')⟩

end Cert.Kernel20Ideal.Tiles

/-! ## The gate projection (`mm_pgate`) -/

namespace Cert.Kernel21Ideal.Tiles

open Cert.Kernel21Ideal Cert.Kernel21Ideal.Gen Cert.Kernel21Ideal.Value

/-- The tile a point computes. -/
theorem pay_apply (x0 : Vec Ideal S1024x2048 .bf16) (x1 : Vec Ideal S2048x512 .bf16) (r : Fin 1024) (s : Fin 512) :
    k0_pay1 x0 x1 (ix2 r s) = nn x0 x1 r s := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference21Ideal.S4096x2048 .bf16) (x1 : FVec Ideal Cert.Reference21Ideal.S2048x2048 .bf16)
    (a : Fin 4096) (b : Fin 2048) : (Cert.Reference21Ideal.Read.val_main_v2 (F := Ideal) x0 x1 (ix2 a b) : EReal) = nn x0 x1 a b :=
  (Cert.Reference21Ideal.Read.val_main_v2_apply x0 x1 _).trans
    (sum_nn (fun k => congrArg x0 (idx_ext rfl rfl)) (fun k => congrArg x1 (idx_ext rfl rfl)))

/-- The reference's result is the kernel's. -/
theorem equation : Cert.Reference21Ideal.Read.val_main_v2 (F := Ideal) (m ((c : Thread nD τ).loc main_arg0)) (m ((c : Thread nD τ).loc main_arg1)) = (dats m 0 c).arrAt 2 cfg0.N :=
  Tiled.eq (p := 4) (q := 4) rfl rfl rfl
    (nn_tiled (reference_apply _ _) (fun t r s => (congrFun (outs_eq m c t) _).trans (pay_apply _ _ r s)) (lhs_tiled m c) (rhs_tiled m c)) (out_tiled m c)

instance : Cert.Kernel21.Facts := Cert.Kernel21.Gen.facts
instance : Cert.Kernel21Ideal.Facts := Cert.Kernel21Ideal.Gen.facts
instance : Cert.Reference21Ideal.Facts := Cert.Reference21Ideal.Gen.facts

/-- The call's body is the same in the two readings. -/
theorem body_eq : Cert.Kernel21.defs₀ (F := Bits) = defs₀ (F := Bits) :=
  congrArg Defs.onTc (funext fun l => funext fun x => match l, x with | 0, (_, _) => rfl)

/-- The compiled program runs and leaves its arguments unchanged. -/
theorem frame_bits : Cert.quiescent_Kernel21 := fun m ρ _ => by
  have e : Cert.Kernel21.defs (F := Bits) = defs (F := Bits) := congrArg (Pipeline.defs pcfgs) body_eq
  rw [e]
  exact Gen.frame (F := Bits) m ρ

/-- The reference runs and leaves its arguments unchanged. -/
theorem frame_reference : Cert.quiescent_Reference21Ideal := fun m ρ _ =>
  (θ_run Cert.Reference21Ideal.defs _ _).mono (fun r h => ⟨fun c => (h c).2, sem_eq_zero_of_no_sems (by decide) r.2⟩) (Cert.Reference21Ideal.Value.run (F := Ideal) m ρ)

/-- The kernel and the reference end with equal results. -/
theorem algebraic : Cert.algebraic_Kernel21Ideal_Reference21Ideal := fun m g m' g' _ hargs =>
  ⟨_, run_blocks m g, (θ_run Cert.Reference21Ideal.defs _ _).mono (fun _ h c => ⟨(h c).1.trans (by
    rw [Cert.Reference21Ideal.Read.val_main_v2_eq, (hargs c).1, (hargs c).2]; exact equation m c), (h c).2⟩) (Cert.Reference21Ideal.Value.run (F := Ideal) m' g')⟩

end Cert.Kernel21Ideal.Tiles

/-! ## The per-layer embedding's projection (`mm_ple`) -/

namespace Cert.Kernel22Ideal.Tiles

open Cert.Kernel22Ideal Cert.Kernel22Ideal.Gen Cert.Kernel22Ideal.Value

/-- The tile a point computes. -/
theorem pay_apply (x0 : Vec Ideal S1024x256 .f32) (x1 : Vec Ideal S256x512 .bf16) (r : Fin 1024) (s : Fin 512) :
    k0_pay1 x0 x1 (ix2 r s) = nn x0 x1 r s := by
  unfold nn
  pointwise [k0_pay1]

variable (m : (ℓ : Loc nD τ sig) → Buf (Elt Ideal) ℓ) (c : Dev nD)

/-- What a point leaves in the output's buffer. -/
theorem outs_eq (t : Fin cfg0.N) : outsAt0 m c t = k0_pay1 (iblk m c 0 t) (iblk m c 1 t) := by
  unfold outsAt0 out0_A_2 kernelRun0_A
  dsimp only
  exact (View.read_writes_full (Val := Elt Ideal) VO0_2 _ inb_S1024x512_S1024x512_0_0 _ []).trans
    (congrArg₂ k0_pay1 (load_whole _ _ _ _) (load_whole _ _ _ _))

/-- The result's blocks are what the points leave. -/
theorem out_tiled : Tiled ((dats m 0 c).arrAt 2 cfg0.N) (outsAt0 m c) (fun t => t.val / 4) (fun t => t.val % 4) :=
  .of (fun t => ((cfg0.win 2).blk t).view.emb) (fun t => win0_2.index t)
    (fun t y => (congrFun ((blocks2 m c t (flush0_2 t)).trans (flushed2 m c t)) y).symm.trans ((View.read_apply _ _).trans (cast_eq _ _)))
    (fun _ _ => rfl) (fun _ _ => rfl) (by decide +kernel)

/-- A point's strip of the left factor. -/
theorem lhs_tiled : Tiled (m ((c : Thread nD τ).loc main_arg0)) (iblk m c 0) (fun t => t.val / 4) (fun _ => 0) :=
  .of (fun t => ((cfg0.win 0).blk t).view.emb) (fun t => win0_0.index t) (fun _ _ => rfl) (fun _ _ => rfl) (fun _ _ => rfl) (by decide +kernel)

/-- A point's strip of the right factor. -/
theorem rhs_tiled : Tiled (m ((c : Thread nD τ).loc main_arg1)) (iblk m c 1) (fun _ => 0) (fun t => t.val % 4) :=
  .of (fun t => ((cfg0.win 1).blk t).view.emb) (fun t => win0_1.index t) (fun _ _ => rfl) (fun _ _ => rfl) (fun _ _ => rfl) (by decide +kernel)

/-- The reference's product. -/
theorem reference_apply (x0 : FVec Ideal Cert.Reference22Ideal.S4096x256 .f32) (x1 : FVec Ideal Cert.Reference22Ideal.S256x2048 .bf16)
    (a : Fin 4096) (b : Fin 2048) : (Cert.Reference22Ideal.Read.val_main_v1 (F := Ideal) x0 x1 (ix2 a b) : EReal) = nn x0 x1 a b :=
  (Cert.Reference22Ideal.Read.val_main_v1_apply x0 x1 _).trans
    (sum_nn (fun k => congrArg x0 (idx_ext rfl rfl)) (fun k => congrArg x1 (idx_ext rfl rfl)))

/-- The reference's result is the kernel's. -/
theorem equation : Cert.Reference22Ideal.Read.val_main_v1 (F := Ideal) (m ((c : Thread nD τ).loc main_arg0)) (m ((c : Thread nD τ).loc main_arg1)) = (dats m 0 c).arrAt 2 cfg0.N :=
  Tiled.eq (p := 4) (q := 4) rfl rfl rfl
    (nn_tiled (reference_apply _ _) (fun t r s => (congrFun (outs_eq m c t) _).trans (pay_apply _ _ r s)) (lhs_tiled m c) (rhs_tiled m c)) (out_tiled m c)

instance : Cert.Kernel22.Facts := Cert.Kernel22.Gen.facts
instance : Cert.Kernel22Ideal.Facts := Cert.Kernel22Ideal.Gen.facts
instance : Cert.Reference22Ideal.Facts := Cert.Reference22Ideal.Gen.facts

/-- The call's body is the same in the two readings. -/
theorem body_eq : Cert.Kernel22.defs₀ (F := Bits) = defs₀ (F := Bits) :=
  congrArg Defs.onTc (funext fun l => funext fun x => match l, x with | 0, (_, _) => rfl)

/-- The compiled program runs and leaves its arguments unchanged. -/
theorem frame_bits : Cert.quiescent_Kernel22 := fun m ρ _ => by
  have e : Cert.Kernel22.defs (F := Bits) = defs (F := Bits) := congrArg (Pipeline.defs pcfgs) body_eq
  rw [e]
  exact Gen.frame (F := Bits) m ρ

/-- The reference runs and leaves its arguments unchanged. -/
theorem frame_reference : Cert.quiescent_Reference22Ideal := fun m ρ _ =>
  (θ_run Cert.Reference22Ideal.defs _ _).mono (fun r h => ⟨fun c => (h c).2, sem_eq_zero_of_no_sems (by decide) r.2⟩) (Cert.Reference22Ideal.Value.run (F := Ideal) m ρ)

/-- The kernel and the reference end with equal results. -/
theorem algebraic : Cert.algebraic_Kernel22Ideal_Reference22Ideal := fun m g m' g' _ hargs =>
  ⟨_, run_blocks m g, (θ_run Cert.Reference22Ideal.defs _ _).mono (fun _ h c => ⟨(h c).1.trans (by
    rw [Cert.Reference22Ideal.Read.val_main_v1_eq, (hargs c).1, (hargs c).2]; exact equation m c), (h c).2⟩) (Cert.Reference22Ideal.Value.run (F := Ideal) m' g')⟩

end Cert.Kernel22Ideal.Tiles

end
-- ==== Proof.Online.lean ====
/- THE FORWARD PASS, BLOCK BY BLOCK: a row's running largest score, sum of exponentials and weighted sum of values, one block of
   1024 keys after another, and what they give when the query's own block has been met. Nothing here mentions a program. -/
module

public import proofs.«01_k».proof.Proof.Weights

@[expose] public section

noncomputable section

namespace Cert.Spec

open Finset Idealize.ShloMosaic Cert.RefValue

variable (H : Head)

/-- The exponential of a score less a number, nought where the key comes after the query. -/
def Head.ew (i : ℕ) (M : ℝ) (j : ℕ) : ℝ := if j ≤ i then Real.exp (H.S i j - M) else 0

/-- The three running values of row `i` when the first `1024 * b` keys have been met: before the first block minus infinity
    and noughts, later the sums over the keys met, the running largest score taken off every score. -/
def Head.Upto (i b : ℕ) (m l : EReal) (acc : Fin 64 → EReal) : Prop :=
  (b = 0 ∧ m = ⊥ ∧ l = 0 ∧ ∀ d, acc d = 0) ∨
  ∃ M : ℝ, m = (M : EReal) ∧ l = ((∑ j ∈ range (1024 * b), H.ew i M j : ℝ) : EReal)
    ∧ ∀ d, acc d = ((∑ j ∈ range (1024 * b), H.ew i M j * H.v j d : ℝ) : EReal)

/-- Taking another number off every score multiplies the exponentials. -/
theorem Head.ew_shift (i : ℕ) (M M' : ℝ) (j : ℕ) : Real.exp (M - M') * H.ew i M j = H.ew i M' j := by
  unfold Head.ew; split_ifs
  · rw [← Real.exp_add]; congr 1; ring
  · rw [mul_zero]

/-- The exponential of a masked score less a number. -/
theorem Head.exp_masked (i j : ℕ) (M : ℝ) :
    Ideal.exp ((if j ≤ i then (H.S i j : EReal) else ⊥) - (M : EReal)) = (H.ew i M j : EReal) := by
  unfold Head.ew; split_ifs
  · rw [← EReal.coe_sub, Ideal.exp_coe]
  · rw [EReal.bot_sub, Ideal.exp_bot]; rfl

/-- One more block of keys, its scores `s` masked. -/
theorem Head.Upto.step {i b : ℕ} (hb : 1024 * b ≤ i) {m l : EReal} {acc : Fin 64 → EReal} (h : H.Upto i b m l acc)
    {s : Fin 1024 → EReal} (hs : ∀ c, s c = if 1024 * b + c.val ≤ i then (H.S i (1024 * b + c.val) : EReal) else ⊥)
    {m' : EReal} (hm : m' = max m ((univ : Finset (Fin 1024)).fold max ⊥ s)) :
    H.Upto i (b + 1) m' (Ideal.exp (m - m') * l + ∑ c, Ideal.exp (s c - m'))
      (fun d => Ideal.exp (m - m') * acc d + ∑ c : Fin 1024, Ideal.exp (s c - m') * (H.v (1024 * b + c.val) d : EReal)) := by
  obtain ⟨B, hB⟩ := fold_max_real s (fun k => by rw [hs]; split_ifs; exacts [EReal.coe_ne_top _, bot_ne_top]) 0
    (by rw [hs, if_pos (by simpa using hb)]; exact EReal.coe_ne_bot _)
  rw [hB] at hm
  refine Or.inr ?_
  rcases h with ⟨rfl, rfl, rfl, h0⟩ | ⟨M, rfl, rfl, ha⟩
  · rw [max_bot_left] at hm
    subst hm
    refine ⟨B, rfl, ?_, fun d => ?_⟩
    · simp only [hs, H.exp_masked, ← coe_sum]
      rw [mul_zero, zero_add, sum_block, Nat.mul_zero, range_zero, sum_empty, zero_add]
    · simp only [hs, H.exp_masked, ← coe_sum, ← EReal.coe_mul]
      rw [h0, mul_zero, zero_add, sum_block, Nat.mul_zero, range_zero, sum_empty, zero_add]
  · rw [← EReal.coe_strictMono.monotone.map_max] at hm
    generalize max M B = M' at hm
    subst hm
    refine ⟨M', rfl, ?_, fun d => ?_⟩
    · simp only [hs, H.exp_masked, ← coe_sum, ← EReal.coe_sub, Ideal.exp_coe, ← EReal.coe_mul, ← EReal.coe_add]
      rw [sum_block, mul_sum]; simp only [H.ew_shift]
    · simp only [hs, ha, H.exp_masked, ← coe_sum, ← EReal.coe_sub, Ideal.exp_coe, ← EReal.coe_mul, ← EReal.coe_add]
      rw [sum_block, mul_sum]; simp only [← mul_assoc, H.ew_shift]

/-- When the query's own block has been met the sum of the exponentials is the row's whole sum. -/
theorem Head.sum_ew {i a : ℕ} (ha : a < 4) (hi : i < 1024 * (a + 1)) (M : ℝ) :
    ∑ j ∈ range (1024 * (a + 1)), H.ew i M j = den (fun _ => H) M 0 i := by
  rw [sum_upto (f := H.ew i M) ha fun j hj => if_neg (by omega), den, ← sum_masked (fun j => Real.exp (H.S i j - M)) (by omega)]
  rfl

/-- Then the weighted sum over the sum is the attention's output. -/
theorem Head.Upto.out {i a : ℕ} (ha : a < 4) (hi : i < 1024 * (a + 1)) {m l : EReal} {acc : Fin 64 → EReal}
    (h : H.Upto i (a + 1) m l acc) (d : Fin 64) : Ideal.div (acc d) l = (H.o i d : EReal) := by
  rcases h with ⟨h, -⟩ | ⟨M, rfl, rfl, h⟩
  · omega
  rw [h, H.sum_ew ha hi, div_real _ (den_pos _ _ _).ne', sum_upto (f := fun j => H.ew i M j * H.v j d) ha fun j hj => by rw [Head.ew, if_neg (by omega), zero_mul]]
  refine congrArg (fun r : ℝ => (r : EReal)) ?_
  rw [div_eq_iff (den_pos _ _ _).ne', Head.o, sum_mul]
  refine sum_congr rfl fun j _ => ?_
  unfold Head.ew Head.p; split_ifs
  · rw [← H.shift i M j]
    have := (den_pos (H := fun _ => H) M 0 i).ne'
    unfold den at this ⊢
    field_simp
  · ring

/-- And the largest score plus the sum's logarithm is the logarithm of the normaliser. -/
theorem Head.Upto.lse {i a : ℕ} (ha : a < 4) (hi : i < 1024 * (a + 1)) {m l : EReal} {acc : Fin 64 → EReal}
    (h : H.Upto i (a + 1) m l acc) : m + Ideal.log l = (Real.log (H.Z i) : EReal) := by
  rcases h with ⟨h, -⟩ | ⟨M, rfl, rfl, -⟩
  · omega
  rw [H.sum_ew ha hi, log_real (den_pos _ _ _), ← EReal.coe_add]
  exact congrArg (fun r : ℝ => (r : EReal)) (H.shift_log i M)

end Cert.Spec
-- ==== Proof.ForwardBlocks.lean ====
/- THE ATTENTION'S FORWARD CALL: what its body computes from one block of scores, and the scores themselves, read at an index. -/
module

public import proofs.«01_k».proof.Proof.Gen.Kernel33Ideal.Loops
public import proofs.«01_k».proof.Proof.Online
public import proofs.«01_k».proof.Proof.Loop
public import Idealize.ShloMosaic.Lib.Pointwise
public import Idealize.ShloMosaic.Lib.WritesUnit
public import Idealize.ShloMosaic.Lib.VecWindow

@[expose] public section

set_option maxRecDepth 8192

noncomputable section

namespace Cert.Kernel33Ideal.Blocks

open Idealize.ShloMosaic Idealize.ShloMosaic.TcCoe Idealize.ShloMosaic.Tactic
open Idealize.SL.Sem
open Cert.Kernel33Ideal Cert.Kernel33Ideal.Gen Cert.Spec Cert.RefValue
open Cert.KernelIdeal.Blocks (row rowIx readAt_window off_iv off_lit sge_iota)

/-- The running largest score after a block of scores. -/
def top (s : FVec Ideal S1024x1024 .f32) (m : FVec Ideal S1024x1 .f32) : FVec Ideal S1024x1 .f32 :=
  maximumf m (shapeCast S1024x1 (multiReduction .maximumf [1] S1024 s 0xFF800000#32 reduces_S1024x1024_S1024 (.inl rfl) rfl) shapeCasts_S1024_S1024x1)

/-- The exponentials of a block of scores. -/
def wts (s : FVec Ideal S1024x1024 .f32) (m : FVec Ideal S1024x1 .f32) : FVec Ideal S1024x1024 .f32 :=
  exp (subf s (broadcastTo S1024x1024 (top s m) broadcasts_S1024x1_S1024x1024))

/-- The factor of what was summed before. -/
def scale (s : FVec Ideal S1024x1024 .f32) (m : FVec Ideal S1024x1 .f32) : FVec Ideal S1024x1 .f32 := exp (subf m (top s m))

/-- The running sum after a block. -/
def sums (s : FVec Ideal S1024x1024 .f32) (m l : FVec Ideal S1024x1 .f32) : FVec Ideal S1024x1 .f32 :=
  shapeCast S1024x1 (addf (mulf (scale s m) l)
    (shapeCast S1024x1 (multiReduction .add [1] S1024 (wts s m) 0x00000000#32 reduces_S1024x1024_S1024 (.inl rfl) rfl) shapeCasts_S1024_S1024x1))
    shapeCasts_S1024x1_S1024x1

/-- The running weighted sum of values after a block. -/
def accs (s : FVec Ideal S1024x1024 .f32) (m : FVec Ideal S1024x1 .f32) (y : FVec Ideal S1024x64 .f32) (vb : FVec Ideal S1x1024x64 .bf16) :
    FVec Ideal S1024x64 .f32 :=
  shapeCast S1024x64 (addf (mulf (broadcastTo S1024x64 (scale s m) broadcasts_S1024x1_S1024x64) y)
    (matmul dot_S1024x1024_S1024x64_S1024x64_1_0_0_1_n_n none (truncf .bf16 (wts s m) bitsLt_bf16_f32)
      (shapeCast S1024x64 vb shapeCasts_S1x1024x64_S1024x64) (constant S1024x64 .f32 0x00000000#32))) shapeCasts_S1024x64_S1024x64

section
variable (s : FVec Ideal S1024x1024 .f32) (m l : FVec Ideal S1024x1 .f32) (y : FVec Ideal S1024x64 .f32) (vb : FVec Ideal S1x1024x64 .bf16)

theorem top_apply (r : Fin 1024) :
    top s m (ix2 r 0) = max (m (ix2 r 0) : EReal) ((Finset.univ : Finset (Fin 1024)).fold max ⊥ fun c => s (ix2 r c)) := by
  pointwise [top]
  rw [ofBits_bot]

theorem wts_apply (r c : Fin 1024) : wts s m (ix2 r c) = Ideal.exp ((s (ix2 r c) : EReal) - top s m (ix2 r 0)) := by
  pointwise [wts]

theorem sums_apply (r : Fin 1024) :
    sums s m l (ix2 r 0) = Ideal.exp ((m (ix2 r 0) : EReal) - top s m (ix2 r 0)) * l (ix2 r 0) + ∑ c, Ideal.exp ((s (ix2 r c) : EReal) - top s m (ix2 r 0)) := by
  have h := wts_apply s m
  pointwise [sums, scale]
  simp only [h]

theorem accs_apply (r : Fin 1024) (d : Fin 64) :
    accs s m y vb (ix2 r d) = Ideal.exp ((m (ix2 r 0) : EReal) - top s m (ix2 r 0)) * y (ix2 r d)
      + ∑ c, Ideal.exp ((s (ix2 r c) : EReal) - top s m (ix2 r 0)) * vb (ix3 0 c d) := by
  have h := wts_apply s m
  pointwise [accs, scale]
  simp only [h]
end

/-- The running largest score as it is stored. -/
def mx (s : FVec Ideal S1024x1024 .f32) (m : FVec Ideal S1024x1 .f32) : FVec Ideal S1024x1 .f32 :=
  shapeCast S1024x1 (top s m) shapeCasts_S1024x1_S1024x1

theorem mx_apply (s : FVec Ideal S1024x1024 .f32) (m : FVec Ideal S1024x1 .f32) (r : Fin 1024) : mx s m (ix2 r 0) = top s m (ix2 r 0) := by
  pointwise [mx]

variable (H : Head)

/-- What the three accumulators hold when the first `b` blocks of keys have been met by block `a` of the queries. -/
def State (a b : ℕ) (y9 y10 : FVec Ideal S1024x1 .f32) (y11 : FVec Ideal S1024x64 .f32) : Prop :=
  ∀ r : Fin 1024, H.Upto (row a r) b (y9 (ix2 r 0)) (y10 (ix2 r 0)) fun d => y11 (ix2 r d)

variable {H}

/-- One more block of masked scores. -/
theorem State.step {a b : ℕ} (hba : b ≤ a) {y9 y10 : FVec Ideal S1024x1 .f32} {y11 : FVec Ideal S1024x64 .f32} (h : State H a b y9 y10 y11)
    {s : FVec Ideal S1024x1024 .f32} {vb : FVec Ideal S1x1024x64 .bf16}
    (hs : ∀ r c, s (ix2 r c) = if row b c ≤ row a r then (H.S (row a r) (row b c) : EReal) else ⊥)
    (hv : ∀ c d, vb (ix3 0 c d) = (H.v (row b c) d : EReal)) : State H a (b + 1) (mx s y9) (sums s y9 y10) (accs s y9 y11 vb) := by
  intro r
  have hb : 1024 * b ≤ row a r := by simp only [row]; have := Nat.mul_le_mul_left 1024 hba; omega
  have t := Head.Upto.step H (s := fun c => s (ix2 r c)) hb (h r) (hs r) (top_apply s y9 r)
  rw [mx_apply, sums_apply, show (fun d => accs s y9 y11 vb (ix2 r d)) = _ from funext fun d => accs_apply s y9 y11 vb r d]
  simp only [hv]
  exact t

variable (H)

/-- What the blocks of queries read are the rows of block `a` of the head. -/
structure Query (a : ℕ) (x0 : Vec Ideal S1x1024x64 .bf16) (x3 : Vec Ideal S1x1024x1 .f32) : Prop where
  q : ∀ r d, x0 (ix3 0 r d) = (H.q (row a r) d : EReal)
  c : ∀ r, x3 (ix3 0 r 0) = (H.cc (row a r) : EReal)

/-- What the body reads of the keys, over all their rows. -/
structure Keys (xk xv : Vec Ideal S1x4096x64 .bf16) (xr : Vec Ideal S1x1x4096 .f32) : Prop where
  k : ∀ (j : Fin 4096) d, xk (ix3 0 j d) = (H.k j.val d : EReal)
  v : ∀ (j : Fin 4096) d, xv (ix3 0 j d) = (H.v j.val d : EReal)
  r : ∀ j : Fin 4096, xr (ix3 0 0 j) = (H.cr j.val : EReal)

variable {H}

section
variable {a b : ℕ} {x0 kb : Vec Ideal S1x1024x64 .bf16} {x3 : Vec Ideal S1x1024x1 .f32} {rb : Vec Ideal S1x1x1024 .f32} (hQ : Query H a x0 x3)
  (hk : ∀ c d, kb (ix3 0 c d) = (H.k (row b c) d : EReal)) (hr : ∀ c, rb (ix3 0 0 c) = (H.cr (row b c) : EReal))
include hQ hk hr

/-- The scores of a block below the diagonal. -/
theorem score_apply (hba : b < a) (r c : Fin 1024) : k0_pay5 (F := Ideal) (k0_pay24 x0) (k0_pay25 x3) kb rb (ix2 r c)
    = if row b c ≤ row a r then (H.S (row a r) (row b c) : EReal) else ⊥ := by
  rw [if_pos (by have := r.isLt; have := c.isLt; simp only [row]; omega)]
  pointwise [k0_pay5, k0_pay24, k0_pay25]
  simp only [hQ.q, hQ.c, hk, hr, ← EReal.coe_mul, ← coe_sum, ← EReal.coe_add, ← EReal.coe_sub]
  rw [add_sub_assoc]; rfl

/-- The masked scores of the block on the diagonal. -/
theorem score_diag (hba : b = a) (r c : Fin 1024) : k0_pay31 (F := Ideal) (k0_pay24 x0) (k0_pay25 x3) (k0_pay30 kb) rb (ix2 r c)
    = if row b c ≤ row a r then (H.S (row a r) (row b c) : EReal) else ⊥ := by
  subst hba
  pointwise [k0_pay31, k0_pay24, k0_pay25, k0_pay30]
  rw [sge_iota, show (Named.named κ "mask" 0xF149F2CA#32 : Ideal .f32) = (⊥ : EReal) from rfl]
  by_cases hc : c.val ≤ r.val
  · rw [decide_eq_true hc, if_pos (Nat.add_le_add_left hc _), show ∀ a b : EReal, Scalar.select (BitVec.ofBool true) a b = a from fun _ _ => rfl]
    simp only [hQ.q, hQ.c, hk, hr, ← EReal.coe_mul, ← coe_sum, ← EReal.coe_add, ← EReal.coe_sub]
    rw [add_sub_assoc]; rfl
  · rw [decide_eq_false hc, if_neg (by simp only [row]; omega), show ∀ a b : EReal, Scalar.select (BitVec.ofBool false) a b = b from fun _ _ => rfl]
end

/-- The first loop makes one trip for each block of keys below the diagonal. -/
theorem trips_eq (i : grid0.Coords) : (k0_t1_loop i).trips = (i 1).val := Cert.KernelIdeal.Blocks.trips_eq i

/-- The second loop makes none. -/
theorem trips2_eq (i : grid0.Coords) : (k0_t2_loop i).trips = 0 := Cert.KernelIdeal.Blocks.trips2_eq i

section
variable (𝒱 : Variants) (c : Dev nD) (bd : Option 𝒱.V) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x64 .f32) (harg11 : arg11.IsWhole) (x0 : Vec Ideal S1x1024x64 .bf16) (x3 : Vec Ideal S1x1024x1 .f32) (X_arg3 : BufTy.Contents (Elt Ideal) arg3.view.ty) (X_arg4 : BufTy.Contents (Elt Ideal) arg4.view.ty) (X_arg6 : BufTy.Contents (Elt Ideal) arg6.view.ty)
  (f9 : BufTy.Contents (Elt Ideal) arg9.view.ty) (f10 : BufTy.Contents (Elt Ideal) arg10.view.ty) (f11 : BufTy.Contents (Elt Ideal) arg11.view.ty)

/-- One trip: block `k` of the keys is met. -/
theorem trip_state (k : Fin (k0_t1_loop i).trips) (hQ : Query H (i 1).val x0 x3)
    (hK : Keys H (arg3.view.read (Elt Ideal) X_arg3) (arg4.view.read (Elt Ideal) X_arg4) (arg6.view.read (Elt Ideal) X_arg6))
    (h : State H (i 1).val k.val (arg9.view.read (Elt Ideal) f9) (arg10.view.read (Elt Ideal) f10) (arg11.view.read (Elt Ideal) f11)) :
    let L := tripL_k0_t1 (F := Ideal) 𝒱 c bd i arg2 harg2 arg3 harg3 arg4 harg4 arg5 harg5 arg6 harg6 arg7 harg7 arg8 harg8 arg9 harg9 arg10 harg10 arg11 harg11 x0 x3 X_arg3 X_arg4 X_arg6 k f9 f10 f11
    State H (i 1).val (k.val + 1) (arg9.view.read (Elt Ideal) (arg9.view.writes (Elt Ideal) f9 L.1))
      (arg10.view.read (Elt Ideal) (arg10.view.writes (Elt Ideal) f10 L.2.1)) (arg11.view.read (Elt Ideal) (arg11.view.writes (Elt Ideal) f11 L.2.2)) := by
  have hka : k.val < (i 1).val := lt_of_lt_of_eq k.isLt (trips_eq i)
  have h4 : (i 1).val < 4 := (i 1).isLt
  have hb : k.val < 4 := by omega
  have o1 : k0_off1 i k = ![0, 1024 * k.val, 0] := by rw [← off_iv hb]; rfl
  have o2 : k0_off2 i k = ![0, 0, 1024 * k.val] := by rw [← off_iv hb]; rfl
  have r9 : View.readAt (Elt Ideal) arg9.view (Rect.unit (s := S1024x1) ![0, 0] S1024x1.size inb_S1024x1_S1024x1_0_0).toLoadRect f9 = arg9.view.read (Elt Ideal) f9 :=
    View.readAt_full _ _ _
  have r10 : View.readAt (Elt Ideal) arg10.view (Rect.unit (s := S1024x1) ![0, 0] S1024x1.size inb_S1024x1_S1024x1_0_0).toLoadRect f10 = arg10.view.read (Elt Ideal) f10 :=
    View.readAt_full _ _ _
  have r11 : View.readAt (Elt Ideal) arg11.view (Rect.unit (s := S1024x64) ![0, 0] S1024x64.size inb_S1024x64_S1024x64_0_0).toLoadRect f11 = arg11.view.read (Elt Ideal) f11 :=
    View.readAt_full _ _ _
  unfold tripL_k0_t1 trip_k0_t1
  intro L
  subst L
  dsimp only
  have t := h.step hka.le
    (score_apply (x0 := x0) (x3 := x3) (b := k.val)
      (kb := View.readAt (Elt Ideal) arg3.view (Rect.unit (s := S1x4096x64) (k0_off1 i k) S1x1024x64.size (k0_off1_inb i k)).toLoadRect X_arg3)
      (rb := View.readAt (Elt Ideal) arg6.view (Rect.unit (s := S1x1x4096) (k0_off2 i k) S1x1x1024.size (k0_off2_inb i k)).toLoadRect X_arg6) hQ
      (fun c d => (readAt_window (s := S1x4096x64) _ _ (k0_off1_inb i k) (ix3 0 c d) (ix3 0 (rowIx hb c) d) o1 (by intro x; fin_cases x <;> simp [row])).trans (hK.k _ d))
      (fun c => (readAt_window (s := S1x1x4096) _ _ (k0_off2_inb i k) (ix3 0 0 c) (ix3 0 0 (rowIx hb c)) o2 (by intro x; fin_cases x <;> simp [row])).trans (hK.r _)) hka)
    (vb := View.readAt (Elt Ideal) arg4.view (Rect.unit (s := S1x4096x64) (k0_off1 i k) S1x1024x64.size (k0_off1_inb i k)).toLoadRect X_arg4)
    (fun c d => (readAt_window (s := S1x4096x64) _ _ (k0_off1_inb i k) (ix3 0 c d) (ix3 0 (rowIx hb c) d) o1 (by intro x; fin_cases x <;> simp [row])).trans (hK.v _ d))
  rw [← r9, ← r10, ← r11] at t
  have e9 := View.read_writes_full (Val := Elt Ideal) arg9.view f9 inb_S1024x1_S1024x1_0_0
  have e10 := View.read_writes_full (Val := Elt Ideal) arg10.view f10 inb_S1024x1_S1024x1_0_0
  have e11 := View.read_writes_full (Val := Elt Ideal) arg11.view f11 inb_S1024x64_S1024x64_0_0
  rw [e9, e10, e11]
  exact t

/-- The first `n` trips: the first `n` blocks of the keys are met. -/
theorem loop_state (hQ : Query H (i 1).val x0 x3)
    (hK : Keys H (arg3.view.read (Elt Ideal) X_arg3) (arg4.view.read (Elt Ideal) X_arg4) (arg6.view.read (Elt Ideal) X_arg6))
    (h : State H (i 1).val 0 (arg9.view.read (Elt Ideal) f9) (arg10.view.read (Elt Ideal) f10) (arg11.view.read (Elt Ideal) f11))
    (n : ℕ) (hn : n ≤ (k0_t1_loop i).trips) :
    let L := pb_k0_t1 (F := Ideal) 𝒱 c bd i arg2 harg2 arg3 harg3 arg4 harg4 arg5 harg5 arg6 harg6 arg7 harg7 arg8 harg8 arg9 harg9 arg10 harg10 arg11 harg11 x0 x3 X_arg3 X_arg4 X_arg6 f9 f10 f11 n
    State H (i 1).val n (arg9.view.read (Elt Ideal) (arg9.view.writes (Elt Ideal) f9 L.1))
      (arg10.view.read (Elt Ideal) (arg10.view.writes (Elt Ideal) f10 L.2.1)) (arg11.view.read (Elt Ideal) (arg11.view.writes (Elt Ideal) f11 L.2.2)) := by
  induction n with
  | zero => exact h
  | succ n ih =>
    have e := pb_k0_t1_succ (F := Ideal) 𝒱 c bd i arg2 harg2 arg3 harg3 arg4 harg4 arg5 harg5 arg6 harg6 arg7 harg7 arg8 harg8 arg9 harg9 arg10 harg10 arg11 harg11 x0 x3 X_arg3 X_arg4 X_arg6 f9 f10 f11 ⟨n, hn⟩
    have t := trip_state 𝒱 c bd i arg2 harg2 arg3 harg3 arg4 harg4 arg5 harg5 arg6 harg6 arg7 harg7 arg8 harg8 arg9 harg9 arg10 harg10 arg11 harg11 x0 x3 X_arg3 X_arg4 X_arg6 _ _ _ ⟨n, hn⟩ hQ hK (ih (Nat.le_of_lt hn))
    intro L
    have eL : L = _ := e
    rw [eL]
    simp only [View.writes_append]
    exact t

/-- The block on the diagonal is met. -/
theorem diag_state (hQ : Query H (i 1).val x0 x3)
    (hK : Keys H (arg3.view.read (Elt Ideal) X_arg3) (arg4.view.read (Elt Ideal) X_arg4) (arg6.view.read (Elt Ideal) X_arg6))
    {y9 y10 : FVec Ideal S1024x1 .f32} {y11 : FVec Ideal S1024x64 .f32} (h : State H (i 1).val (i 1).val y9 y10 y11) :
    let s := k0_pay31 (F := Ideal) (k0_pay24 x0) (k0_pay25 x3)
      (k0_pay30 (View.readAt (Elt Ideal) arg3.view (Rect.unit (s := S1x4096x64) (k0_off5 i) S1x1024x64.size (k0_off5_inb i)).toLoadRect X_arg3))
      (View.readAt (Elt Ideal) arg6.view (Rect.unit (s := S1x1x4096) (k0_off6 i) S1x1x1024.size (k0_off6_inb i)).toLoadRect X_arg6)
    State H (i 1).val ((i 1).val + 1) (mx s y9) (sums s y9 y10)
      (accs s y9 y11 (View.readAt (Elt Ideal) arg4.view (Rect.unit (s := S1x4096x64) (k0_off5 i) S1x1024x64.size (k0_off5_inb i)).toLoadRect X_arg4)) := by
  have hb : (i 1).val < 4 := (i 1).isLt
  have o1 : k0_off5 i = ![0, 1024 * (i 1).val, 0] := by rw [← off_lit hb]; rfl
  have o2 : k0_off6 i = ![0, 0, 1024 * (i 1).val] := by rw [← off_lit hb]; rfl
  intro s
  refine h.step le_rfl (score_diag hQ
      (fun c d => (readAt_window (s := S1x4096x64) _ _ (k0_off5_inb i) (ix3 0 c d) (ix3 0 (rowIx hb c) d) o1 (by intro x; fin_cases x <;> simp [row])).trans (hK.k _ d))
      (fun c => (readAt_window (s := S1x1x4096) _ _ (k0_off6_inb i) (ix3 0 0 c) (ix3 0 0 (rowIx hb c)) o2 (by intro x; fin_cases x <;> simp [row])).trans (hK.r _)) rfl)
    (fun c d => (readAt_window (s := S1x4096x64) _ _ (k0_off5_inb i) (ix3 0 c d) (ix3 0 (rowIx hb c) d) o1 (by intro x; fin_cases x <;> simp [row])).trans (hK.v _ d))

/-- The second loop's pieces before its first trip, and so all of them: none. -/
theorem loop2_nil (v20 : BitVec 32) :
    pb_k0_t2 (F := Ideal) 𝒱 c bd i arg2 harg2 arg3 harg3 arg4 harg4 arg5 harg5 arg6 harg6 arg7 harg7 arg8 harg8 arg9 harg9 arg10 harg10 arg11 harg11 x0 x3 v20 X_arg3 X_arg4 X_arg6 f9 f10 f11
      (Scf.trips (Scalar.addi 0#32 (Scalar.muli (Scalar.divsi (Scalar.subi (BitVec.ofNat 32 (i 1).val) 0#32) 1#32) 1#32))
        (Scalar.addi 0#32 (Scalar.subi (BitVec.ofNat 32 (i 1).val) 0#32)) 1#32) = ([], [], []) := by
  rw [show Scf.trips (Scalar.addi 0#32 (Scalar.muli (Scalar.divsi (Scalar.subi (BitVec.ofNat 32 (i 1).val) 0#32) 1#32) 1#32))
        (Scalar.addi 0#32 (Scalar.subi (BitVec.ofNat 32 (i 1).val) 0#32)) 1#32 = 0 from trips2_eq i]
  rfl

end

end Cert.Kernel33Ideal.Blocks
-- ==== Proof.ForwardPoint.lean ====
/- THE POINTS OF THE GRID of the attention's forward call: what a point leaves in the two outputs' blocks. -/
module

public import proofs.«01_k».proof.Proof.ForwardBlocks
public import proofs.«01_k».proof.Proof.Gen.Kernel33Ideal.Frame

@[expose] public section

set_option maxRecDepth 8192

noncomputable section

namespace Cert.Kernel33Ideal.Blocks

open Idealize.ShloMosaic Idealize.ShloMosaic.TcCoe Idealize.ShloMosaic.Tactic
open Idealize.SL.Sem
open Cert.Kernel33Ideal Cert.Kernel33Ideal.Gen Cert.Spec
open Cert.KernelIdeal.Blocks (row)

/-- A load of a whole buffer held at `X` reads `X`. -/
theorem readAt_unread {s : Shape} {e : EltTy} (arg : Memref sig .tc .vmem s e) (h : arg.IsWhole) (X : s.Idx → Elt Ideal e)
    {off : Fin s.rank → ℕ} (inb : ∀ a, off a + s.size a ≤ s.size a) :
    View.readAt (Elt Ideal) arg.view (Rect.unit off s.size inb).toLoadRect (h.unread X) = X :=
  (View.readAt_full _ _ _).trans (h.read_unread X)

/-- The output is the weighted values over the sum of the weights. -/
theorem pay3_apply (v72 : Vec Ideal S1024x64 .f32) (v73 : Vec Ideal S1024x1 .f32) (r : Fin 1024) (d : Fin 64) :
    k0_pay3 v72 v73 (ix3 0 r d) = Ideal.div (v72 (ix2 r d)) (v73 (ix2 r 0)) := by
  pointwise [k0_pay3]

/-- The normaliser's logarithm is the largest score plus the logarithm of the sum of the weights. -/
theorem pay4_apply (v79 : Vec Ideal S1024x1 .f32) (v80 : Vec Ideal S1024x1 .f32) (r : Fin 1024) :
    k0_pay4 v79 v80 (ix3 0 r 0) = v79 (ix2 r 0) + Ideal.log (v80 (ix2 r 0)) := by
  pointwise [k0_pay4]

/-- The largest score starts at minus infinity. -/
theorem pay21_apply (r : Fin 1024) : (k0_pay21 (F := Ideal)) (ix2 r 0) = (⊥ : EReal) := by
  pointwise [k0_pay21]
  rfl

/-- The sum of the weights starts at nothing. -/
theorem pay22_apply (r : Fin 1024) : (k0_pay22 (F := Ideal)) (ix2 r 0) = (0 : EReal) := by
  pointwise [k0_pay22]

/-- The weighted values start at nothing. -/
theorem pay23_apply (r : Fin 1024) (d : Fin 64) : (k0_pay23 (F := Ideal)) (ix2 r d) = (0 : EReal) := by
  pointwise [k0_pay23]

variable (c : Dev nD) (i : grid0.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x1024x1 .f32) (harg5 : arg5.IsWhole) (arg6 : Memref sig .tc .vmem S1x1x4096 .f32) (harg6 : arg6.IsWhole) (arg7 : Memref sig .tc .vmem S1x1024x64 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x64 .f32) (harg11 : arg11.IsWhole)
  (x0 : Vec Ideal S1x1024x64 .bf16) (x1 : Vec Ideal S1x4096x64 .bf16) (x2 : Vec Ideal S1x4096x64 .bf16) (x3 : Vec Ideal S1x1024x1 .f32) (x4 : Vec Ideal S1x1x4096 .f32) {H : Head}

/-- What the accumulators hold when the body's two loops and its block on the diagonal are done. -/
theorem done (hQ : Query H (i 1).val x0 x3) (hK : Keys H x1 x2 x4) :
    State H (i 1).val ((i 1).val + 1)
      (kernelRun0_A.sl.v79 c i arg2 harg2 arg3 harg3 arg4 harg4 arg5 harg5 arg6 harg6 arg7 harg7 arg8 harg8 arg9 harg9 arg10 harg10 arg11 harg11 x0 x1 x2 x3 x4)
      (kernelRun0_A.sl.v73 c i arg2 harg2 arg3 harg3 arg4 harg4 arg5 harg5 arg6 harg6 arg7 harg7 arg8 harg8 arg9 harg9 arg10 harg10 arg11 harg11 x0 x1 x2 x3 x4)
      (kernelRun0_A.sl.v72 c i arg2 harg2 arg3 harg3 arg4 harg4 arg5 harg5 arg6 harg6 arg7 harg7 arg8 harg8 arg9 harg9 arg10 harg10 arg11 harg11 x0 x1 x2 x3 x4) := by
  have hQ' : Query H (i 1).val (View.readAt (Elt Ideal) arg2.view (Rect.unit (s := S1x1024x64) ![0, 0, 0] S1x1024x64.size inb_S1x1024x64_S1x1024x64_0_0_0).toLoadRect (harg2.unread x0))
      (View.readAt (Elt Ideal) arg5.view (Rect.unit (s := S1x1024x1) ![0, 0, 0] S1x1024x1.size inb_S1x1024x1_S1x1024x1_0_0_0).toLoadRect (harg5.unread x3)) := by
    rw [readAt_unread, readAt_unread]; exact hQ
  have hK' : Keys H (arg3.view.read (Elt Ideal) (harg3.unread x1)) (arg4.view.read (Elt Ideal) (harg4.unread x2)) (arg6.view.read (Elt Ideal) (harg6.unread x4)) := by
    rw [harg3.read_unread, harg4.read_unread, harg6.read_unread]; exact hK
  have z9 : arg9.view.read (Elt Ideal) (arg9.view.writes (Elt Ideal) arg9.view.junk (kernelRun0_A.sl.HS0_1 (F := Ideal))) = k0_pay21 (F := Ideal) :=
    by unfold kernelRun0_A.sl.HS0_1; exact View.read_writes_full (Val := Elt Ideal) arg9.view arg9.view.junk inb_S1024x1_S1024x1_0_0 _ []
  have z10 : arg10.view.read (Elt Ideal) (arg10.view.writes (Elt Ideal) arg10.view.junk (kernelRun0_A.sl.HS1_1 (F := Ideal))) = k0_pay22 (F := Ideal) :=
    by unfold kernelRun0_A.sl.HS1_1; exact View.read_writes_full (Val := Elt Ideal) arg10.view arg10.view.junk inb_S1024x1_S1024x1_0_0 _ []
  have z11 : arg11.view.read (Elt Ideal) (arg11.view.writes (Elt Ideal) arg11.view.junk (kernelRun0_A.sl.HS2_1 (F := Ideal))) = k0_pay23 (F := Ideal) :=
    by unfold kernelRun0_A.sl.HS2_1; exact View.read_writes_full (Val := Elt Ideal) arg11.view arg11.view.junk inb_S1024x64_S1024x64_0_0 _ []
  have h0 : State H (i 1).val 0 (arg9.view.read (Elt Ideal) (arg9.view.writes (Elt Ideal) arg9.view.junk (kernelRun0_A.sl.HS0_1 (F := Ideal))))
      (arg10.view.read (Elt Ideal) (arg10.view.writes (Elt Ideal) arg10.view.junk (kernelRun0_A.sl.HS1_1 (F := Ideal))))
      (arg11.view.read (Elt Ideal) (arg11.view.writes (Elt Ideal) arg11.view.junk (kernelRun0_A.sl.HS2_1 (F := Ideal)))) := by
    intro r
    exact Or.inl ⟨rfl, (congrFun z9 _).trans (pay21_apply r), (congrFun z10 _).trans (pay22_apply r), fun d => (congrFun z11 _).trans (pay23_apply r d)⟩
  have L := loop_state Variants.none c none i arg2 harg2 arg3 harg3 arg4 harg4 arg5 harg5 arg6 harg6 arg7 harg7 arg8 harg8 arg9 harg9 arg10 harg10 arg11 harg11 _ _ (harg3.unread x1) (harg4.unread x2) (harg6.unread x4) (arg9.view.writes (Elt Ideal) arg9.view.junk (kernelRun0_A.sl.HS0_1 (F := Ideal))) (arg10.view.writes (Elt Ideal) arg10.view.junk (kernelRun0_A.sl.HS1_1 (F := Ideal))) (arg11.view.writes (Elt Ideal) arg11.view.junk (kernelRun0_A.sl.HS2_1 (F := Ideal))) hQ' hK' h0 _ le_rfl
  have D := diag_state i arg3 arg4 arg6 _ _ (harg3.unread x1) (harg4.unread x2) (harg6.unread x4) hQ' hK'
    (Eq.mp (congrArg (fun n => State H (i 1).val n _ _ _) (trips_eq i)) L)
  dsimp only at D
  clear L h0 z9 z10 z11
  unfold kernelRun0_A.sl.v79 kernelRun0_A.sl.v73 kernelRun0_A.sl.v72 kernelRun0_A.sl.HS0_1_1 kernelRun0_A.sl.HS1_1_1 kernelRun0_A.sl.HS2_1_1
    kernelRun0_A.sl.r_4 kernelRun0_A.sl.r_5 kernelRun0_A.sl.v39 kernelRun0_A.sl.v49 kernelRun0_A.sl.v57 kernelRun0_A.sl.r kernelRun0_A.sl.r_1 kernelRun0_A.sl.r_2 kernelRun0_A.sl.r_3
  rw [View.readCov_full, View.readCov_full, View.readCov_full]
  unfold k0_t1_loop k0_t2_loop
  dsimp only
  simp only [loop2_nil, List.nil_append]
  generalize pb_k0_t1 (F := Ideal) _ _ _ _ _ _ _ _ _ _ _ _ _ _ _ _ _ _ _ _ _ _ _ _ _ _ _ _ _ _ _ _ _ = L at D ⊢
  rw [← View.writes_append, ← View.writes_append, ← View.writes_append] at D
  have r9 : arg9.view.readCov (L.1 ++ kernelRun0_A.sl.HS0_1 (F := Ideal)) (Rect.unit (s := S1024x1) ![0, 0] S1024x1.size inb_S1024x1_S1024x1_0_0).toLoadRect
      = arg9.view.read (Elt Ideal) (arg9.view.writes (Elt Ideal) arg9.view.junk (L.1 ++ kernelRun0_A.sl.HS0_1 (F := Ideal))) := View.readAt_full _ _ _
  have r10 : arg10.view.readCov (L.2.1 ++ kernelRun0_A.sl.HS1_1 (F := Ideal)) (Rect.unit (s := S1024x1) ![0, 0] S1024x1.size inb_S1024x1_S1024x1_0_0).toLoadRect
      = arg10.view.read (Elt Ideal) (arg10.view.writes (Elt Ideal) arg10.view.junk (L.2.1 ++ kernelRun0_A.sl.HS1_1 (F := Ideal))) := View.readAt_full _ _ _
  have r11 : arg11.view.readCov (L.2.2 ++ kernelRun0_A.sl.HS2_1 (F := Ideal)) (Rect.unit (s := S1024x64) ![0, 0] S1024x64.size inb_S1024x64_S1024x64_0_0).toLoadRect
      = arg11.view.read (Elt Ideal) (arg11.view.writes (Elt Ideal) arg11.view.junk (L.2.2 ++ kernelRun0_A.sl.HS2_1 (F := Ideal))) := View.readAt_full _ _ _
  rw [← r9, ← r10, ← r11] at D
  generalize View.readCov (Val := Elt Ideal) arg9.view _ _ = y9 at D ⊢
  generalize View.readCov (Val := Elt Ideal) arg10.view _ _ = y10 at D ⊢
  generalize View.readCov (Val := Elt Ideal) arg11.view _ _ = y11 at D ⊢
  clear r9 r10 r11
  generalize View.readAt (Elt Ideal) arg2.view _ _ = z2 at D ⊢
  generalize View.readAt (Elt Ideal) arg5.view _ _ = z5 at D ⊢
  generalize View.readAt (Elt Ideal) arg3.view _ _ = z3 at D ⊢
  generalize View.readAt (Elt Ideal) arg6.view _ _ = z6 at D ⊢
  generalize View.readAt (Elt Ideal) arg4.view _ _ = z4 at D ⊢
  clear hQ' hK'
  have e9 : k0_pay2 (F := Ideal) (k0_pay32 (k0_pay24 z2) (k0_pay25 z5) (k0_pay30 z3) z6 y9) = mx (k0_pay31 (k0_pay24 z2) (k0_pay25 z5) (k0_pay30 z3) z6) y9 := rfl
  have e10 : k0_pay35 (F := Ideal) (k0_pay24 z2) (k0_pay25 z5) (k0_pay30 z3) z6 y9 y9 y10 = sums (k0_pay31 (k0_pay24 z2) (k0_pay25 z5) (k0_pay30 z3) z6) y9 y10 := rfl
  have e11 : k0_pay1 (F := Ideal) (k0_pay36 (k0_pay24 z2) (k0_pay25 z5) (k0_pay30 z3) z6 y9 y9 y11 z4) = accs (k0_pay31 (k0_pay24 z2) (k0_pay25 z5) (k0_pay30 z3) z6) y9 y11 z4 := rfl
  rw [e9, e10, e11]
  exact D

end Cert.Kernel33Ideal.Blocks
-- ==== Proof.ForwardArrays.lean ====
/- THE ATTENTION'S FORWARD CALL: program 33. What its two arrays hold when it has run, and that they are the reference's. -/
module

public import proofs.«01_k».proof.Defs
public import proofs.«01_k».proof.Proof.ForwardPoint
public import proofs.«01_k».proof.Proof.Finite
public import proofs.«01_k».proof.Proof.Gen.Kernel33
public import proofs.«01_k».proof.Proof.Gen.Kernel33Ideal.Value
public import proofs.«01_k».proof.Proof.Gen.Reference33Ideal.Read

@[expose] public section

set_option maxRecDepth 8192

noncomputable section

namespace Cert.Kernel33Ideal.Blocks

open Idealize.ShloMosaic Idealize.ShloMosaic.TcCoe
open Idealize.SL.Sem
open Cert.Kernel33Ideal Cert.Kernel33Ideal.Gen Cert.Kernel33Ideal.Value Cert.Spec
open Cert.KernelIdeal.Blocks (row idx_ext)
open Cert.KernelIdeal.Finite (headOf ix_rows ix_col ix_row real_of_abs_lt)

/-- The block of queries a window of queries reads or writes at a point, and the point's place in the grid. -/
theorem idx_q : ∀ t : Fin cfg0.N,
    (win0_0.index t (0 : Fin 3) = t.val / 4 ∧ win0_0.index t (1 : Fin 3) = t.val % 4 ∧ win0_0.index t (2 : Fin 3) = 0)
    ∧ (win0_3.index t (0 : Fin 3) = t.val / 4 ∧ win0_3.index t (1 : Fin 3) = t.val % 4 ∧ win0_3.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (grid0.coords t 1).val = t.val % 4 :=
  (by decide +kernel : ∀ t : Fin grid0.N, _)

/-- The block of keys a window of keys reads at a point. -/
theorem idx_k : ∀ t : Fin cfg0.N,
    (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_4.index t (0 : Fin 3) = t.val / 4 ∧ win0_4.index t (1 : Fin 3) = 0 ∧ win0_4.index t (2 : Fin 3) = 0) :=
  (by decide +kernel : ∀ t : Fin grid0.N, _)

variable (m : (ℓ : Loc nD τ sig) → Buf (Elt Ideal) ℓ) (c : Dev nD)

theorem head_lt (t : Fin cfg0.N) : t.val / 4 < 16 := by have h : t.val < 64 := t.isLt; omega
theorem row_lt_all (t : Fin cfg0.N) (r : Fin 1024) : row (t.val % 4) r < 4096 := by
  have := r.isLt; simp only [row]; omega

/-- The arrays of the heads: what each of the five arguments holds. -/
structure Held (H : ℕ → Head) : Prop where
  q : ∀ i : S16x4096x64.Idx, m ((c : Thread nD τ).loc main_arg0) i = ((H (i 0).val).q (i 1).val (i 2) : EReal)
  k : ∀ i : S16x4096x64.Idx, m ((c : Thread nD τ).loc main_arg1) i = ((H (i 0).val).k (i 1).val (i 2) : EReal)
  v : ∀ i : S16x4096x64.Idx, m ((c : Thread nD τ).loc main_arg2) i = ((H (i 0).val).v (i 1).val (i 2) : EReal)
  cc : ∀ i : S16x4096x1.Idx, m ((c : Thread nD τ).loc main_arg3) i = ((H (i 0).val).cc (i 1).val : EReal)
  cr : ∀ i : S16x1x4096.Idx, m ((c : Thread nD τ).loc main_arg4) i = ((H (i 0).val).cr (i 2).val : EReal)

variable {m c} {H : ℕ → Head} (R : Held m c H)
include R

/-- The blocks of queries of a point are rows of its head. -/
theorem query (t : Fin cfg0.N) : Query (H (t.val / 4)) (t.val % 4) (iblk m c 0 t) (iblk m c 3 t) where
  q r d := by
    obtain ⟨e0, e1, e2⟩ := (idx_q t).1
    refine Eq.trans ?_ (R.q (ix3 ⟨t.val / 4, head_lt t⟩ ⟨row (t.val % 4) r, row_lt_all t r⟩ d))
    refine Eq.trans ?_ (congrFun (V_main_arg0 m c) _)
    unfold iblk
    generalize V m c = W
    show W main_arg0 (((cfg0.win 0).blk t).view.emb (ix3 0 r d)) = _
    refine congrArg (W main_arg0) (idx_ext ?_ ?_ ?_)
    · show win0_0.index t (0 : Fin 3) * 1 + 1 * 0 = t.val / 4; omega
    · show win0_0.index t (1 : Fin 3) * 1024 + 1 * r.val = 1024 * (t.val % 4) + r.val; omega
    · show win0_0.index t (2 : Fin 3) * 64 + 1 * d.val = d.val; omega
  c r := by
    obtain ⟨e0, e1, e2⟩ := (idx_q t).2.1
    refine Eq.trans ?_ (R.cc (ix3 ⟨t.val / 4, head_lt t⟩ ⟨row (t.val % 4) r, row_lt_all t r⟩ 0))
    refine Eq.trans ?_ (congrFun (V_main_arg3 m c) _)
    unfold iblk
    generalize V m c = W
    show W main_arg3 (((cfg0.win 3).blk t).view.emb (ix3 0 r 0)) = _
    refine congrArg (W main_arg3) (idx_ext ?_ ?_ ?_)
    · show win0_3.index t (0 : Fin 3) * 1 + 1 * 0 = t.val / 4; omega
    · show win0_3.index t (1 : Fin 3) * 1024 + 1 * r.val = 1024 * (t.val % 4) + r.val; omega
    · show win0_3.index t (2 : Fin 3) * 1 + 1 * 0 = 0; omega

/-- The blocks of keys of a point are its head's. -/
theorem keys (t : Fin cfg0.N) : Keys (H (t.val / 4)) (iblk m c 1 t) (iblk m c 2 t) (iblk m c 4 t) where
  k j d := by
    obtain ⟨e0, e1, e2⟩ := (idx_k t).1
    refine Eq.trans ?_ (R.k (ix3 ⟨t.val / 4, head_lt t⟩ j d))
    refine Eq.trans ?_ (congrFun (V_main_arg1 m c) _)
    unfold iblk
    generalize V m c = W
    show W main_arg1 (((cfg0.win 1).blk t).view.emb (ix3 0 j d)) = _
    refine congrArg (W main_arg1) (idx_ext ?_ ?_ ?_)
    · show win0_1.index t (0 : Fin 3) * 1 + 1 * 0 = t.val / 4; omega
    · show win0_1.index t (1 : Fin 3) * 4096 + 1 * j.val = j.val; omega
    · show win0_1.index t (2 : Fin 3) * 64 + 1 * d.val = d.val; omega
  v j d := by
    obtain ⟨e0, e1, e2⟩ := (idx_k t).2.1
    refine Eq.trans ?_ (R.v (ix3 ⟨t.val / 4, head_lt t⟩ j d))
    refine Eq.trans ?_ (congrFun (V_main_arg2 m c) _)
    unfold iblk
    generalize V m c = W
    show W main_arg2 (((cfg0.win 2).blk t).view.emb (ix3 0 j d)) = _
    refine congrArg (W main_arg2) (idx_ext ?_ ?_ ?_)
    · show win0_2.index t (0 : Fin 3) * 1 + 1 * 0 = t.val / 4; omega
    · show win0_2.index t (1 : Fin 3) * 4096 + 1 * j.val = j.val; omega
    · show win0_2.index t (2 : Fin 3) * 64 + 1 * d.val = d.val; omega
  r j := by
    obtain ⟨e0, e1, e2⟩ := (idx_k t).2.2
    refine Eq.trans ?_ (R.cr (ix3 ⟨t.val / 4, head_lt t⟩ 0 j))
    refine Eq.trans ?_ (congrFun (V_main_arg4 m c) _)
    unfold iblk
    generalize V m c = W
    show W main_arg4 (((cfg0.win 4).blk t).view.emb (ix3 0 0 j)) = _
    refine congrArg (W main_arg4) (idx_ext ?_ ?_ ?_)
    · show win0_4.index t (0 : Fin 3) * 1 + 1 * 0 = t.val / 4; omega
    · show win0_4.index t (1 : Fin 3) * 1 + 1 * 0 = 0; omega
    · show win0_4.index t (2 : Fin 3) * 4096 + 1 * j.val = j.val; omega

/-- What a point leaves in the two outputs' blocks: the attention's output and the logarithms of its normalisers, of the point's rows. -/
theorem left (t : Fin cfg0.N) :
    (∀ r d, (outsAt0 m c t).1 (ix3 0 r d) = ((H (t.val / 4)).o (row (t.val % 4) r) d : EReal))
    ∧ ∀ r, (outsAt0 m c t).2 (ix3 0 r 0) = (Real.log ((H (t.val / 4)).Z (row (t.val % 4) r)) : EReal) := by
  have e := (idx_q t).2.2.2.2
  have h4 : t.val % 4 < 4 := Nat.mod_lt _ (by decide)
  have hQ := query R t
  rw [← e] at hQ h4 ⊢
  have D := done c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) hQ (keys R t)
  have hr : ∀ r : Fin 1024, row (grid0.coords t 1).val r < 1024 * ((grid0.coords t 1).val + 1) := fun r => by
    have := r.isLt; simp only [row]; omega
  unfold outsAt0 out0_A_5 out0_A_6 kernelRun0_A
  dsimp only
  constructor
  · intro r d
    refine (congrFun (View.read_writes_full (Val := Elt Ideal) VO0_5 _ inb_S1x1024x64_S1x1024x64_0_0_0 _ []) (ix3 0 r d)).trans ?_
    exact (pay3_apply _ _ r d).trans (Head.Upto.out _ h4 (hr r) (D r) d)
  · intro r
    refine (congrFun (View.read_writes_full (Val := Elt Ideal) VO0_6 _ inb_S1x1024x1_S1x1024x1_0_0_0 _ []) (ix3 0 r 0)).trans ?_
    exact (pay4_apply _ _ r).trans (Head.Upto.lse _ h4 (hr r) (D r))

/-- The point that writes row `n` of head `h`. -/
def ptOf (h : Fin 16) (n : Fin 4096) : Fin cfg0.N := ⟨4 * h.val + n.val / 1024, by
  show _ < 64; have := h.isLt; have := n.isLt; omega⟩

/-- The output's array. -/
theorem out_apply (i : S16x4096x64.Idx) : (dats m 0 c).arrAt 5 cfg0.N i = ((H (i 0).val).o (i 1).val (i 2) : EReal) := by
  have h1 : (i 1).val < 4096 := (i 1).isLt
  set t := ptOf (i 0) (i 1) with ht
  have tv : t.val = 4 * (i 0).val + (i 1).val / 1024 := rfl
  obtain ⟨e0, e1, e2⟩ := (idx_q t).2.2.1
  have L := (left R t).1 ⟨(i 1).val % 1024, Nat.mod_lt _ (by decide)⟩ (i 2)
  rw [show row (t.val % 4) ⟨(i 1).val % 1024, Nat.mod_lt _ (by decide)⟩ = (i 1).val from by simp only [row]; omega,
    show t.val / 4 = (i 0).val from by omega] at L
  have B := congrFun ((blocks5 m c t (flush0_5 t)).trans (flushed5 m c t)) (ix3 0 ⟨(i 1).val % 1024, Nat.mod_lt _ (by decide)⟩ (i 2))
  refine Eq.trans ?_ (B.trans L)
  refine Eq.trans ?_ ((View.read_apply _ _).trans (cast_eq _ _)).symm
  refine congrArg _ (funext fun x => Fin.ext ?_)
  match x with
  | ⟨0, _⟩ => show (i 0).val = win0_5.index t (0 : Fin 3) * 1 + 1 * 0; omega
  | ⟨1, _⟩ => show (i 1).val = win0_5.index t (1 : Fin 3) * 1024 + 1 * ((i 1).val % 1024); omega
  | ⟨2, _⟩ => show (i 2).val = win0_5.index t (2 : Fin 3) * 64 + 1 * (i 2).val; omega

/-- The array of the normalisers' logarithms. -/
theorem lse_apply (i : S16x4096x1.Idx) : (dats m 0 c).arrAt 6 cfg0.N i = (Real.log ((H (i 0).val).Z (i 1).val) : EReal) := by
  have h1 : (i 1).val < 4096 := (i 1).isLt
  have h2 : (i 2).val < 1 := (i 2).isLt
  set t := ptOf (i 0) (i 1) with ht
  have tv : t.val = 4 * (i 0).val + (i 1).val / 1024 := rfl
  obtain ⟨e0, e1, e2⟩ := (idx_q t).2.2.2.1
  have L := (left R t).2 ⟨(i 1).val % 1024, Nat.mod_lt _ (by decide)⟩
  rw [show row (t.val % 4) ⟨(i 1).val % 1024, Nat.mod_lt _ (by decide)⟩ = (i 1).val from by simp only [row]; omega,
    show t.val / 4 = (i 0).val from by omega] at L
  have B := congrFun ((blocks6 m c t (flush0_6 t)).trans (flushed6 m c t)) (ix3 0 ⟨(i 1).val % 1024, Nat.mod_lt _ (by decide)⟩ 0)
  refine Eq.trans ?_ (B.trans L)
  refine Eq.trans ?_ ((View.read_apply _ _).trans (cast_eq _ _)).symm
  refine congrArg _ (funext fun x => Fin.ext ?_)
  match x with
  | ⟨0, _⟩ => show (i 0).val = win0_6.index t (0 : Fin 3) * 1 + 1 * 0; omega
  | ⟨1, _⟩ => show (i 1).val = win0_6.index t (1 : Fin 3) * 1024 + 1 * ((i 1).val % 1024); omega
  | ⟨2, _⟩ => show (i 2).val = win0_6.index t (2 : Fin 3) * 1 + 1 * 0; omega

end Cert.Kernel33Ideal.Blocks

namespace Cert.Kernel33Ideal.Claims

open Idealize.ShloMosaic Idealize.ShloMosaic.TcCoe
open Idealize.SL.Sem
open Cert.Kernel33Ideal Cert.Kernel33Ideal.Gen Cert.Kernel33Ideal.Value Cert.Kernel33Ideal.Blocks Cert.Spec
open Cert.KernelIdeal.Finite (headOf ix_rows ix_col ix_row real_of_abs_lt)

instance : Cert.Kernel33.Facts := Cert.Kernel33.Gen.facts
instance : Cert.Kernel33Ideal.Facts := Cert.Kernel33Ideal.Gen.facts
instance : Cert.Reference33Ideal.Facts := Cert.Reference33Ideal.Gen.facts

/-- The relations the precondition's operations take. -/
theorem finite_facts : Cert.Pre_finite_forward.Facts where
  bcast_S_S16x4096x64 := by decide
  bcast_S_S16x4096x1 := by decide
  bcast_S_S16x1x4096 := by decide

instance : Cert.Pre_finite_forward.Facts := finite_facts

/-- The heads of a device's five arguments, with no cotangent. -/
abbrev heads (m : (ℓ : Loc nD τ sig) → Buf (Elt Ideal) ℓ) (c : Dev nD) : ℕ → Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) fun _ => 0

/-- Where the precondition holds, the five arguments are the arrays of their heads. -/
theorem held (m : (ℓ : Loc nD τ sig) → Buf (Elt Ideal) ℓ) (h : Cert.Pre_Kernel33Ideal_finite_forward m) (c : Dev nD) : Held m c (heads m c) where
  q i := (real_of_abs_lt (congrFun (h c).1 i)).trans (congrArg (fun j => ((m ((c : Thread nD τ).loc main_arg0) j).toReal : EReal)) (ix_rows i).symm)
  k i := (real_of_abs_lt (congrFun (h c).2.1 i)).trans (congrArg (fun j => ((m ((c : Thread nD τ).loc main_arg1) j).toReal : EReal)) (ix_rows i).symm)
  v i := (real_of_abs_lt (congrFun (h c).2.2.1 i)).trans (congrArg (fun j => ((m ((c : Thread nD τ).loc main_arg2) j).toReal : EReal)) (ix_rows i).symm)
  cc i := (real_of_abs_lt (congrFun (h c).2.2.2.1 i)).trans (congrArg (fun j => ((m ((c : Thread nD τ).loc main_arg3) j).toReal : EReal)) (ix_col i).symm)
  cr i := (real_of_abs_lt (congrFun (h c).2.2.2.2 i)).trans (congrArg (fun j => ((m ((c : Thread nD τ).loc main_arg4) j).toReal : EReal)) (ix_row i).symm)

/-- Such arrays, with zeros for the cotangent, are arguments of the backward pass's reference too. -/
theorem args {m : (ℓ : Loc nD τ sig) → Buf (Elt Ideal) ℓ} {c : Dev nD} (R : Held m c (heads m c)) :
    Cert.RefValue.Args (heads m c) (m ((c : Thread nD τ).loc main_arg0)) (m ((c : Thread nD τ).loc main_arg1)) (m ((c : Thread nD τ).loc main_arg2))
      (m ((c : Thread nD τ).loc main_arg3)) (m ((c : Thread nD τ).loc main_arg4)) fun _ => (0 : EReal) where
  q := R.q
  k := R.k
  v := R.v
  cc := R.cc
  cr := R.cr
  g _ := rfl

section
open Cert.ReferenceIdeal.Read

variable (x0 x1 x2 : FVec Ideal Cert.ReferenceIdeal.S16x4096x64 .bf16) (x3 : FVec Ideal Cert.ReferenceIdeal.S16x4096x1 .f32)
  (x4 : FVec Ideal Cert.ReferenceIdeal.S16x1x4096 .f32)

/-- The reference's output is the output within the backward pass's reference. -/
theorem reference_out : Cert.Reference33Ideal.Read.val_main_v25 (F := Ideal) x0 x1 x2 x3 x4 = val_main_v44 (F := Ideal) x0 x1 x2 x3 x4 := by
  unfold val_main_v44 val_main_v40 val_main_v39 val_main_v38 val_main_v37 val_main_v36 val_main_v35 val_main_v34 val_main_v33
  rw [Cert.RefValue.v23_eq]
  rfl

/-- The reference's logarithms are the largest scores plus the logarithms of the sums within the backward pass's reference. -/
theorem reference_lse : Cert.Reference33Ideal.Read.val_main_v27 (F := Ideal) x0 x1 x3 x4
    = addf (F := Ideal) (s := Cert.ReferenceIdeal.S16x4096x1) (φ := .f32) (val_main_v33 (F := Ideal) x0 x1 x3 x4)
      (Host.log (F := Ideal) (s := Cert.ReferenceIdeal.S16x4096x1) (φ := .f32) (val_main_v38 (F := Ideal) x0 x1 x3 x4)) := by
  unfold val_main_v38 val_main_v37 val_main_v36 val_main_v35 val_main_v34 val_main_v33
  rw [Cert.RefValue.v23_eq]
  rfl
end

/-- The reference runs, leaves its arguments unchanged and ends with no signal pending. -/
theorem reference_frame : Cert.quiescent_Reference33Ideal := fun m ρ _ =>
  (θ_run Cert.Reference33Ideal.defs _ _).mono (fun r h => ⟨fun c => (h c).2.2, sem_eq_zero_of_no_sems (by decide) r.2⟩)
    (Cert.Reference33Ideal.Value.run (F := Ideal) m ρ)

/-- The attention's forward call and the reference end with equal results. -/
theorem algebraic : Cert.algebraic_Kernel33Ideal_Reference33Ideal_pre_finite_forward := by
  intro m g m' g' hpre hargs
  refine ⟨_, _, Cert.Kernel33Ideal.Value.run_blocks m g, ?_⟩
  refine (θ_run Cert.Reference33Ideal.defs _ _).mono (fun r h c => ?_) (Cert.Reference33Ideal.Value.run (F := Ideal) m' g')
  obtain ⟨ho, hl, hrest⟩ := h c
  obtain ⟨e0, e1, e2, e3, e4⟩ := hargs c
  have R := held m hpre c
  refine ⟨ho.trans ?_, hl.trans ?_, hrest⟩
  · rw [Cert.Reference33Ideal.Read.val_main_v25_eq, e0, e1, e2, e3, e4, reference_out]
    exact funext fun i => (Cert.RefValue.v44_apply (args R) i).trans (out_apply R i).symm
  · rw [Cert.Reference33Ideal.Read.val_main_v27_eq, e0, e1, e3, e4, reference_lse]
    exact funext fun i => (Cert.RefValue.lse_apply (args R) i).trans (lse_apply R i).symm

end Cert.Kernel33Ideal.Claims
-- ==== Proof.Gated.lean ====
/- THE GATED ACTIVATIONS AND A NORMALISATION, ROW BY ROW: programs 34, 35 and 36. Every number of the activations and of their gradients
   comes from the numbers at its own place; a normalised row comes from that row and the gain. -/
module

public import proofs.«01_k».proof.Defs
public import proofs.«01_k».proof.Proof.Tail
public import proofs.«01_k».proof.Proof.Gen.Kernel34
public import proofs.«01_k».proof.Proof.Gen.Kernel34Ideal.Value
public import proofs.«01_k».proof.Proof.Gen.Reference34Ideal.Read
public import proofs.«01_k».proof.Proof.Gen.Kernel35
public import proofs.«01_k».proof.Proof.Gen.Kernel35Ideal.Value
public import proofs.«01_k».proof.Proof.Gen.Reference35Ideal.Read
public import proofs.«01_k».proof.Proof.Gen.Kernel36
public import proofs.«01_k».proof.Proof.Gen.Kernel36Ideal.Value
public import proofs.«01_k».proof.Proof.Gen.Reference36Ideal.Read

@[expose] public section

set_option maxRecDepth 8192

noncomputable section

open Idealize.ShloMosaic Idealize.ShloMosaic.TcCoe
open Idealize.SL.Sem
open Cert.Kernel32Ideal.Tail (gate slope slope_back normal)

namespace Cert.Gated

/-- An activation, for the gate's argument `u` and the other branch's number `v`. -/
def active (u v : EReal) : EReal := u * gate u * v

/-- What comes back to the gate's argument, for the activation's gradient `d`. -/
def inner (u v d : EReal) : EReal := d * v * gate u + u * (d * v) * slope u

end Cert.Gated

/-! ## The gradients of the activations -/

namespace Cert.Kernel34Ideal.Gated

open Cert.Kernel34Ideal Cert.Kernel34Ideal.Gen Cert.Kernel34Ideal.Value Cert.Gated

instance : Cert.Kernel34.Facts := Cert.Kernel34.Gen.facts
instance : Cert.Kernel34Ideal.Facts := Cert.Kernel34Ideal.Gen.facts
instance : Cert.Reference34Ideal.Facts := Cert.Reference34Ideal.Gen.facts

variable (x0 x1 x2 : Vec Ideal S4096x5632 .f32) (i : S4096x5632.Idx)

/-- The call's first array, number by number. -/
theorem inner_apply : G3 (F := Ideal) x0 x1 x2 i = inner (x0 i) (x1 i) (x2 i) := by
  pointwise [G3]
  rw [zero_sub (x0 i), slope_back]
  rfl

/-- The call's second array, number by number. -/
theorem outer_apply : G4 (F := Ideal) x0 x2 i = active (x0 i) (x2 i) := by
  pointwise [G4]
  rw [zero_sub]
  rfl

open Cert.Reference34Ideal.Read

/-- The reference's first array, number by number. -/
theorem reference_inner : val_main_v5 (F := Ideal) x0 x1 x2 i = inner (x0 i) (x1 i) (x2 i) := by
  pointwise [val_main_v5, val_main_v4, val_main_call1_v2, val_main_call1_v1, val_main_call1_v0, val_main_v3, val_main_v0_1, val_main_call0_v7,
    val_main_call0_v6, val_main_call0_cst_1, val_main_v0_2, val_main_call0_v4, val_main_call0_cst_0, val_main_call0_v3, val_main_call0_v2,
    val_main_call0_cst, val_main_call0_v1, val_main_call0_v0]
  rfl

/-- The reference's second array, number by number. -/
theorem reference_outer : val_main_v6 (F := Ideal) x0 x2 i = active (x0 i) (x2 i) := by
  pointwise [val_main_v6, val_main_v2, val_main_v0_0, val_main_v0_2, val_main_call0_v4, val_main_call0_cst_0, val_main_call0_v3,
    val_main_call0_v2, val_main_call0_cst, val_main_call0_v1, val_main_call0_v0]
  rfl

/-- The call as printed and the call as idealized have the same text. -/
theorem body_eq : Cert.Kernel34.defs₀ (F := Bits) = defs₀ (F := Bits) :=
  congrArg Defs.onTc (funext fun l => funext fun x => match l, x with | 0, (_, _) => rfl)

/-- The call as printed runs to the end. -/
theorem frame_bits : Cert.quiescent_Kernel34 := fun m ρ _ => by
  have e : Cert.Kernel34.defs (F := Bits) = defs (F := Bits) := congrArg (Pipeline.defs pcfgs) body_eq
  rw [e]; exact Gen.frame (F := Bits) m ρ

/-- The reference runs to the end. -/
theorem frame_reference : Cert.quiescent_Reference34Ideal := fun m ρ _ =>
  (θ_run Cert.Reference34Ideal.defs _ _).mono
    (fun r h => ⟨fun c => (h c).2.2, sem_eq_zero_of_no_sems (by decide) r.2⟩) (Cert.Reference34Ideal.Value.run (F := Ideal) m ρ)

/-- The call and the reference end with the same two arrays: the gradients of the two branches. -/
theorem algebraic : Cert.algebraic_Kernel34Ideal_Reference34Ideal := fun m g m' g' _ hargs =>
  ⟨_, _, Value.run m g, (θ_run Cert.Reference34Ideal.defs _ _).mono (fun r h c => by
    obtain ⟨e0, e1, e2⟩ := hargs c
    obtain ⟨h0, h1, hk⟩ := h c
    refine ⟨h0.trans ?_, h1.trans ?_, hk⟩
    · rw [Cert.Reference34Ideal.Read.val_main_v5_eq, e0, e1, e2]
      exact funext fun i => (reference_inner _ _ _ i).trans (inner_apply _ _ _ i).symm
    · rw [Cert.Reference34Ideal.Read.val_main_v6_eq, e0, e2]
      exact funext fun i => (reference_outer _ _ i).trans (outer_apply _ _ i).symm) (Cert.Reference34Ideal.Value.run (F := Ideal) m' g')⟩

end Cert.Kernel34Ideal.Gated

/-! ## The activations -/

namespace Cert.Kernel35Ideal.Gated

open Cert.Kernel35Ideal Cert.Kernel35Ideal.Gen Cert.Kernel35Ideal.Value Cert.Gated

instance : Cert.Kernel35.Facts := Cert.Kernel35.Gen.facts
instance : Cert.Kernel35Ideal.Facts := Cert.Kernel35Ideal.Gen.facts
instance : Cert.Reference35Ideal.Facts := Cert.Reference35Ideal.Gen.facts

variable (x0 x1 : Vec Ideal S4096x5632 .f32) (i : S4096x5632.Idx)

/-- The call's array, number by number. -/
theorem active_apply : G2 (F := Ideal) x0 x1 i = active (x0 i) (x1 i) := by
  pointwise [G2]
  rw [zero_sub]
  rfl

open Cert.Reference35Ideal.Read in
/-- The reference's array, number by number. -/
theorem reference_active : val_main_v2 (F := Ideal) x0 x1 i = active (x0 i) (x1 i) := by
  pointwise [val_main_v2, val_main_v1, val_main_v0, val_main_call0_v5, val_main_call0_v4, val_main_call0_cst_0, val_main_call0_v3,
    val_main_call0_v2, val_main_call0_cst, val_main_call0_v1, val_main_call0_v0]
  rfl

/-- The call as printed and the call as idealized have the same text. -/
theorem body_eq : Cert.Kernel35.defs₀ (F := Bits) = defs₀ (F := Bits) :=
  congrArg Defs.onTc (funext fun l => funext fun x => match l, x with | 0, (_, _) => rfl)

/-- The call as printed runs to the end. -/
theorem frame_bits : Cert.quiescent_Kernel35 := fun m ρ _ => by
  have e : Cert.Kernel35.defs (F := Bits) = defs (F := Bits) := congrArg (Pipeline.defs pcfgs) body_eq
  rw [e]; exact Gen.frame (F := Bits) m ρ

/-- The reference runs to the end. -/
theorem frame_reference : Cert.quiescent_Reference35Ideal := fun m ρ _ =>
  (θ_run Cert.Reference35Ideal.defs _ _).mono
    (fun r h => ⟨fun c => (h c).2, sem_eq_zero_of_no_sems (by decide) r.2⟩) (Cert.Reference35Ideal.Value.run (F := Ideal) m ρ)

/-- The call and the reference end with the same array: the activations. -/
theorem algebraic : Cert.algebraic_Kernel35Ideal_Reference35Ideal := fun m g m' g' _ hargs =>
  ⟨_, Value.run m g, (θ_run Cert.Reference35Ideal.defs _ _).mono (fun r h c => by
    obtain ⟨e0, e1⟩ := hargs c
    obtain ⟨h0, hk⟩ := h c
    refine ⟨h0.trans ?_, hk⟩
    rw [Cert.Reference35Ideal.Read.val_main_v2_eq, e0, e1]
    exact funext fun i => (reference_active _ _ i).trans (active_apply _ _ i).symm) (Cert.Reference35Ideal.Value.run (F := Ideal) m' g')⟩

end Cert.Kernel35Ideal.Gated

/-! ## A normalisation -/

namespace Cert.Kernel36Ideal.Gated

open Cert.Kernel36Ideal Cert.Kernel36Ideal.Gen Cert.Kernel36Ideal.Value Cert.Tile Cert.Rows

instance : Cert.Kernel36.Facts := Cert.Kernel36.Gen.facts
instance : Cert.Kernel36Ideal.Facts := Cert.Kernel36Ideal.Gen.facts
instance : Cert.Reference36Ideal.Facts := Cert.Reference36Ideal.Gen.facts

/-- What a band computes of its rows. -/
theorem rows_apply (x0 : Vec Ideal S256x2048 .f32) (x1 : Vec Ideal S1x2048 .f32) (i : Fin 256) (j : Fin 2048) :
    k0_pay1 x0 x1 (ix2 i j) = normal (row x0 i) (row x1 0) j := by
  pointwise [k0_pay1]
  rfl

open Cert.Reference36Ideal.Read in
/-- The reference's array, row by row. -/
theorem reference_rows (x0 : Vec Ideal S4096x2048 .f32) (x1 : Vec Ideal S1x2048 .f32) (a : Fin 4096) (j : Fin 2048) :
    val_main_v12 (F := Ideal) x0 x1 (ix2 a j) = normal (row x0 a) (row x1 0) j := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

variable (m : (ℓ : Loc nD τ sig) → Buf (Elt Ideal) ℓ) (c : Dev nD)

/-- A band is read from its corner. -/
theorem zeros : (![0, 0] : Fin 2 → Nat) = fun _ => 0 := funext fun a => by fin_cases a <;> rfl

/-- The bands of the residual stream. -/
theorem band : Tiled (m ((c : Thread nD τ).loc main_arg0)) (iblk m c 0) (fun t => t.val / 1) (fun _ => 0) :=
  .of (fun t => ((cfg0.win 0).blk t).view.emb) (fun t => win0_0.index t) (fun _ _ => rfl) (fun _ _ => rfl) (fun _ _ => rfl) (by decide +kernel)

/-- The gain, whole at every point. -/
theorem gain : Tiled (m ((c : Thread nD τ).loc main_arg1)) (iblk m c 1) (fun _ => 0) (fun _ => 0) :=
  .of (fun t => ((cfg0.win 1).blk t).view.emb) (fun t => win0_1.index t) (fun _ _ => rfl) (fun _ _ => rfl) (fun _ _ => rfl) (by decide +kernel)

/-- The bands of the result. -/
theorem result : Tiled ((dats m 0 c).arrAt 2 cfg0.N) (fun t => k0_pay1 (iblk m c 0 t) (iblk m c 1 t)) (fun t => t.val / 1) (fun t => t.val % 1) :=
  .of (fun t => ((cfg0.win 2).blk t).view.emb) (fun t => win0_2.index t)
    (fun t y => Eq.trans (congrFun (by
        unfold out0_2; rw [View.canon_unit_zero zeros]
        simp only [View.ld_unit_zero (S := S256x2048) zeros, View.ld_unit_zero (S := S1x2048) zeros]; rfl) y)
      ((congrFun ((blocks2 m c t (flush0_2 t)).trans (flushed2 m c t)) y).symm.trans ((View.read_apply _ _).trans (cast_eq _ _))))
    (fun _ _ => rfl) (fun _ _ => rfl) (by decide +kernel)

/-- The bands of the reference's array. -/
theorem reference : Tiled (Cert.Reference36Ideal.Read.val_main_v12 (F := Ideal) (m ((c : Thread nD τ).loc main_arg0)) (m ((c : Thread nD τ).loc main_arg1)))
    (fun t : Fin cfg0.N => k0_pay1 (iblk m c 0 t) (iblk m c 1 t)) (fun t => t.val / 1) (fun t => t.val % 1) := fun t i j a b ha hb => by
  obtain rfl : b = j := Fin.ext (by omega)
  dsimp only
  rw [rows_apply, reference_rows, row_eq (band m c) ha, whole_eq (gain m c) t]

/-- The call as printed and the call as idealized have the same text. -/
theorem body_eq : Cert.Kernel36.defs₀ (F := Bits) = defs₀ (F := Bits) :=
  congrArg Defs.onTc (funext fun l => funext fun x => match l, x with | 0, (_, _) => rfl)

/-- The call as printed runs to the end. -/
theorem frame_bits : Cert.quiescent_Kernel36 := fun m ρ _ => by
  have e : Cert.Kernel36.defs (F := Bits) = defs (F := Bits) := congrArg (Pipeline.defs pcfgs) body_eq
  rw [e]; exact Gen.frame (F := Bits) m ρ

/-- The reference runs to the end. -/
theorem frame_reference : Cert.quiescent_Reference36Ideal := fun m ρ _ =>
  (θ_run Cert.Reference36Ideal.defs _ _).mono
    (fun r h => ⟨fun c => (h c).2, sem_eq_zero_of_no_sems (by decide) r.2⟩) (Cert.Reference36Ideal.Value.run (F := Ideal) m ρ)

/-- The call and the reference end with the same array: the normalised rows. -/
theorem algebraic : Cert.algebraic_Kernel36Ideal_Reference36Ideal := fun m g m' g' _ hargs =>
  ⟨_, run_blocks m g, (θ_run Cert.Reference36Ideal.defs _ _).mono (fun r h c => by
    obtain ⟨e0, e1⟩ := hargs c
    obtain ⟨h0, hk⟩ := h c
    refine ⟨h0.trans ?_, hk⟩
    rw [Cert.Reference36Ideal.Read.val_main_v12_eq, e0, e1]
    exact Tiled.eq (p := 16) (q := 1) rfl rfl rfl (reference m c) (result m c)) (Cert.Reference36Ideal.Value.run (F := Ideal) m' g')⟩

end Cert.Kernel36Ideal.Gated

end
-- ==== Proof.lean ====
/- The proof of the certificate's claim: the frames and the value of the kernel's call, the run of the reference, and the
   equation between them, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.GradWeights
public import proofs.«01_k».proof.Proof.GradActivations
public import proofs.«01_k».proof.Proof.Vectors
public import proofs.«01_k».proof.Proof.Optimiser
public import proofs.«01_k».proof.Proof.Norm
public import proofs.«01_k».proof.Proof.Tail
public import proofs.«01_k».proof.Proof.Forward
public import proofs.«01_k».proof.Proof.ForwardArrays
public import proofs.«01_k».proof.Proof.Gated
public import Idealize.ShloMosaic.Adequacy
public import Idealize.ShloMosaic.Init

@[expose] public section

noncomputable section

namespace Cert.Proof

open Idealize.ShloMosaic Idealize.SL.Sem Cert.Kernel

/-- The reference runs, leaves its arguments unchanged and ends with no signal pending. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel's call and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Finite.facts) := by
  letI := Cert.KernelIdeal.Finite.facts
  intro m g m' g' hpre hargs
  have R := fun c => Cert.KernelIdeal.Finite.args _ _ _ _ _ _ (hpre c).1 (hpre c).2.1 (hpre c).2.2.1 (hpre c).2.2.2.1
    (hpre c).2.2.2.2.1 (hpre c).2.2.2.2.2
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run m g, ?_⟩
  refine (θ_run Cert.ReferenceIdeal.defs _ _).mono (fun r h c => ?_) (Cert.ReferenceIdeal.Value.run (F := Ideal) m' g')
  obtain ⟨h67, h62, h66, h46, h68, hrest⟩ := h c
  obtain ⟨e0, e1, e2, e3, e4, e5⟩ := hargs c
  refine ⟨h67.trans ?_, h62.trans ?_, h66.trans ?_, h46.trans ?_, h68.trans ?_, hrest⟩
  · rw [Cert.ReferenceIdeal.Read.val_main_v67_eq, e0, e1, e2, e3, e4, e5]; exact Cert.Equation.dq m c (R c) (R c)
  · rw [Cert.ReferenceIdeal.Read.val_main_v62_eq, e0, e1, e2, e3, e4, e5]; exact Cert.Equation.dcq m c (R c) (R c)
  · rw [Cert.ReferenceIdeal.Read.val_main_v66_eq, e0, e1, e2, e3, e4, e5]; exact Cert.Equation.dk m c (R c) (R c)
  · rw [Cert.ReferenceIdeal.Read.val_main_v46_eq, e0, e1, e3, e4, e5]; exact Cert.Equation.dv m c (R c) (R c)
  · rw [Cert.ReferenceIdeal.Read.val_main_v68_eq, e0, e1, e2, e3, e4, e5]; exact Cert.Equation.dck m c (R c) (R c)

/-- Everything claimed. -/
theorem claim : Cert.Claim := by
  refine ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts,
    Cert.Reference10Ideal.Gen.facts, Cert.Kernel11.Gen.facts, Cert.Kernel11Ideal.Gen.facts, Cert.Reference11Ideal.Gen.facts, Cert.Kernel12.Gen.facts,
    Cert.Kernel12Ideal.Gen.facts, Cert.Reference12Ideal.Gen.facts, Cert.Kernel13.Gen.facts, Cert.Kernel13Ideal.Gen.facts,
    Cert.Reference13Ideal.Gen.facts, Cert.Kernel14.Gen.facts, Cert.Kernel14Ideal.Gen.facts, Cert.Reference14Ideal.Gen.facts, Cert.Kernel15.Gen.facts,
    Cert.Kernel15Ideal.Gen.facts, Cert.Reference15Ideal.Gen.facts, Cert.Kernel16.Gen.facts, Cert.Kernel16Ideal.Gen.facts,
    Cert.Reference16Ideal.Gen.facts, Cert.Kernel17.Gen.facts, Cert.Kernel17Ideal.Gen.facts, Cert.Reference17Ideal.Gen.facts, Cert.Kernel18.Gen.facts,
    Cert.Kernel18Ideal.Gen.facts, Cert.Reference18Ideal.Gen.facts, Cert.Kernel19.Gen.facts, Cert.Kernel19Ideal.Gen.facts,
    Cert.Reference19Ideal.Gen.facts, Cert.Kernel20.Gen.facts, Cert.Kernel20Ideal.Gen.facts, Cert.Reference20Ideal.Gen.facts, Cert.Kernel21.Gen.facts,
    Cert.Kernel21Ideal.Gen.facts, Cert.Reference21Ideal.Gen.facts, Cert.Kernel22.Gen.facts, Cert.Kernel22Ideal.Gen.facts,
    Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.KernelIdeal.Finite.facts, Cert.Kernel33Ideal.Claims.finite_facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    Cert.Kernel2Ideal.Tiles.frame_bits, fun m ρ _ => Cert.Kernel2Ideal.Gen.frame m ρ, Cert.Kernel2Ideal.Tiles.frame_reference,
    Cert.Kernel3Ideal.Tiles.frame_bits, fun m ρ _ => Cert.Kernel3Ideal.Gen.frame m ρ, Cert.Kernel3Ideal.Tiles.frame_reference,
    Cert.Kernel4Ideal.Tiles.frame_bits, fun m ρ _ => Cert.Kernel4Ideal.Gen.frame m ρ, Cert.Kernel4Ideal.Tiles.frame_reference,
    Cert.Kernel5Ideal.Tiles.frame_bits, fun m ρ _ => Cert.Kernel5Ideal.Gen.frame m ρ, Cert.Kernel5Ideal.Tiles.frame_reference,
    Cert.Kernel6Ideal.Tiles.frame_bits, fun m ρ _ => Cert.Kernel6Ideal.Gen.frame m ρ, Cert.Kernel6Ideal.Tiles.frame_reference,
    Cert.Kernel7Ideal.Tiles.frame_bits, fun m ρ _ => Cert.Kernel7Ideal.Gen.frame m ρ, Cert.Kernel7Ideal.Tiles.frame_reference,
    Cert.Kernel8Ideal.Tiles.frame_bits, fun m ρ _ => Cert.Kernel8Ideal.Gen.frame m ρ, Cert.Kernel8Ideal.Tiles.frame_reference,
    Cert.Kernel9Ideal.Tiles.frame_bits, fun m ρ _ => Cert.Kernel9Ideal.Gen.frame m ρ, Cert.Kernel9Ideal.Tiles.frame_reference,
    Cert.Kernel10Ideal.Tiles.frame_bits, fun m ρ _ => Cert.Kernel10Ideal.Gen.frame m ρ, Cert.Kernel10Ideal.Tiles.frame_reference,
    Cert.Kernel11Ideal.Tiles.frame_bits, fun m ρ _ => Cert.Kernel11Ideal.Gen.frame m ρ, Cert.Kernel11Ideal.Tiles.frame_reference,
    Cert.Kernel12Ideal.Tiles.frame_bits, fun m ρ _ => Cert.Kernel12Ideal.Gen.frame m ρ, Cert.Kernel12Ideal.Tiles.frame_reference,
    Cert.Kernel13Ideal.Tiles.frame_bits, fun m ρ _ => Cert.Kernel13Ideal.Gen.frame m ρ, Cert.Kernel13Ideal.Tiles.frame_reference,
    Cert.Kernel14Ideal.Tiles.frame_bits, fun m ρ _ => Cert.Kernel14Ideal.Gen.frame m ρ, Cert.Kernel14Ideal.Tiles.frame_reference,
    Cert.Kernel15Ideal.Tiles.frame_bits, fun m ρ _ => Cert.Kernel15Ideal.Gen.frame m ρ, Cert.Kernel15Ideal.Tiles.frame_reference,
    Cert.Kernel16Ideal.Tiles.frame_bits, fun m ρ _ => Cert.Kernel16Ideal.Gen.frame m ρ, Cert.Kernel16Ideal.Tiles.frame_reference,
    Cert.Kernel17Ideal.Tiles.frame_bits, fun m ρ _ => Cert.Kernel17Ideal.Gen.frame m ρ, Cert.Kernel17Ideal.Tiles.frame_reference,
    Cert.Kernel18Ideal.Tiles.frame_bits, fun m ρ _ => Cert.Kernel18Ideal.Gen.frame m ρ, Cert.Kernel18Ideal.Tiles.frame_reference,
    Cert.Kernel19Ideal.Tiles.frame_bits, fun m ρ _ => Cert.Kernel19Ideal.Gen.frame m ρ, Cert.Kernel19Ideal.Tiles.frame_reference,
    Cert.Kernel20Ideal.Tiles.frame_bits, fun m ρ _ => Cert.Kernel20Ideal.Gen.frame m ρ, Cert.Kernel20Ideal.Tiles.frame_reference,
    Cert.Kernel21Ideal.Tiles.frame_bits, fun m ρ _ => Cert.Kernel21Ideal.Gen.frame m ρ, Cert.Kernel21Ideal.Tiles.frame_reference,
    Cert.Kernel22Ideal.Tiles.frame_bits, fun m ρ _ => Cert.Kernel22Ideal.Gen.frame m ρ, Cert.Kernel22Ideal.Tiles.frame_reference,
    Cert.Kernel23Ideal.Step.frame_bits, fun m ρ _ => Cert.Kernel23Ideal.Gen.frame m ρ, Cert.Kernel23Ideal.Step.frame_reference,
    Cert.Kernel24Ideal.Step.frame_bits, fun m ρ _ => Cert.Kernel24Ideal.Gen.frame m ρ, Cert.Kernel24Ideal.Step.frame_reference,
    Cert.Kernel25Ideal.Step.frame_bits, fun m ρ _ => Cert.Kernel25Ideal.Gen.frame m ρ, Cert.Kernel25Ideal.Step.frame_reference,
    Cert.Kernel26Ideal.Step.frame_bits, fun m ρ _ => Cert.Kernel26Ideal.Gen.frame m ρ, Cert.Kernel26Ideal.Step.frame_reference,
    Cert.Kernel27Ideal.Step.frame_bits, fun m ρ _ => Cert.Kernel27Ideal.Gen.frame m ρ, Cert.Kernel27Ideal.Step.frame_reference,
    Cert.Kernel28Ideal.Step.frame_bits, fun m ρ _ => Cert.Kernel28Ideal.Gen.frame m ρ, Cert.Kernel28Ideal.Step.frame_reference,
    Cert.Kernel29Ideal.Step.frame_bits, fun m ρ _ => Cert.Kernel29Ideal.Gen.frame m ρ, Cert.Kernel29Ideal.Step.frame_reference,
    Cert.Kernel30Ideal.Step.frame_bits, fun m ρ _ => Cert.Kernel30Ideal.Gen.frame m ρ, Cert.Kernel30Ideal.Step.frame_reference,
    Cert.Kernel31Ideal.Norm.frame_bits, fun m ρ _ => Cert.Kernel31Ideal.Gen.frame m ρ, Cert.Kernel31Ideal.Norm.frame_reference,
    Cert.Kernel32Ideal.Tail.frame_bits, fun m ρ _ => Cert.Kernel32Ideal.Gen.frame m ρ, Cert.Kernel32Ideal.Tail.frame_reference,
    fun m ρ _ => Cert.Kernel33.Gen.frame m ρ, fun m ρ _ => Cert.Kernel33Ideal.Gen.frame m ρ, fun m ρ _ => Cert.Kernel33Ideal.Gen.frame m ρ,
    Cert.Kernel33Ideal.Claims.reference_frame, fun m ρ _ => Cert.Kernel33Ideal.Claims.reference_frame m ρ trivial,
    Cert.Kernel34Ideal.Gated.frame_bits, fun m ρ _ => Cert.Kernel34Ideal.Gen.frame m ρ, Cert.Kernel34Ideal.Gated.frame_reference,
    Cert.Kernel35Ideal.Gated.frame_bits, fun m ρ _ => Cert.Kernel35Ideal.Gen.frame m ρ, Cert.Kernel35Ideal.Gated.frame_reference,
    Cert.Kernel36Ideal.Gated.frame_bits, fun m ρ _ => Cert.Kernel36Ideal.Gen.frame m ρ, Cert.Kernel36Ideal.Gated.frame_reference,
    ?_, algebraic,
    trivial, Cert.Kernel2Ideal.Tiles.algebraic, trivial, Cert.Kernel3Ideal.Tiles.algebraic, trivial, Cert.Kernel4Ideal.Tiles.algebraic, trivial,
    Cert.Kernel5Ideal.Tiles.algebraic, trivial, Cert.Kernel6Ideal.Tiles.algebraic, trivial, Cert.Kernel7Ideal.Tiles.algebraic, trivial,
    Cert.Kernel8Ideal.Tiles.algebraic, trivial, Cert.Kernel9Ideal.Tiles.algebraic, trivial, Cert.Kernel10Ideal.Tiles.algebraic, trivial,
    Cert.Kernel11Ideal.Tiles.algebraic, trivial, Cert.Kernel12Ideal.Tiles.algebraic, trivial, Cert.Kernel13Ideal.Tiles.algebraic, trivial,
    Cert.Kernel14Ideal.Tiles.algebraic, trivial, Cert.Kernel15Ideal.Tiles.algebraic, trivial, Cert.Kernel16Ideal.Tiles.algebraic, trivial,
    Cert.Kernel17Ideal.Tiles.algebraic, trivial, Cert.Kernel18Ideal.Tiles.algebraic, trivial, Cert.Kernel19Ideal.Tiles.algebraic, trivial,
    Cert.Kernel20Ideal.Tiles.algebraic, trivial, Cert.Kernel21Ideal.Tiles.algebraic, trivial, Cert.Kernel22Ideal.Tiles.algebraic,
    trivial, Cert.Kernel23Ideal.Step.algebraic,
    trivial, Cert.Kernel24Ideal.Step.algebraic,
    trivial, Cert.Kernel25Ideal.Step.algebraic,
    trivial, Cert.Kernel26Ideal.Step.algebraic,
    trivial, Cert.Kernel27Ideal.Step.algebraic,
    trivial, Cert.Kernel28Ideal.Step.algebraic,
    trivial, Cert.Kernel29Ideal.Step.algebraic,
    trivial, Cert.Kernel30Ideal.Step.algebraic,
    trivial, Cert.Kernel31Ideal.Norm.algebraic,
    trivial, Cert.Kernel32Ideal.Tail.algebraic,
    ?_, Cert.Kernel33Ideal.Claims.algebraic,
    trivial, Cert.Kernel34Ideal.Gated.algebraic,
    trivial, Cert.Kernel35Ideal.Gated.algebraic,
    trivial, Cert.Kernel36Ideal.Gated.algebraic⟩
  · exact IdealRules.named_const.statement Cert.KernelIdeal.κ "mask" .f32 0xF149F2CA#32 ⊥ rfl
  · exact IdealRules.named_const.statement Cert.Kernel33Ideal.κ "mask" .f32 0xF149F2CA#32 ⊥ rfl

end Cert.Proof

end
